-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S4096x8192 : Shape := ⟨2, ![4096, 8192]⟩
abbrev S2x64x8192 : Shape := ⟨3, ![2, 64, 8192]⟩
abbrev S2 : Shape := ⟨1, ![2]⟩
abbrev S_ : Shape := ⟨0, ![]⟩
abbrev S64x128 : Shape := ⟨2, ![64, 128]⟩
abbrev S64x8192 : Shape := ⟨2, ![64, 8192]⟩
abbrev S1x64x8192 : Shape := ⟨3, ![1, 64, 8192]⟩
abbrev S1 : Shape := ⟨1, ![1]⟩

abbrev nBuf : Space → Nat
  | .hbm => 3
  | .vmem => 10
  | .smem => 0
  | _ => 0

abbrev bufTy : (tb : Table) → Fin (tcTables nBuf tb) → BufTy
  | .hbm, ⟨0, _⟩ => ⟨S4096x128, .bf16⟩
  | .hbm, ⟨1, _⟩ => ⟨S128x8192, .bf16⟩
  | .hbm, ⟨2, _⟩ => ⟨S4096x8192, .f32⟩
  | .local _ .vmem, ⟨0, _⟩ => ⟨S4096x128, .bf16⟩
  | .local _ .vmem, ⟨1, _⟩ => ⟨S128x8192, .bf16⟩
  | .local _ .vmem, ⟨2, _⟩ => ⟨S4096x128, .bf16⟩
  | .local _ .vmem, ⟨3, _⟩ => ⟨S128x8192, .bf16⟩
  | .local _ .vmem, ⟨4, _⟩ => ⟨S2x64x8192, .bf16⟩
  | .local _ .vmem, ⟨5, _⟩ => ⟨S2x64x8192, .bf16⟩
  | .local _ .vmem, ⟨6, _⟩ => ⟨S2x64x8192, .bf16⟩
  | .local _ .vmem, ⟨7, _⟩ => ⟨S2x64x8192, .bf16⟩
  | .local _ .vmem, ⟨8, _⟩ => ⟨S2x64x8192, .f32⟩
  | .local _ .vmem, ⟨9, _⟩ => ⟨S2x64x8192, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 3 → Bool
  | ⟨0, _⟩ => true
  | ⟨1, _⟩ => true
  | ⟨2, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 3 14 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_26 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v40 : BitVec 32 := Scalar.muli v2 c128_i32
  let v41 : BitVec 32 := Scalar.addi v40 c0_i32_26
  let v42 : Index := Scalar.indexCast v41
  let c0_27 : Index := 0#32
  ![v42.toNat, 0]
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_45 : BitVec 32 := 1#32
  let v60 : BitVec 32 := Scalar.muli v24 c1_i32_45
  let v61 : BitVec 32 := Scalar.addi c0_i32_46 v60
  v61.toNat
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_55 : BitVec 32 := 1#32
  let v70 : BitVec 32 := Scalar.muli v13 c1_i32_55
  let v71 : BitVec 32 := Scalar.addi c0_i32_56 v70
  v71.toNat
def k0_off2 (d0 : Dev nD) (c0_i32_61 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v80 : BitVec 32 := Scalar.subi v2 c0_i32_61
  let c1_i32_62 : BitVec 32 := 1#32
  let v81 : BitVec 32 := Scalar.subi v80 c1_i32_62
  let c32_i32_63 : BitVec 32 := 32#32
  let c0_i32_64 : BitVec 32 := 0#32
  let v82 : BitVec 1 := Scalar.cmpi .eq c32_i32_63 c0_i32_64
  let c1_i32_65 : BitVec 32 := 1#32
  let v83 : BitVec 32 := Scalar.select v82 c1_i32_65 c32_i32_63
  let v84 : BitVec 32 := Scalar.remsi v81 v83
  let c0_i32_67 : BitVec 32 := 0#32
  let v86 : BitVec 1 := Scalar.cmpi .slt v84 c0_i32_67
  let c0_i32_68 : BitVec 32 := 0#32
  let v87 : BitVec 1 := Scalar.cmpi .slt v83 c0_i32_68
  let v88 : BitVec 1 := Scalar.xori v86 v87
  let c0_i32_66 : BitVec 32 := 0#32
  let v85 : BitVec 1 := Scalar.cmpi .ne v84 c0_i32_66
  let v89 : BitVec 1 := Scalar.andi v88 v85
  let v90 : BitVec 32 := Scalar.addi v84 v83
  let v91 : BitVec 32 := Scalar.select v89 v90 v84
  let c128_i32_77 : BitVec 32 := 128#32
  let v104 : BitVec 32 := Scalar.muli v91 c128_i32_77
  let c0_i32_78 : BitVec 32 := 0#32
  let v105 : BitVec 32 := Scalar.addi v104 c0_i32_78
  let v106 : Index := Scalar.indexCast v105
  let c0_79 : Index := 0#32
  ![v106.toNat, 0]
def k0_off3 (d0 : Dev nD) (c0_i32_69 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v92 : BitVec 32 := Scalar.addi v2 c0_i32_69
  let c1_i32_70 : BitVec 32 := 1#32
  let v93 : BitVec 32 := Scalar.addi v92 c1_i32_70
  let c32_i32_71 : BitVec 32 := 32#32
  let c0_i32_72 : BitVec 32 := 0#32
  let v94 : BitVec 1 := Scalar.cmpi .eq c32_i32_71 c0_i32_72
  let c1_i32_73 : BitVec 32 := 1#32
  let v95 : BitVec 32 := Scalar.select v94 c1_i32_73 c32_i32_71
  let v96 : BitVec 32 := Scalar.remsi v93 v95
  let c0_i32_75 : BitVec 32 := 0#32
  let v98 : BitVec 1 := Scalar.cmpi .slt v96 c0_i32_75
  let c0_i32_76 : BitVec 32 := 0#32
  let v99 : BitVec 1 := Scalar.cmpi .slt v95 c0_i32_76
  let v100 : BitVec 1 := Scalar.xori v98 v99
  let c0_i32_74 : BitVec 32 := 0#32
  let v97 : BitVec 1 := Scalar.cmpi .ne v96 c0_i32_74
  let v101 : BitVec 1 := Scalar.andi v100 v97
  let v102 : BitVec 32 := Scalar.addi v96 v95
  let v103 : BitVec 32 := Scalar.select v101 v102 v96
  let c128_i32_83 : BitVec 32 := 128#32
  let v110 : BitVec 32 := Scalar.muli v103 c128_i32_83
  let c64_i32_84 : BitVec 32 := 64#32
  let v111 : BitVec 32 := Scalar.addi v110 c64_i32_84
  let v112 : Index := Scalar.indexCast v111
  let c0_85 : Index := 0#32
  ![v112.toNat, 0]
def k0_dev5 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_139 : BitVec 32 := 1#32
  let v160 : BitVec 32 := Scalar.muli v13 c1_i32_139
  let v161 : BitVec 32 := Scalar.addi c0_i32_140 v160
  v161.toNat
def k0_dev6 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_142 : BitVec 32 := 1#32
  let v162 : BitVec 32 := Scalar.muli v24 c1_i32_142
  let v163 : BitVec 32 := Scalar.addi c0_i32_143 v162
  v163.toNat
def k0_dev7 (d0 : Dev nD) : Nat :=
  let c0_i32_149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_148 : BitVec 32 := 1#32
  let v164 : BitVec 32 := Scalar.muli v24 c1_i32_148
  let v165 : BitVec 32 := Scalar.addi c0_i32_149 v164
  v165.toNat
def k0_dev8 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_158 : BitVec 32 := 1#32
  let v174 : BitVec 32 := Scalar.muli v13 c1_i32_158
  let v175 : BitVec 32 := Scalar.addi c0_i32_159 v174
  v175.toNat
def k0_dev9 (d0 : Dev nD) : Nat :=
  let c0_i32_244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_243 : BitVec 32 := 1#32
  let v264 : BitVec 32 := Scalar.muli v13 c1_i32_243
  let v265 : BitVec 32 := Scalar.addi c0_i32_244 v264
  v265.toNat
def k0_dev10 (d0 : Dev nD) : Nat :=
  let c0_i32_247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_246 : BitVec 32 := 1#32
  let v266 : BitVec 32 := Scalar.muli v24 c1_i32_246
  let v267 : BitVec 32 := Scalar.addi c0_i32_247 v266
  v267.toNat
def k0_dev11 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_256 : BitVec 32 := 1#32
  let v268 : BitVec 32 := Scalar.muli v24 c1_i32_256
  let v269 : BitVec 32 := Scalar.addi c0_i32_257 v268
  v269.toNat
def k0_dev12 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_266 : BitVec 32 := 1#32
  let v278 : BitVec 32 := Scalar.muli v13 c1_i32_266
  let v279 : BitVec 32 := Scalar.addi c0_i32_267 v278
  v279.toNat
def k0_dev13 (d0 : Dev nD) : Nat :=
  let c0_i32_352 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_351 : BitVec 32 := 1#32
  let v368 : BitVec 32 := Scalar.muli v13 c1_i32_351
  let v369 : BitVec 32 := Scalar.addi c0_i32_352 v368
  v369.toNat
def k0_dev14 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_354 : BitVec 32 := 1#32
  let v370 : BitVec 32 := Scalar.muli v24 c1_i32_354
  let v371 : BitVec 32 := Scalar.addi c0_i32_355 v370
  v371.toNat
def k0_dev15 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_364 : BitVec 32 := 1#32
  let v372 : BitVec 32 := Scalar.muli v24 c1_i32_364
  let v373 : BitVec 32 := Scalar.addi c0_i32_365 v372
  v373.toNat
def k0_dev16 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_374 : BitVec 32 := 1#32
  let v382 : BitVec 32 := Scalar.muli v13 c1_i32_374
  let v383 : BitVec 32 := Scalar.addi c0_i32_375 v382
  v383.toNat
def k0_dev17 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_458 : BitVec 32 := 1#32
  let v472 : BitVec 32 := Scalar.muli v13 c1_i32_458
  let v473 : BitVec 32 := Scalar.addi c0_i32_459 v472
  v473.toNat
def k0_dev18 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_461 : BitVec 32 := 1#32
  let v474 : BitVec 32 := Scalar.muli v24 c1_i32_461
  let v475 : BitVec 32 := Scalar.addi c0_i32_462 v474
  v475.toNat
def k0_dev19 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_471 : BitVec 32 := 1#32
  let v476 : BitVec 32 := Scalar.muli v24 c1_i32_471
  let v477 : BitVec 32 := Scalar.addi c0_i32_472 v476
  v477.toNat
def k0_dev20 (d0 : Dev nD) : Nat :=
  let c0_i32_482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_481 : BitVec 32 := 1#32
  let v486 : BitVec 32 := Scalar.muli v13 c1_i32_481
  let v487 : BitVec 32 := Scalar.addi c0_i32_482 v486
  v487.toNat
def k0_dev21 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_565 : BitVec 32 := 1#32
  let v576 : BitVec 32 := Scalar.muli v13 c1_i32_565
  let v577 : BitVec 32 := Scalar.addi c0_i32_566 v576
  v577.toNat
def k0_dev22 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_568 : BitVec 32 := 1#32
  let v578 : BitVec 32 := Scalar.muli v24 c1_i32_568
  let v579 : BitVec 32 := Scalar.addi c0_i32_569 v578
  v579.toNat
def k0_dev23 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_578 : BitVec 32 := 1#32
  let v580 : BitVec 32 := Scalar.muli v24 c1_i32_578
  let v581 : BitVec 32 := Scalar.addi c0_i32_579 v580
  v581.toNat
def k0_dev24 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_588 : BitVec 32 := 1#32
  let v590 : BitVec 32 := Scalar.muli v13 c1_i32_588
  let v591 : BitVec 32 := Scalar.addi c0_i32_589 v590
  v591.toNat
def k0_dev25 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_672 : BitVec 32 := 1#32
  let v680 : BitVec 32 := Scalar.muli v13 c1_i32_672
  let v681 : BitVec 32 := Scalar.addi c0_i32_673 v680
  v681.toNat
def k0_dev26 (d0 : Dev nD) : Nat :=
  let c0_i32_676 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_675 : BitVec 32 := 1#32
  let v682 : BitVec 32 := Scalar.muli v24 c1_i32_675
  let v683 : BitVec 32 := Scalar.addi c0_i32_676 v682
  v683.toNat
def k0_dev27 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_685 : BitVec 32 := 1#32
  let v684 : BitVec 32 := Scalar.muli v24 c1_i32_685
  let v685 : BitVec 32 := Scalar.addi c0_i32_686 v684
  v685.toNat
def k0_dev28 (d0 : Dev nD) : Nat :=
  let c0_i32_696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_695 : BitVec 32 := 1#32
  let v694 : BitVec 32 := Scalar.muli v13 c1_i32_695
  let v695 : BitVec 32 := Scalar.addi c0_i32_696 v694
  v695.toNat
def k0_dev29 (d0 : Dev nD) : Nat :=
  let c0_i32_780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_779 : BitVec 32 := 1#32
  let v784 : BitVec 32 := Scalar.muli v13 c1_i32_779
  let v785 : BitVec 32 := Scalar.addi c0_i32_780 v784
  v785.toNat
def k0_dev30 (d0 : Dev nD) : Nat :=
  let c0_i32_783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_782 : BitVec 32 := 1#32
  let v786 : BitVec 32 := Scalar.muli v24 c1_i32_782
  let v787 : BitVec 32 := Scalar.addi c0_i32_783 v786
  v787.toNat
def k0_dev31 (d0 : Dev nD) : Nat :=
  let c0_i32_793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_792 : BitVec 32 := 1#32
  let v788 : BitVec 32 := Scalar.muli v24 c1_i32_792
  let v789 : BitVec 32 := Scalar.addi c0_i32_793 v788
  v789.toNat
def k0_dev32 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_802 : BitVec 32 := 1#32
  let v798 : BitVec 32 := Scalar.muli v13 c1_i32_802
  let v799 : BitVec 32 := Scalar.addi c0_i32_803 v798
  v799.toNat
def k0_dev33 (d0 : Dev nD) : Nat :=
  let c0_i32_887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_886 : BitVec 32 := 1#32
  let v888 : BitVec 32 := Scalar.muli v13 c1_i32_886
  let v889 : BitVec 32 := Scalar.addi c0_i32_887 v888
  v889.toNat
def k0_dev34 (d0 : Dev nD) : Nat :=
  let c0_i32_890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_889 : BitVec 32 := 1#32
  let v890 : BitVec 32 := Scalar.muli v24 c1_i32_889
  let v891 : BitVec 32 := Scalar.addi c0_i32_890 v890
  v891.toNat
def k0_dev35 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_899 : BitVec 32 := 1#32
  let v892 : BitVec 32 := Scalar.muli v24 c1_i32_899
  let v893 : BitVec 32 := Scalar.addi c0_i32_900 v892
  v893.toNat
def k0_dev36 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_909 : BitVec 32 := 1#32
  let v902 : BitVec 32 := Scalar.muli v13 c1_i32_909
  let v903 : BitVec 32 := Scalar.addi c0_i32_910 v902
  v903.toNat
def k0_dev37 (d0 : Dev nD) : Nat :=
  let c0_i32_994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_993 : BitVec 32 := 1#32
  let v992 : BitVec 32 := Scalar.muli v13 c1_i32_993
  let v993 : BitVec 32 := Scalar.addi c0_i32_994 v992
  v993.toNat
def k0_dev38 (d0 : Dev nD) : Nat :=
  let c0_i32_997 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_996 : BitVec 32 := 1#32
  let v994 : BitVec 32 := Scalar.muli v24 c1_i32_996
  let v995 : BitVec 32 := Scalar.addi c0_i32_997 v994
  v995.toNat
def k0_dev39 (d0 : Dev nD) : Nat :=
  let c0_i32_1007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1006 : BitVec 32 := 1#32
  let v996 : BitVec 32 := Scalar.muli v24 c1_i32_1006
  let v997 : BitVec 32 := Scalar.addi c0_i32_1007 v996
  v997.toNat
def k0_dev40 (d0 : Dev nD) : Nat :=
  let c0_i32_1017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1016 : BitVec 32 := 1#32
  let v1006 : BitVec 32 := Scalar.muli v13 c1_i32_1016
  let v1007 : BitVec 32 := Scalar.addi c0_i32_1017 v1006
  v1007.toNat
def k0_dev41 (d0 : Dev nD) : Nat :=
  let c0_i32_1101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1100 : BitVec 32 := 1#32
  let v1096 : BitVec 32 := Scalar.muli v13 c1_i32_1100
  let v1097 : BitVec 32 := Scalar.addi c0_i32_1101 v1096
  v1097.toNat
def k0_dev42 (d0 : Dev nD) : Nat :=
  let c0_i32_1104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1103 : BitVec 32 := 1#32
  let v1098 : BitVec 32 := Scalar.muli v24 c1_i32_1103
  let v1099 : BitVec 32 := Scalar.addi c0_i32_1104 v1098
  v1099.toNat
def k0_dev43 (d0 : Dev nD) : Nat :=
  let c0_i32_1114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1113 : BitVec 32 := 1#32
  let v1100 : BitVec 32 := Scalar.muli v24 c1_i32_1113
  let v1101 : BitVec 32 := Scalar.addi c0_i32_1114 v1100
  v1101.toNat
def k0_dev44 (d0 : Dev nD) : Nat :=
  let c0_i32_1124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1123 : BitVec 32 := 1#32
  let v1110 : BitVec 32 := Scalar.muli v13 c1_i32_1123
  let v1111 : BitVec 32 := Scalar.addi c0_i32_1124 v1110
  v1111.toNat
def k0_dev45 (d0 : Dev nD) : Nat :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1207 : BitVec 32 := 1#32
  let v1200 : BitVec 32 := Scalar.muli v13 c1_i32_1207
  let v1201 : BitVec 32 := Scalar.addi c0_i32_1208 v1200
  v1201.toNat
def k0_dev46 (d0 : Dev nD) : Nat :=
  let c0_i32_1211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1210 : BitVec 32 := 1#32
  let v1202 : BitVec 32 := Scalar.muli v24 c1_i32_1210
  let v1203 : BitVec 32 := Scalar.addi c0_i32_1211 v1202
  v1203.toNat
def k0_dev47 (d0 : Dev nD) : Nat :=
  let c0_i32_1221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1220 : BitVec 32 := 1#32
  let v1204 : BitVec 32 := Scalar.muli v24 c1_i32_1220
  let v1205 : BitVec 32 := Scalar.addi c0_i32_1221 v1204
  v1205.toNat
def k0_dev48 (d0 : Dev nD) : Nat :=
  let c0_i32_1231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1230 : BitVec 32 := 1#32
  let v1214 : BitVec 32 := Scalar.muli v13 c1_i32_1230
  let v1215 : BitVec 32 := Scalar.addi c0_i32_1231 v1214
  v1215.toNat
def k0_dev49 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1314 : BitVec 32 := 1#32
  let v1304 : BitVec 32 := Scalar.muli v13 c1_i32_1314
  let v1305 : BitVec 32 := Scalar.addi c0_i32_1315 v1304
  v1305.toNat
def k0_dev50 (d0 : Dev nD) : Nat :=
  let c0_i32_1318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1317 : BitVec 32 := 1#32
  let v1306 : BitVec 32 := Scalar.muli v24 c1_i32_1317
  let v1307 : BitVec 32 := Scalar.addi c0_i32_1318 v1306
  v1307.toNat
def k0_dev51 (d0 : Dev nD) : Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1327 : BitVec 32 := 1#32
  let v1308 : BitVec 32 := Scalar.muli v24 c1_i32_1327
  let v1309 : BitVec 32 := Scalar.addi c0_i32_1328 v1308
  v1309.toNat
def k0_dev52 (d0 : Dev nD) : Nat :=
  let c0_i32_1338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1337 : BitVec 32 := 1#32
  let v1318 : BitVec 32 := Scalar.muli v13 c1_i32_1337
  let v1319 : BitVec 32 := Scalar.addi c0_i32_1338 v1318
  v1319.toNat
def k0_dev53 (d0 : Dev nD) : Nat :=
  let c0_i32_1422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1421 : BitVec 32 := 1#32
  let v1408 : BitVec 32 := Scalar.muli v13 c1_i32_1421
  let v1409 : BitVec 32 := Scalar.addi c0_i32_1422 v1408
  v1409.toNat
def k0_dev54 (d0 : Dev nD) : Nat :=
  let c0_i32_1425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1424 : BitVec 32 := 1#32
  let v1410 : BitVec 32 := Scalar.muli v24 c1_i32_1424
  let v1411 : BitVec 32 := Scalar.addi c0_i32_1425 v1410
  v1411.toNat
def k0_dev55 (d0 : Dev nD) : Nat :=
  let c0_i32_1435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1434 : BitVec 32 := 1#32
  let v1412 : BitVec 32 := Scalar.muli v24 c1_i32_1434
  let v1413 : BitVec 32 := Scalar.addi c0_i32_1435 v1412
  v1413.toNat
def k0_dev56 (d0 : Dev nD) : Nat :=
  let c0_i32_1445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1444 : BitVec 32 := 1#32
  let v1422 : BitVec 32 := Scalar.muli v13 c1_i32_1444
  let v1423 : BitVec 32 := Scalar.addi c0_i32_1445 v1422
  v1423.toNat
def k0_dev57 (d0 : Dev nD) : Nat :=
  let c0_i32_1529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1528 : BitVec 32 := 1#32
  let v1512 : BitVec 32 := Scalar.muli v13 c1_i32_1528
  let v1513 : BitVec 32 := Scalar.addi c0_i32_1529 v1512
  v1513.toNat
def k0_dev58 (d0 : Dev nD) : Nat :=
  let c0_i32_1532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1531 : BitVec 32 := 1#32
  let v1514 : BitVec 32 := Scalar.muli v24 c1_i32_1531
  let v1515 : BitVec 32 := Scalar.addi c0_i32_1532 v1514
  v1515.toNat
def k0_dev59 (d0 : Dev nD) : Nat :=
  let c0_i32_1542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1541 : BitVec 32 := 1#32
  let v1516 : BitVec 32 := Scalar.muli v24 c1_i32_1541
  let v1517 : BitVec 32 := Scalar.addi c0_i32_1542 v1516
  v1517.toNat
def k0_dev60 (d0 : Dev nD) : Nat :=
  let c0_i32_1552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1551 : BitVec 32 := 1#32
  let v1526 : BitVec 32 := Scalar.muli v13 c1_i32_1551
  let v1527 : BitVec 32 := Scalar.addi c0_i32_1552 v1526
  v1527.toNat
def k0_dev61 (d0 : Dev nD) : Nat :=
  let c0_i32_1636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1635 : BitVec 32 := 1#32
  let v1616 : BitVec 32 := Scalar.muli v13 c1_i32_1635
  let v1617 : BitVec 32 := Scalar.addi c0_i32_1636 v1616
  v1617.toNat
def k0_dev62 (d0 : Dev nD) : Nat :=
  let c0_i32_1639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1638 : BitVec 32 := 1#32
  let v1618 : BitVec 32 := Scalar.muli v24 c1_i32_1638
  let v1619 : BitVec 32 := Scalar.addi c0_i32_1639 v1618
  v1619.toNat
def k0_dev63 (d0 : Dev nD) : Nat :=
  let c0_i32_1649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1648 : BitVec 32 := 1#32
  let v1620 : BitVec 32 := Scalar.muli v24 c1_i32_1648
  let v1621 : BitVec 32 := Scalar.addi c0_i32_1649 v1620
  v1621.toNat
def k0_dev64 (d0 : Dev nD) : Nat :=
  let c0_i32_1659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1658 : BitVec 32 := 1#32
  let v1630 : BitVec 32 := Scalar.muli v13 c1_i32_1658
  let v1631 : BitVec 32 := Scalar.addi c0_i32_1659 v1630
  v1631.toNat
def k0_dev65 (d0 : Dev nD) : Nat :=
  let c0_i32_1743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1742 : BitVec 32 := 1#32
  let v1720 : BitVec 32 := Scalar.muli v13 c1_i32_1742
  let v1721 : BitVec 32 := Scalar.addi c0_i32_1743 v1720
  v1721.toNat
def k0_dev66 (d0 : Dev nD) : Nat :=
  let c0_i32_1746 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1745 : BitVec 32 := 1#32
  let v1722 : BitVec 32 := Scalar.muli v24 c1_i32_1745
  let v1723 : BitVec 32 := Scalar.addi c0_i32_1746 v1722
  v1723.toNat
def k0_dev67 (d0 : Dev nD) : Nat :=
  let c0_i32_1756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1755 : BitVec 32 := 1#32
  let v1724 : BitVec 32 := Scalar.muli v24 c1_i32_1755
  let v1725 : BitVec 32 := Scalar.addi c0_i32_1756 v1724
  v1725.toNat
def k0_dev68 (d0 : Dev nD) : Nat :=
  let c0_i32_1766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1765 : BitVec 32 := 1#32
  let v1734 : BitVec 32 := Scalar.muli v13 c1_i32_1765
  let v1735 : BitVec 32 := Scalar.addi c0_i32_1766 v1734
  v1735.toNat
def k0_dev69 (d0 : Dev nD) : Nat :=
  let c0_i32_1850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1849 : BitVec 32 := 1#32
  let v1824 : BitVec 32 := Scalar.muli v13 c1_i32_1849
  let v1825 : BitVec 32 := Scalar.addi c0_i32_1850 v1824
  v1825.toNat
def k0_dev70 (d0 : Dev nD) : Nat :=
  let c0_i32_1853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1852 : BitVec 32 := 1#32
  let v1826 : BitVec 32 := Scalar.muli v24 c1_i32_1852
  let v1827 : BitVec 32 := Scalar.addi c0_i32_1853 v1826
  v1827.toNat
def k0_dev71 (d0 : Dev nD) : Nat :=
  let c0_i32_1863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1862 : BitVec 32 := 1#32
  let v1828 : BitVec 32 := Scalar.muli v24 c1_i32_1862
  let v1829 : BitVec 32 := Scalar.addi c0_i32_1863 v1828
  v1829.toNat
def k0_dev72 (d0 : Dev nD) : Nat :=
  let c0_i32_1873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1872 : BitVec 32 := 1#32
  let v1838 : BitVec 32 := Scalar.muli v13 c1_i32_1872
  let v1839 : BitVec 32 := Scalar.addi c0_i32_1873 v1838
  v1839.toNat
def k0_dev73 (d0 : Dev nD) : Nat :=
  let c0_i32_1957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1956 : BitVec 32 := 1#32
  let v1928 : BitVec 32 := Scalar.muli v13 c1_i32_1956
  let v1929 : BitVec 32 := Scalar.addi c0_i32_1957 v1928
  v1929.toNat
def k0_dev74 (d0 : Dev nD) : Nat :=
  let c0_i32_1960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1959 : BitVec 32 := 1#32
  let v1930 : BitVec 32 := Scalar.muli v24 c1_i32_1959
  let v1931 : BitVec 32 := Scalar.addi c0_i32_1960 v1930
  v1931.toNat
def k0_dev75 (d0 : Dev nD) : Nat :=
  let c0_i32_1970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1969 : BitVec 32 := 1#32
  let v1932 : BitVec 32 := Scalar.muli v24 c1_i32_1969
  let v1933 : BitVec 32 := Scalar.addi c0_i32_1970 v1932
  v1933.toNat
def k0_dev76 (d0 : Dev nD) : Nat :=
  let c0_i32_1980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1979 : BitVec 32 := 1#32
  let v1942 : BitVec 32 := Scalar.muli v13 c1_i32_1979
  let v1943 : BitVec 32 := Scalar.addi c0_i32_1980 v1942
  v1943.toNat
def k0_dev77 (d0 : Dev nD) : Nat :=
  let c0_i32_2064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2063 : BitVec 32 := 1#32
  let v2032 : BitVec 32 := Scalar.muli v13 c1_i32_2063
  let v2033 : BitVec 32 := Scalar.addi c0_i32_2064 v2032
  v2033.toNat
def k0_dev78 (d0 : Dev nD) : Nat :=
  let c0_i32_2067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2066 : BitVec 32 := 1#32
  let v2034 : BitVec 32 := Scalar.muli v24 c1_i32_2066
  let v2035 : BitVec 32 := Scalar.addi c0_i32_2067 v2034
  v2035.toNat
def k0_dev79 (d0 : Dev nD) : Nat :=
  let c0_i32_2077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2076 : BitVec 32 := 1#32
  let v2036 : BitVec 32 := Scalar.muli v24 c1_i32_2076
  let v2037 : BitVec 32 := Scalar.addi c0_i32_2077 v2036
  v2037.toNat
def k0_dev80 (d0 : Dev nD) : Nat :=
  let c0_i32_2087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2086 : BitVec 32 := 1#32
  let v2046 : BitVec 32 := Scalar.muli v13 c1_i32_2086
  let v2047 : BitVec 32 := Scalar.addi c0_i32_2087 v2046
  v2047.toNat
def k0_dev81 (d0 : Dev nD) : Nat :=
  let c0_i32_2171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2170 : BitVec 32 := 1#32
  let v2136 : BitVec 32 := Scalar.muli v13 c1_i32_2170
  let v2137 : BitVec 32 := Scalar.addi c0_i32_2171 v2136
  v2137.toNat
def k0_dev82 (d0 : Dev nD) : Nat :=
  let c0_i32_2174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2173 : BitVec 32 := 1#32
  let v2138 : BitVec 32 := Scalar.muli v24 c1_i32_2173
  let v2139 : BitVec 32 := Scalar.addi c0_i32_2174 v2138
  v2139.toNat
def k0_dev83 (d0 : Dev nD) : Nat :=
  let c0_i32_2184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2183 : BitVec 32 := 1#32
  let v2140 : BitVec 32 := Scalar.muli v24 c1_i32_2183
  let v2141 : BitVec 32 := Scalar.addi c0_i32_2184 v2140
  v2141.toNat
def k0_dev84 (d0 : Dev nD) : Nat :=
  let c0_i32_2194 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2193 : BitVec 32 := 1#32
  let v2150 : BitVec 32 := Scalar.muli v13 c1_i32_2193
  let v2151 : BitVec 32 := Scalar.addi c0_i32_2194 v2150
  v2151.toNat
def k0_dev85 (d0 : Dev nD) : Nat :=
  let c0_i32_2278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2277 : BitVec 32 := 1#32
  let v2240 : BitVec 32 := Scalar.muli v13 c1_i32_2277
  let v2241 : BitVec 32 := Scalar.addi c0_i32_2278 v2240
  v2241.toNat
def k0_dev86 (d0 : Dev nD) : Nat :=
  let c0_i32_2281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2280 : BitVec 32 := 1#32
  let v2242 : BitVec 32 := Scalar.muli v24 c1_i32_2280
  let v2243 : BitVec 32 := Scalar.addi c0_i32_2281 v2242
  v2243.toNat
def k0_dev87 (d0 : Dev nD) : Nat :=
  let c0_i32_2291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2290 : BitVec 32 := 1#32
  let v2244 : BitVec 32 := Scalar.muli v24 c1_i32_2290
  let v2245 : BitVec 32 := Scalar.addi c0_i32_2291 v2244
  v2245.toNat
def k0_dev88 (d0 : Dev nD) : Nat :=
  let c0_i32_2301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2300 : BitVec 32 := 1#32
  let v2254 : BitVec 32 := Scalar.muli v13 c1_i32_2300
  let v2255 : BitVec 32 := Scalar.addi c0_i32_2301 v2254
  v2255.toNat
def k0_dev89 (d0 : Dev nD) : Nat :=
  let c0_i32_2385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2384 : BitVec 32 := 1#32
  let v2344 : BitVec 32 := Scalar.muli v13 c1_i32_2384
  let v2345 : BitVec 32 := Scalar.addi c0_i32_2385 v2344
  v2345.toNat
def k0_dev90 (d0 : Dev nD) : Nat :=
  let c0_i32_2388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2387 : BitVec 32 := 1#32
  let v2346 : BitVec 32 := Scalar.muli v24 c1_i32_2387
  let v2347 : BitVec 32 := Scalar.addi c0_i32_2388 v2346
  v2347.toNat
def k0_dev91 (d0 : Dev nD) : Nat :=
  let c0_i32_2398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2397 : BitVec 32 := 1#32
  let v2348 : BitVec 32 := Scalar.muli v24 c1_i32_2397
  let v2349 : BitVec 32 := Scalar.addi c0_i32_2398 v2348
  v2349.toNat
def k0_dev92 (d0 : Dev nD) : Nat :=
  let c0_i32_2408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2407 : BitVec 32 := 1#32
  let v2358 : BitVec 32 := Scalar.muli v13 c1_i32_2407
  let v2359 : BitVec 32 := Scalar.addi c0_i32_2408 v2358
  v2359.toNat
def k0_dev93 (d0 : Dev nD) : Nat :=
  let c0_i32_2492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2491 : BitVec 32 := 1#32
  let v2448 : BitVec 32 := Scalar.muli v13 c1_i32_2491
  let v2449 : BitVec 32 := Scalar.addi c0_i32_2492 v2448
  v2449.toNat
def k0_dev94 (d0 : Dev nD) : Nat :=
  let c0_i32_2495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2494 : BitVec 32 := 1#32
  let v2450 : BitVec 32 := Scalar.muli v24 c1_i32_2494
  let v2451 : BitVec 32 := Scalar.addi c0_i32_2495 v2450
  v2451.toNat
def k0_dev95 (d0 : Dev nD) : Nat :=
  let c0_i32_2505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2504 : BitVec 32 := 1#32
  let v2452 : BitVec 32 := Scalar.muli v24 c1_i32_2504
  let v2453 : BitVec 32 := Scalar.addi c0_i32_2505 v2452
  v2453.toNat
def k0_dev96 (d0 : Dev nD) : Nat :=
  let c0_i32_2515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2514 : BitVec 32 := 1#32
  let v2462 : BitVec 32 := Scalar.muli v13 c1_i32_2514
  let v2463 : BitVec 32 := Scalar.addi c0_i32_2515 v2462
  v2463.toNat
def k0_dev97 (d0 : Dev nD) : Nat :=
  let c0_i32_2599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2598 : BitVec 32 := 1#32
  let v2552 : BitVec 32 := Scalar.muli v13 c1_i32_2598
  let v2553 : BitVec 32 := Scalar.addi c0_i32_2599 v2552
  v2553.toNat
def k0_dev98 (d0 : Dev nD) : Nat :=
  let c0_i32_2602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2601 : BitVec 32 := 1#32
  let v2554 : BitVec 32 := Scalar.muli v24 c1_i32_2601
  let v2555 : BitVec 32 := Scalar.addi c0_i32_2602 v2554
  v2555.toNat
def k0_dev99 (d0 : Dev nD) : Nat :=
  let c0_i32_2612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2611 : BitVec 32 := 1#32
  let v2556 : BitVec 32 := Scalar.muli v24 c1_i32_2611
  let v2557 : BitVec 32 := Scalar.addi c0_i32_2612 v2556
  v2557.toNat
def k0_dev100 (d0 : Dev nD) : Nat :=
  let c0_i32_2622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2621 : BitVec 32 := 1#32
  let v2566 : BitVec 32 := Scalar.muli v13 c1_i32_2621
  let v2567 : BitVec 32 := Scalar.addi c0_i32_2622 v2566
  v2567.toNat
def k0_dev101 (d0 : Dev nD) : Nat :=
  let c0_i32_2706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2705 : BitVec 32 := 1#32
  let v2656 : BitVec 32 := Scalar.muli v13 c1_i32_2705
  let v2657 : BitVec 32 := Scalar.addi c0_i32_2706 v2656
  v2657.toNat
def k0_dev102 (d0 : Dev nD) : Nat :=
  let c0_i32_2709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2708 : BitVec 32 := 1#32
  let v2658 : BitVec 32 := Scalar.muli v24 c1_i32_2708
  let v2659 : BitVec 32 := Scalar.addi c0_i32_2709 v2658
  v2659.toNat
def k0_dev103 (d0 : Dev nD) : Nat :=
  let c0_i32_2719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2718 : BitVec 32 := 1#32
  let v2660 : BitVec 32 := Scalar.muli v24 c1_i32_2718
  let v2661 : BitVec 32 := Scalar.addi c0_i32_2719 v2660
  v2661.toNat
def k0_dev104 (d0 : Dev nD) : Nat :=
  let c0_i32_2729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2728 : BitVec 32 := 1#32
  let v2670 : BitVec 32 := Scalar.muli v13 c1_i32_2728
  let v2671 : BitVec 32 := Scalar.addi c0_i32_2729 v2670
  v2671.toNat
def k0_dev105 (d0 : Dev nD) : Nat :=
  let c0_i32_2813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2812 : BitVec 32 := 1#32
  let v2760 : BitVec 32 := Scalar.muli v13 c1_i32_2812
  let v2761 : BitVec 32 := Scalar.addi c0_i32_2813 v2760
  v2761.toNat
def k0_dev106 (d0 : Dev nD) : Nat :=
  let c0_i32_2816 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2815 : BitVec 32 := 1#32
  let v2762 : BitVec 32 := Scalar.muli v24 c1_i32_2815
  let v2763 : BitVec 32 := Scalar.addi c0_i32_2816 v2762
  v2763.toNat
def k0_dev107 (d0 : Dev nD) : Nat :=
  let c0_i32_2826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2825 : BitVec 32 := 1#32
  let v2764 : BitVec 32 := Scalar.muli v24 c1_i32_2825
  let v2765 : BitVec 32 := Scalar.addi c0_i32_2826 v2764
  v2765.toNat
def k0_dev108 (d0 : Dev nD) : Nat :=
  let c0_i32_2836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2835 : BitVec 32 := 1#32
  let v2774 : BitVec 32 := Scalar.muli v13 c1_i32_2835
  let v2775 : BitVec 32 := Scalar.addi c0_i32_2836 v2774
  v2775.toNat
def k0_dev109 (d0 : Dev nD) : Nat :=
  let c0_i32_2920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2919 : BitVec 32 := 1#32
  let v2864 : BitVec 32 := Scalar.muli v13 c1_i32_2919
  let v2865 : BitVec 32 := Scalar.addi c0_i32_2920 v2864
  v2865.toNat
def k0_dev110 (d0 : Dev nD) : Nat :=
  let c0_i32_2923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2922 : BitVec 32 := 1#32
  let v2866 : BitVec 32 := Scalar.muli v24 c1_i32_2922
  let v2867 : BitVec 32 := Scalar.addi c0_i32_2923 v2866
  v2867.toNat
def k0_dev111 (d0 : Dev nD) : Nat :=
  let c0_i32_2933 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2932 : BitVec 32 := 1#32
  let v2868 : BitVec 32 := Scalar.muli v24 c1_i32_2932
  let v2869 : BitVec 32 := Scalar.addi c0_i32_2933 v2868
  v2869.toNat
def k0_dev112 (d0 : Dev nD) : Nat :=
  let c0_i32_2943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2942 : BitVec 32 := 1#32
  let v2878 : BitVec 32 := Scalar.muli v13 c1_i32_2942
  let v2879 : BitVec 32 := Scalar.addi c0_i32_2943 v2878
  v2879.toNat
def k0_dev113 (d0 : Dev nD) : Nat :=
  let c0_i32_3027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3026 : BitVec 32 := 1#32
  let v2968 : BitVec 32 := Scalar.muli v13 c1_i32_3026
  let v2969 : BitVec 32 := Scalar.addi c0_i32_3027 v2968
  v2969.toNat
def k0_dev114 (d0 : Dev nD) : Nat :=
  let c0_i32_3030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3029 : BitVec 32 := 1#32
  let v2970 : BitVec 32 := Scalar.muli v24 c1_i32_3029
  let v2971 : BitVec 32 := Scalar.addi c0_i32_3030 v2970
  v2971.toNat
def k0_dev115 (d0 : Dev nD) : Nat :=
  let c0_i32_3040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3039 : BitVec 32 := 1#32
  let v2972 : BitVec 32 := Scalar.muli v24 c1_i32_3039
  let v2973 : BitVec 32 := Scalar.addi c0_i32_3040 v2972
  v2973.toNat
def k0_dev116 (d0 : Dev nD) : Nat :=
  let c0_i32_3050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3049 : BitVec 32 := 1#32
  let v2982 : BitVec 32 := Scalar.muli v13 c1_i32_3049
  let v2983 : BitVec 32 := Scalar.addi c0_i32_3050 v2982
  v2983.toNat
def k0_dev117 (d0 : Dev nD) : Nat :=
  let c0_i32_3134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3133 : BitVec 32 := 1#32
  let v3072 : BitVec 32 := Scalar.muli v13 c1_i32_3133
  let v3073 : BitVec 32 := Scalar.addi c0_i32_3134 v3072
  v3073.toNat
def k0_dev118 (d0 : Dev nD) : Nat :=
  let c0_i32_3137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3136 : BitVec 32 := 1#32
  let v3074 : BitVec 32 := Scalar.muli v24 c1_i32_3136
  let v3075 : BitVec 32 := Scalar.addi c0_i32_3137 v3074
  v3075.toNat
def k0_dev119 (d0 : Dev nD) : Nat :=
  let c0_i32_3147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3146 : BitVec 32 := 1#32
  let v3076 : BitVec 32 := Scalar.muli v24 c1_i32_3146
  let v3077 : BitVec 32 := Scalar.addi c0_i32_3147 v3076
  v3077.toNat
def k0_dev120 (d0 : Dev nD) : Nat :=
  let c0_i32_3157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3156 : BitVec 32 := 1#32
  let v3086 : BitVec 32 := Scalar.muli v13 c1_i32_3156
  let v3087 : BitVec 32 := Scalar.addi c0_i32_3157 v3086
  v3087.toNat
def k0_dev121 (d0 : Dev nD) : Nat :=
  let c0_i32_3241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3240 : BitVec 32 := 1#32
  let v3176 : BitVec 32 := Scalar.muli v13 c1_i32_3240
  let v3177 : BitVec 32 := Scalar.addi c0_i32_3241 v3176
  v3177.toNat
def k0_dev122 (d0 : Dev nD) : Nat :=
  let c0_i32_3244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3243 : BitVec 32 := 1#32
  let v3178 : BitVec 32 := Scalar.muli v24 c1_i32_3243
  let v3179 : BitVec 32 := Scalar.addi c0_i32_3244 v3178
  v3179.toNat
def k0_dev123 (d0 : Dev nD) : Nat :=
  let c0_i32_3254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3253 : BitVec 32 := 1#32
  let v3180 : BitVec 32 := Scalar.muli v24 c1_i32_3253
  let v3181 : BitVec 32 := Scalar.addi c0_i32_3254 v3180
  v3181.toNat
def k0_dev124 (d0 : Dev nD) : Nat :=
  let c0_i32_3264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3263 : BitVec 32 := 1#32
  let v3190 : BitVec 32 := Scalar.muli v13 c1_i32_3263
  let v3191 : BitVec 32 := Scalar.addi c0_i32_3264 v3190
  v3191.toNat
def k0_dev125 (d0 : Dev nD) : Nat :=
  let c0_i32_3348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3347 : BitVec 32 := 1#32
  let v3280 : BitVec 32 := Scalar.muli v13 c1_i32_3347
  let v3281 : BitVec 32 := Scalar.addi c0_i32_3348 v3280
  v3281.toNat
def k0_dev126 (d0 : Dev nD) : Nat :=
  let c0_i32_3351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3350 : BitVec 32 := 1#32
  let v3282 : BitVec 32 := Scalar.muli v24 c1_i32_3350
  let v3283 : BitVec 32 := Scalar.addi c0_i32_3351 v3282
  v3283.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v3200 : BitVec 32 := Scalar.subi v2 c30_i32
  let c1_i32_3269 : BitVec 32 := 1#32
  let v3201 : BitVec 32 := Scalar.subi v3200 c1_i32_3269
  let c32_i32_3270 : BitVec 32 := 32#32
  let c0_i32_3271 : BitVec 32 := 0#32
  let v3202 : BitVec 1 := Scalar.cmpi .eq c32_i32_3270 c0_i32_3271
  let c1_i32_3272 : BitVec 32 := 1#32
  let v3203 : BitVec 32 := Scalar.select v3202 c1_i32_3272 c32_i32_3270
  let v3204 : BitVec 32 := Scalar.remsi v3201 v3203
  let c0_i32_3274 : BitVec 32 := 0#32
  let v3206 : BitVec 1 := Scalar.cmpi .slt v3204 c0_i32_3274
  let c0_i32_3275 : BitVec 32 := 0#32
  let v3207 : BitVec 1 := Scalar.cmpi .slt v3203 c0_i32_3275
  let v3208 : BitVec 1 := Scalar.xori v3206 v3207
  let c0_i32_3273 : BitVec 32 := 0#32
  let v3205 : BitVec 1 := Scalar.cmpi .ne v3204 c0_i32_3273
  let v3209 : BitVec 1 := Scalar.andi v3208 v3205
  let v3210 : BitVec 32 := Scalar.addi v3204 v3203
  let v3211 : BitVec 32 := Scalar.select v3209 v3210 v3204
  let c128_i32_3352 : BitVec 32 := 128#32
  let v3284 : BitVec 32 := Scalar.muli v3211 c128_i32_3352
  let c0_i32_3360 : BitVec 32 := 0#32
  ![v3284.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3276 : BitVec 32 := 30#32
  let v3212 : BitVec 32 := Scalar.addi v2 c30_i32_3276
  let c1_i32_3277 : BitVec 32 := 1#32
  let v3213 : BitVec 32 := Scalar.addi v3212 c1_i32_3277
  let c32_i32_3278 : BitVec 32 := 32#32
  let c0_i32_3279 : BitVec 32 := 0#32
  let v3214 : BitVec 1 := Scalar.cmpi .eq c32_i32_3278 c0_i32_3279
  let c1_i32_3280 : BitVec 32 := 1#32
  let v3215 : BitVec 32 := Scalar.select v3214 c1_i32_3280 c32_i32_3278
  let v3216 : BitVec 32 := Scalar.remsi v3213 v3215
  let c0_i32_3282 : BitVec 32 := 0#32
  let v3218 : BitVec 1 := Scalar.cmpi .slt v3216 c0_i32_3282
  let c0_i32_3283 : BitVec 32 := 0#32
  let v3219 : BitVec 1 := Scalar.cmpi .slt v3215 c0_i32_3283
  let v3220 : BitVec 1 := Scalar.xori v3218 v3219
  let c0_i32_3281 : BitVec 32 := 0#32
  let v3217 : BitVec 1 := Scalar.cmpi .ne v3216 c0_i32_3281
  let v3221 : BitVec 1 := Scalar.andi v3220 v3217
  let v3222 : BitVec 32 := Scalar.addi v3216 v3215
  let v3223 : BitVec 32 := Scalar.select v3221 v3222 v3216
  let c128_i32_3353 : BitVec 32 := 128#32
  let v3285 : BitVec 32 := Scalar.muli v3223 c128_i32_3353
  let c64_i32_3354 : BitVec 32 := 64#32
  let v3286 : BitVec 32 := Scalar.addi v3285 c64_i32_3354
  let c0_i32_3368 : BitVec 32 := 0#32
  ![v3286.toNat, 0]
def k0_dev127 (d0 : Dev nD) : Nat :=
  let c0_i32_3380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3379 : BitVec 32 := 1#32
  let v3303 : BitVec 32 := Scalar.muli v24 c1_i32_3379
  let v3304 : BitVec 32 := Scalar.addi c0_i32_3380 v3303
  v3304.toNat
def k0_dev128 (d0 : Dev nD) : Nat :=
  let c0_i32_3390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3389 : BitVec 32 := 1#32
  let v3313 : BitVec 32 := Scalar.muli v13 c1_i32_3389
  let v3314 : BitVec 32 := Scalar.addi c0_i32_3390 v3313
  v3314.toNat
def k0_off6 (d0 : Dev nD) (c0_i32_3433 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3351 : BitVec 32 := Scalar.subi v2 c0_i32_3433
  let c32_i32_3434 : BitVec 32 := 32#32
  let c0_i32_3435 : BitVec 32 := 0#32
  let v3352 : BitVec 1 := Scalar.cmpi .eq c32_i32_3434 c0_i32_3435
  let c1_i32_3436 : BitVec 32 := 1#32
  let v3353 : BitVec 32 := Scalar.select v3352 c1_i32_3436 c32_i32_3434
  let v3354 : BitVec 32 := Scalar.remsi v3351 v3353
  let c0_i32_3438 : BitVec 32 := 0#32
  let v3356 : BitVec 1 := Scalar.cmpi .slt v3354 c0_i32_3438
  let c0_i32_3439 : BitVec 32 := 0#32
  let v3357 : BitVec 1 := Scalar.cmpi .slt v3353 c0_i32_3439
  let v3358 : BitVec 1 := Scalar.xori v3356 v3357
  let c0_i32_3437 : BitVec 32 := 0#32
  let v3355 : BitVec 1 := Scalar.cmpi .ne v3354 c0_i32_3437
  let v3359 : BitVec 1 := Scalar.andi v3358 v3355
  let v3360 : BitVec 32 := Scalar.addi v3354 v3353
  let v3361 : BitVec 32 := Scalar.select v3359 v3360 v3354
  let c128_i32_3453 : BitVec 32 := 128#32
  let v3379 : BitVec 32 := Scalar.muli v3361 c128_i32_3453
  let c0_i32_3461 : BitVec 32 := 0#32
  ![v3379.toNat, 0]
def k0_off7 (d0 : Dev nD) (c0_i32_3440 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3362 : BitVec 32 := Scalar.addi v2 c0_i32_3440
  let c32_i32_3441 : BitVec 32 := 32#32
  let c0_i32_3442 : BitVec 32 := 0#32
  let v3363 : BitVec 1 := Scalar.cmpi .eq c32_i32_3441 c0_i32_3442
  let c1_i32_3443 : BitVec 32 := 1#32
  let v3364 : BitVec 32 := Scalar.select v3363 c1_i32_3443 c32_i32_3441
  let v3365 : BitVec 32 := Scalar.remsi v3362 v3364
  let c0_i32_3445 : BitVec 32 := 0#32
  let v3367 : BitVec 1 := Scalar.cmpi .slt v3365 c0_i32_3445
  let c0_i32_3446 : BitVec 32 := 0#32
  let v3368 : BitVec 1 := Scalar.cmpi .slt v3364 c0_i32_3446
  let v3369 : BitVec 1 := Scalar.xori v3367 v3368
  let c0_i32_3444 : BitVec 32 := 0#32
  let v3366 : BitVec 1 := Scalar.cmpi .ne v3365 c0_i32_3444
  let v3370 : BitVec 1 := Scalar.andi v3369 v3366
  let v3371 : BitVec 32 := Scalar.addi v3365 v3364
  let v3372 : BitVec 32 := Scalar.select v3370 v3371 v3365
  let c128_i32_3454 : BitVec 32 := 128#32
  let v3380 : BitVec 32 := Scalar.muli v3372 c128_i32_3454
  let c64_i32_3455 : BitVec 32 := 64#32
  let v3381 : BitVec 32 := Scalar.addi v3380 c64_i32_3455
  let c0_i32_3469 : BitVec 32 := 0#32
  ![v3381.toNat, 0]
def k0_dev129 (d0 : Dev nD) : Nat :=
  let c0_i32_3481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3480 : BitVec 32 := 1#32
  let v3398 : BitVec 32 := Scalar.muli v24 c1_i32_3480
  let v3399 : BitVec 32 := Scalar.addi c0_i32_3481 v3398
  v3399.toNat
def k0_dev130 (d0 : Dev nD) : Nat :=
  let c0_i32_3491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3490 : BitVec 32 := 1#32
  let v3408 : BitVec 32 := Scalar.muli v13 c1_i32_3490
  let v3409 : BitVec 32 := Scalar.addi c0_i32_3491 v3408
  v3409.toNat
def k0_dev131 (d0 : Dev nD) : Nat :=
  let c0_i32_3536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3535 : BitVec 32 := 1#32
  let v3446 : BitVec 32 := Scalar.muli v13 c1_i32_3535
  let v3447 : BitVec 32 := Scalar.addi c0_i32_3536 v3446
  v3447.toNat
def k0_dev132 (d0 : Dev nD) : Nat :=
  let c0_i32_3539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3538 : BitVec 32 := 1#32
  let v3448 : BitVec 32 := Scalar.muli v24 c1_i32_3538
  let v3449 : BitVec 32 := Scalar.addi c0_i32_3539 v3448
  v3449.toNat
def k0_dev133 (d0 : Dev nD) : Nat :=
  let c0_i32_3598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3597 : BitVec 32 := 1#32
  let v3507 : BitVec 32 := Scalar.muli v24 c1_i32_3597
  let v3508 : BitVec 32 := Scalar.addi c0_i32_3598 v3507
  v3508.toNat
def k0_dev134 (d0 : Dev nD) : Nat :=
  let c0_i32_3608 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3607 : BitVec 32 := 1#32
  let v3517 : BitVec 32 := Scalar.muli v13 c1_i32_3607
  let v3518 : BitVec 32 := Scalar.addi c0_i32_3608 v3517
  v3518.toNat
def k0_dev135 (d0 : Dev nD) : Nat :=
  let c0_i32_3653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3652 : BitVec 32 := 1#32
  let v3555 : BitVec 32 := Scalar.muli v13 c1_i32_3652
  let v3556 : BitVec 32 := Scalar.addi c0_i32_3653 v3555
  v3556.toNat
def k0_dev136 (d0 : Dev nD) : Nat :=
  let c0_i32_3656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3655 : BitVec 32 := 1#32
  let v3557 : BitVec 32 := Scalar.muli v24 c1_i32_3655
  let v3558 : BitVec 32 := Scalar.addi c0_i32_3656 v3557
  v3558.toNat
def k0_dev137 (d0 : Dev nD) : Nat :=
  let c0_i32_3715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3714 : BitVec 32 := 1#32
  let v3616 : BitVec 32 := Scalar.muli v24 c1_i32_3714
  let v3617 : BitVec 32 := Scalar.addi c0_i32_3715 v3616
  v3617.toNat
def k0_dev138 (d0 : Dev nD) : Nat :=
  let c0_i32_3725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3724 : BitVec 32 := 1#32
  let v3626 : BitVec 32 := Scalar.muli v13 c1_i32_3724
  let v3627 : BitVec 32 := Scalar.addi c0_i32_3725 v3626
  v3627.toNat
def k0_dev139 (d0 : Dev nD) : Nat :=
  let c0_i32_3770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3769 : BitVec 32 := 1#32
  let v3664 : BitVec 32 := Scalar.muli v13 c1_i32_3769
  let v3665 : BitVec 32 := Scalar.addi c0_i32_3770 v3664
  v3665.toNat
def k0_dev140 (d0 : Dev nD) : Nat :=
  let c0_i32_3773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3772 : BitVec 32 := 1#32
  let v3666 : BitVec 32 := Scalar.muli v24 c1_i32_3772
  let v3667 : BitVec 32 := Scalar.addi c0_i32_3773 v3666
  v3667.toNat
def k0_dev141 (d0 : Dev nD) : Nat :=
  let c0_i32_3832 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3831 : BitVec 32 := 1#32
  let v3725 : BitVec 32 := Scalar.muli v24 c1_i32_3831
  let v3726 : BitVec 32 := Scalar.addi c0_i32_3832 v3725
  v3726.toNat
def k0_dev142 (d0 : Dev nD) : Nat :=
  let c0_i32_3842 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3841 : BitVec 32 := 1#32
  let v3735 : BitVec 32 := Scalar.muli v13 c1_i32_3841
  let v3736 : BitVec 32 := Scalar.addi c0_i32_3842 v3735
  v3736.toNat
def k0_dev143 (d0 : Dev nD) : Nat :=
  let c0_i32_3887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3886 : BitVec 32 := 1#32
  let v3773 : BitVec 32 := Scalar.muli v13 c1_i32_3886
  let v3774 : BitVec 32 := Scalar.addi c0_i32_3887 v3773
  v3774.toNat
def k0_dev144 (d0 : Dev nD) : Nat :=
  let c0_i32_3890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3889 : BitVec 32 := 1#32
  let v3775 : BitVec 32 := Scalar.muli v24 c1_i32_3889
  let v3776 : BitVec 32 := Scalar.addi c0_i32_3890 v3775
  v3776.toNat
def k0_dev145 (d0 : Dev nD) : Nat :=
  let c0_i32_3949 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3948 : BitVec 32 := 1#32
  let v3834 : BitVec 32 := Scalar.muli v24 c1_i32_3948
  let v3835 : BitVec 32 := Scalar.addi c0_i32_3949 v3834
  v3835.toNat
def k0_dev146 (d0 : Dev nD) : Nat :=
  let c0_i32_3959 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3958 : BitVec 32 := 1#32
  let v3844 : BitVec 32 := Scalar.muli v13 c1_i32_3958
  let v3845 : BitVec 32 := Scalar.addi c0_i32_3959 v3844
  v3845.toNat
def k0_dev147 (d0 : Dev nD) : Nat :=
  let c0_i32_4004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4003 : BitVec 32 := 1#32
  let v3882 : BitVec 32 := Scalar.muli v13 c1_i32_4003
  let v3883 : BitVec 32 := Scalar.addi c0_i32_4004 v3882
  v3883.toNat
def k0_dev148 (d0 : Dev nD) : Nat :=
  let c0_i32_4007 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4006 : BitVec 32 := 1#32
  let v3884 : BitVec 32 := Scalar.muli v24 c1_i32_4006
  let v3885 : BitVec 32 := Scalar.addi c0_i32_4007 v3884
  v3885.toNat
def k0_dev149 (d0 : Dev nD) : Nat :=
  let c0_i32_4066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4065 : BitVec 32 := 1#32
  let v3943 : BitVec 32 := Scalar.muli v24 c1_i32_4065
  let v3944 : BitVec 32 := Scalar.addi c0_i32_4066 v3943
  v3944.toNat
def k0_dev150 (d0 : Dev nD) : Nat :=
  let c0_i32_4076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4075 : BitVec 32 := 1#32
  let v3953 : BitVec 32 := Scalar.muli v13 c1_i32_4075
  let v3954 : BitVec 32 := Scalar.addi c0_i32_4076 v3953
  v3954.toNat
def k0_dev151 (d0 : Dev nD) : Nat :=
  let c0_i32_4121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4120 : BitVec 32 := 1#32
  let v3991 : BitVec 32 := Scalar.muli v13 c1_i32_4120
  let v3992 : BitVec 32 := Scalar.addi c0_i32_4121 v3991
  v3992.toNat
def k0_dev152 (d0 : Dev nD) : Nat :=
  let c0_i32_4124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4123 : BitVec 32 := 1#32
  let v3993 : BitVec 32 := Scalar.muli v24 c1_i32_4123
  let v3994 : BitVec 32 := Scalar.addi c0_i32_4124 v3993
  v3994.toNat
def k0_dev153 (d0 : Dev nD) : Nat :=
  let c0_i32_4183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4182 : BitVec 32 := 1#32
  let v4052 : BitVec 32 := Scalar.muli v24 c1_i32_4182
  let v4053 : BitVec 32 := Scalar.addi c0_i32_4183 v4052
  v4053.toNat
def k0_dev154 (d0 : Dev nD) : Nat :=
  let c0_i32_4193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4192 : BitVec 32 := 1#32
  let v4062 : BitVec 32 := Scalar.muli v13 c1_i32_4192
  let v4063 : BitVec 32 := Scalar.addi c0_i32_4193 v4062
  v4063.toNat
def k0_dev155 (d0 : Dev nD) : Nat :=
  let c0_i32_4238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4237 : BitVec 32 := 1#32
  let v4100 : BitVec 32 := Scalar.muli v13 c1_i32_4237
  let v4101 : BitVec 32 := Scalar.addi c0_i32_4238 v4100
  v4101.toNat
def k0_dev156 (d0 : Dev nD) : Nat :=
  let c0_i32_4241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4240 : BitVec 32 := 1#32
  let v4102 : BitVec 32 := Scalar.muli v24 c1_i32_4240
  let v4103 : BitVec 32 := Scalar.addi c0_i32_4241 v4102
  v4103.toNat
def k0_dev157 (d0 : Dev nD) : Nat :=
  let c0_i32_4300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4299 : BitVec 32 := 1#32
  let v4161 : BitVec 32 := Scalar.muli v24 c1_i32_4299
  let v4162 : BitVec 32 := Scalar.addi c0_i32_4300 v4161
  v4162.toNat
def k0_dev158 (d0 : Dev nD) : Nat :=
  let c0_i32_4310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4309 : BitVec 32 := 1#32
  let v4171 : BitVec 32 := Scalar.muli v13 c1_i32_4309
  let v4172 : BitVec 32 := Scalar.addi c0_i32_4310 v4171
  v4172.toNat
def k0_dev159 (d0 : Dev nD) : Nat :=
  let c0_i32_4355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4354 : BitVec 32 := 1#32
  let v4209 : BitVec 32 := Scalar.muli v13 c1_i32_4354
  let v4210 : BitVec 32 := Scalar.addi c0_i32_4355 v4209
  v4210.toNat
def k0_dev160 (d0 : Dev nD) : Nat :=
  let c0_i32_4358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4357 : BitVec 32 := 1#32
  let v4211 : BitVec 32 := Scalar.muli v24 c1_i32_4357
  let v4212 : BitVec 32 := Scalar.addi c0_i32_4358 v4211
  v4212.toNat
def k0_dev161 (d0 : Dev nD) : Nat :=
  let c0_i32_4417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4416 : BitVec 32 := 1#32
  let v4270 : BitVec 32 := Scalar.muli v24 c1_i32_4416
  let v4271 : BitVec 32 := Scalar.addi c0_i32_4417 v4270
  v4271.toNat
def k0_dev162 (d0 : Dev nD) : Nat :=
  let c0_i32_4427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4426 : BitVec 32 := 1#32
  let v4280 : BitVec 32 := Scalar.muli v13 c1_i32_4426
  let v4281 : BitVec 32 := Scalar.addi c0_i32_4427 v4280
  v4281.toNat
def k0_dev163 (d0 : Dev nD) : Nat :=
  let c0_i32_4472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4471 : BitVec 32 := 1#32
  let v4318 : BitVec 32 := Scalar.muli v13 c1_i32_4471
  let v4319 : BitVec 32 := Scalar.addi c0_i32_4472 v4318
  v4319.toNat
def k0_dev164 (d0 : Dev nD) : Nat :=
  let c0_i32_4475 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4474 : BitVec 32 := 1#32
  let v4320 : BitVec 32 := Scalar.muli v24 c1_i32_4474
  let v4321 : BitVec 32 := Scalar.addi c0_i32_4475 v4320
  v4321.toNat
def k0_dev165 (d0 : Dev nD) : Nat :=
  let c0_i32_4534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4533 : BitVec 32 := 1#32
  let v4379 : BitVec 32 := Scalar.muli v24 c1_i32_4533
  let v4380 : BitVec 32 := Scalar.addi c0_i32_4534 v4379
  v4380.toNat
def k0_dev166 (d0 : Dev nD) : Nat :=
  let c0_i32_4544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4543 : BitVec 32 := 1#32
  let v4389 : BitVec 32 := Scalar.muli v13 c1_i32_4543
  let v4390 : BitVec 32 := Scalar.addi c0_i32_4544 v4389
  v4390.toNat
def k0_dev167 (d0 : Dev nD) : Nat :=
  let c0_i32_4589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4588 : BitVec 32 := 1#32
  let v4427 : BitVec 32 := Scalar.muli v13 c1_i32_4588
  let v4428 : BitVec 32 := Scalar.addi c0_i32_4589 v4427
  v4428.toNat
def k0_dev168 (d0 : Dev nD) : Nat :=
  let c0_i32_4592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4591 : BitVec 32 := 1#32
  let v4429 : BitVec 32 := Scalar.muli v24 c1_i32_4591
  let v4430 : BitVec 32 := Scalar.addi c0_i32_4592 v4429
  v4430.toNat
def k0_dev169 (d0 : Dev nD) : Nat :=
  let c0_i32_4651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4650 : BitVec 32 := 1#32
  let v4488 : BitVec 32 := Scalar.muli v24 c1_i32_4650
  let v4489 : BitVec 32 := Scalar.addi c0_i32_4651 v4488
  v4489.toNat
def k0_dev170 (d0 : Dev nD) : Nat :=
  let c0_i32_4661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4660 : BitVec 32 := 1#32
  let v4498 : BitVec 32 := Scalar.muli v13 c1_i32_4660
  let v4499 : BitVec 32 := Scalar.addi c0_i32_4661 v4498
  v4499.toNat
def k0_dev171 (d0 : Dev nD) : Nat :=
  let c0_i32_4706 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4705 : BitVec 32 := 1#32
  let v4536 : BitVec 32 := Scalar.muli v13 c1_i32_4705
  let v4537 : BitVec 32 := Scalar.addi c0_i32_4706 v4536
  v4537.toNat
def k0_dev172 (d0 : Dev nD) : Nat :=
  let c0_i32_4709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4708 : BitVec 32 := 1#32
  let v4538 : BitVec 32 := Scalar.muli v24 c1_i32_4708
  let v4539 : BitVec 32 := Scalar.addi c0_i32_4709 v4538
  v4539.toNat
def k0_dev173 (d0 : Dev nD) : Nat :=
  let c0_i32_4768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4767 : BitVec 32 := 1#32
  let v4597 : BitVec 32 := Scalar.muli v24 c1_i32_4767
  let v4598 : BitVec 32 := Scalar.addi c0_i32_4768 v4597
  v4598.toNat
def k0_dev174 (d0 : Dev nD) : Nat :=
  let c0_i32_4778 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4777 : BitVec 32 := 1#32
  let v4607 : BitVec 32 := Scalar.muli v13 c1_i32_4777
  let v4608 : BitVec 32 := Scalar.addi c0_i32_4778 v4607
  v4608.toNat
def k0_dev175 (d0 : Dev nD) : Nat :=
  let c0_i32_4823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4822 : BitVec 32 := 1#32
  let v4645 : BitVec 32 := Scalar.muli v13 c1_i32_4822
  let v4646 : BitVec 32 := Scalar.addi c0_i32_4823 v4645
  v4646.toNat
def k0_dev176 (d0 : Dev nD) : Nat :=
  let c0_i32_4826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4825 : BitVec 32 := 1#32
  let v4647 : BitVec 32 := Scalar.muli v24 c1_i32_4825
  let v4648 : BitVec 32 := Scalar.addi c0_i32_4826 v4647
  v4648.toNat
def k0_dev177 (d0 : Dev nD) : Nat :=
  let c0_i32_4885 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4884 : BitVec 32 := 1#32
  let v4706 : BitVec 32 := Scalar.muli v24 c1_i32_4884
  let v4707 : BitVec 32 := Scalar.addi c0_i32_4885 v4706
  v4707.toNat
def k0_dev178 (d0 : Dev nD) : Nat :=
  let c0_i32_4895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4894 : BitVec 32 := 1#32
  let v4716 : BitVec 32 := Scalar.muli v13 c1_i32_4894
  let v4717 : BitVec 32 := Scalar.addi c0_i32_4895 v4716
  v4717.toNat
def k0_dev179 (d0 : Dev nD) : Nat :=
  let c0_i32_4940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4939 : BitVec 32 := 1#32
  let v4754 : BitVec 32 := Scalar.muli v13 c1_i32_4939
  let v4755 : BitVec 32 := Scalar.addi c0_i32_4940 v4754
  v4755.toNat
def k0_dev180 (d0 : Dev nD) : Nat :=
  let c0_i32_4943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4942 : BitVec 32 := 1#32
  let v4756 : BitVec 32 := Scalar.muli v24 c1_i32_4942
  let v4757 : BitVec 32 := Scalar.addi c0_i32_4943 v4756
  v4757.toNat
def k0_dev181 (d0 : Dev nD) : Nat :=
  let c0_i32_5002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5001 : BitVec 32 := 1#32
  let v4815 : BitVec 32 := Scalar.muli v24 c1_i32_5001
  let v4816 : BitVec 32 := Scalar.addi c0_i32_5002 v4815
  v4816.toNat
def k0_dev182 (d0 : Dev nD) : Nat :=
  let c0_i32_5012 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5011 : BitVec 32 := 1#32
  let v4825 : BitVec 32 := Scalar.muli v13 c1_i32_5011
  let v4826 : BitVec 32 := Scalar.addi c0_i32_5012 v4825
  v4826.toNat
def k0_dev183 (d0 : Dev nD) : Nat :=
  let c0_i32_5057 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5056 : BitVec 32 := 1#32
  let v4863 : BitVec 32 := Scalar.muli v13 c1_i32_5056
  let v4864 : BitVec 32 := Scalar.addi c0_i32_5057 v4863
  v4864.toNat
def k0_dev184 (d0 : Dev nD) : Nat :=
  let c0_i32_5060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5059 : BitVec 32 := 1#32
  let v4865 : BitVec 32 := Scalar.muli v24 c1_i32_5059
  let v4866 : BitVec 32 := Scalar.addi c0_i32_5060 v4865
  v4866.toNat
def k0_dev185 (d0 : Dev nD) : Nat :=
  let c0_i32_5119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5118 : BitVec 32 := 1#32
  let v4924 : BitVec 32 := Scalar.muli v24 c1_i32_5118
  let v4925 : BitVec 32 := Scalar.addi c0_i32_5119 v4924
  v4925.toNat
def k0_dev186 (d0 : Dev nD) : Nat :=
  let c0_i32_5129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5128 : BitVec 32 := 1#32
  let v4934 : BitVec 32 := Scalar.muli v13 c1_i32_5128
  let v4935 : BitVec 32 := Scalar.addi c0_i32_5129 v4934
  v4935.toNat
def k0_dev187 (d0 : Dev nD) : Nat :=
  let c0_i32_5174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5173 : BitVec 32 := 1#32
  let v4972 : BitVec 32 := Scalar.muli v13 c1_i32_5173
  let v4973 : BitVec 32 := Scalar.addi c0_i32_5174 v4972
  v4973.toNat
def k0_dev188 (d0 : Dev nD) : Nat :=
  let c0_i32_5177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5176 : BitVec 32 := 1#32
  let v4974 : BitVec 32 := Scalar.muli v24 c1_i32_5176
  let v4975 : BitVec 32 := Scalar.addi c0_i32_5177 v4974
  v4975.toNat
def k0_dev189 (d0 : Dev nD) : Nat :=
  let c0_i32_5236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5235 : BitVec 32 := 1#32
  let v5033 : BitVec 32 := Scalar.muli v24 c1_i32_5235
  let v5034 : BitVec 32 := Scalar.addi c0_i32_5236 v5033
  v5034.toNat
def k0_dev190 (d0 : Dev nD) : Nat :=
  let c0_i32_5246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5245 : BitVec 32 := 1#32
  let v5043 : BitVec 32 := Scalar.muli v13 c1_i32_5245
  let v5044 : BitVec 32 := Scalar.addi c0_i32_5246 v5043
  v5044.toNat
def k0_dev191 (d0 : Dev nD) : Nat :=
  let c0_i32_5291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5290 : BitVec 32 := 1#32
  let v5081 : BitVec 32 := Scalar.muli v13 c1_i32_5290
  let v5082 : BitVec 32 := Scalar.addi c0_i32_5291 v5081
  v5082.toNat
def k0_dev192 (d0 : Dev nD) : Nat :=
  let c0_i32_5294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5293 : BitVec 32 := 1#32
  let v5083 : BitVec 32 := Scalar.muli v24 c1_i32_5293
  let v5084 : BitVec 32 := Scalar.addi c0_i32_5294 v5083
  v5084.toNat
def k0_dev193 (d0 : Dev nD) : Nat :=
  let c0_i32_5353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5352 : BitVec 32 := 1#32
  let v5142 : BitVec 32 := Scalar.muli v24 c1_i32_5352
  let v5143 : BitVec 32 := Scalar.addi c0_i32_5353 v5142
  v5143.toNat
def k0_dev194 (d0 : Dev nD) : Nat :=
  let c0_i32_5363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5362 : BitVec 32 := 1#32
  let v5152 : BitVec 32 := Scalar.muli v13 c1_i32_5362
  let v5153 : BitVec 32 := Scalar.addi c0_i32_5363 v5152
  v5153.toNat
def k0_dev195 (d0 : Dev nD) : Nat :=
  let c0_i32_5408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5407 : BitVec 32 := 1#32
  let v5190 : BitVec 32 := Scalar.muli v13 c1_i32_5407
  let v5191 : BitVec 32 := Scalar.addi c0_i32_5408 v5190
  v5191.toNat
def k0_dev196 (d0 : Dev nD) : Nat :=
  let c0_i32_5411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5410 : BitVec 32 := 1#32
  let v5192 : BitVec 32 := Scalar.muli v24 c1_i32_5410
  let v5193 : BitVec 32 := Scalar.addi c0_i32_5411 v5192
  v5193.toNat
def k0_dev197 (d0 : Dev nD) : Nat :=
  let c0_i32_5470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5469 : BitVec 32 := 1#32
  let v5251 : BitVec 32 := Scalar.muli v24 c1_i32_5469
  let v5252 : BitVec 32 := Scalar.addi c0_i32_5470 v5251
  v5252.toNat
def k0_dev198 (d0 : Dev nD) : Nat :=
  let c0_i32_5480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5479 : BitVec 32 := 1#32
  let v5261 : BitVec 32 := Scalar.muli v13 c1_i32_5479
  let v5262 : BitVec 32 := Scalar.addi c0_i32_5480 v5261
  v5262.toNat
def k0_dev199 (d0 : Dev nD) : Nat :=
  let c0_i32_5525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5524 : BitVec 32 := 1#32
  let v5299 : BitVec 32 := Scalar.muli v13 c1_i32_5524
  let v5300 : BitVec 32 := Scalar.addi c0_i32_5525 v5299
  v5300.toNat
def k0_dev200 (d0 : Dev nD) : Nat :=
  let c0_i32_5528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5527 : BitVec 32 := 1#32
  let v5301 : BitVec 32 := Scalar.muli v24 c1_i32_5527
  let v5302 : BitVec 32 := Scalar.addi c0_i32_5528 v5301
  v5302.toNat
def k0_dev201 (d0 : Dev nD) : Nat :=
  let c0_i32_5587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5586 : BitVec 32 := 1#32
  let v5360 : BitVec 32 := Scalar.muli v24 c1_i32_5586
  let v5361 : BitVec 32 := Scalar.addi c0_i32_5587 v5360
  v5361.toNat
def k0_dev202 (d0 : Dev nD) : Nat :=
  let c0_i32_5597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5596 : BitVec 32 := 1#32
  let v5370 : BitVec 32 := Scalar.muli v13 c1_i32_5596
  let v5371 : BitVec 32 := Scalar.addi c0_i32_5597 v5370
  v5371.toNat
def k0_dev203 (d0 : Dev nD) : Nat :=
  let c0_i32_5642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5641 : BitVec 32 := 1#32
  let v5408 : BitVec 32 := Scalar.muli v13 c1_i32_5641
  let v5409 : BitVec 32 := Scalar.addi c0_i32_5642 v5408
  v5409.toNat
def k0_dev204 (d0 : Dev nD) : Nat :=
  let c0_i32_5645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5644 : BitVec 32 := 1#32
  let v5410 : BitVec 32 := Scalar.muli v24 c1_i32_5644
  let v5411 : BitVec 32 := Scalar.addi c0_i32_5645 v5410
  v5411.toNat
def k0_dev205 (d0 : Dev nD) : Nat :=
  let c0_i32_5704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5703 : BitVec 32 := 1#32
  let v5469 : BitVec 32 := Scalar.muli v24 c1_i32_5703
  let v5470 : BitVec 32 := Scalar.addi c0_i32_5704 v5469
  v5470.toNat
def k0_dev206 (d0 : Dev nD) : Nat :=
  let c0_i32_5714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5713 : BitVec 32 := 1#32
  let v5479 : BitVec 32 := Scalar.muli v13 c1_i32_5713
  let v5480 : BitVec 32 := Scalar.addi c0_i32_5714 v5479
  v5480.toNat
def k0_dev207 (d0 : Dev nD) : Nat :=
  let c0_i32_5759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5758 : BitVec 32 := 1#32
  let v5517 : BitVec 32 := Scalar.muli v13 c1_i32_5758
  let v5518 : BitVec 32 := Scalar.addi c0_i32_5759 v5517
  v5518.toNat
def k0_dev208 (d0 : Dev nD) : Nat :=
  let c0_i32_5762 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5761 : BitVec 32 := 1#32
  let v5519 : BitVec 32 := Scalar.muli v24 c1_i32_5761
  let v5520 : BitVec 32 := Scalar.addi c0_i32_5762 v5519
  v5520.toNat
def k0_dev209 (d0 : Dev nD) : Nat :=
  let c0_i32_5821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5820 : BitVec 32 := 1#32
  let v5578 : BitVec 32 := Scalar.muli v24 c1_i32_5820
  let v5579 : BitVec 32 := Scalar.addi c0_i32_5821 v5578
  v5579.toNat
def k0_dev210 (d0 : Dev nD) : Nat :=
  let c0_i32_5831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5830 : BitVec 32 := 1#32
  let v5588 : BitVec 32 := Scalar.muli v13 c1_i32_5830
  let v5589 : BitVec 32 := Scalar.addi c0_i32_5831 v5588
  v5589.toNat
def k0_dev211 (d0 : Dev nD) : Nat :=
  let c0_i32_5876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5875 : BitVec 32 := 1#32
  let v5626 : BitVec 32 := Scalar.muli v13 c1_i32_5875
  let v5627 : BitVec 32 := Scalar.addi c0_i32_5876 v5626
  v5627.toNat
def k0_dev212 (d0 : Dev nD) : Nat :=
  let c0_i32_5879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5878 : BitVec 32 := 1#32
  let v5628 : BitVec 32 := Scalar.muli v24 c1_i32_5878
  let v5629 : BitVec 32 := Scalar.addi c0_i32_5879 v5628
  v5629.toNat
def k0_dev213 (d0 : Dev nD) : Nat :=
  let c0_i32_5938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5937 : BitVec 32 := 1#32
  let v5687 : BitVec 32 := Scalar.muli v24 c1_i32_5937
  let v5688 : BitVec 32 := Scalar.addi c0_i32_5938 v5687
  v5688.toNat
def k0_dev214 (d0 : Dev nD) : Nat :=
  let c0_i32_5948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5947 : BitVec 32 := 1#32
  let v5697 : BitVec 32 := Scalar.muli v13 c1_i32_5947
  let v5698 : BitVec 32 := Scalar.addi c0_i32_5948 v5697
  v5698.toNat
def k0_dev215 (d0 : Dev nD) : Nat :=
  let c0_i32_5993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5992 : BitVec 32 := 1#32
  let v5735 : BitVec 32 := Scalar.muli v13 c1_i32_5992
  let v5736 : BitVec 32 := Scalar.addi c0_i32_5993 v5735
  v5736.toNat
def k0_dev216 (d0 : Dev nD) : Nat :=
  let c0_i32_5996 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5995 : BitVec 32 := 1#32
  let v5737 : BitVec 32 := Scalar.muli v24 c1_i32_5995
  let v5738 : BitVec 32 := Scalar.addi c0_i32_5996 v5737
  v5738.toNat
def k0_dev217 (d0 : Dev nD) : Nat :=
  let c0_i32_6055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6054 : BitVec 32 := 1#32
  let v5796 : BitVec 32 := Scalar.muli v24 c1_i32_6054
  let v5797 : BitVec 32 := Scalar.addi c0_i32_6055 v5796
  v5797.toNat
def k0_dev218 (d0 : Dev nD) : Nat :=
  let c0_i32_6065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6064 : BitVec 32 := 1#32
  let v5806 : BitVec 32 := Scalar.muli v13 c1_i32_6064
  let v5807 : BitVec 32 := Scalar.addi c0_i32_6065 v5806
  v5807.toNat
def k0_dev219 (d0 : Dev nD) : Nat :=
  let c0_i32_6110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6109 : BitVec 32 := 1#32
  let v5844 : BitVec 32 := Scalar.muli v13 c1_i32_6109
  let v5845 : BitVec 32 := Scalar.addi c0_i32_6110 v5844
  v5845.toNat
def k0_dev220 (d0 : Dev nD) : Nat :=
  let c0_i32_6113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6112 : BitVec 32 := 1#32
  let v5846 : BitVec 32 := Scalar.muli v24 c1_i32_6112
  let v5847 : BitVec 32 := Scalar.addi c0_i32_6113 v5846
  v5847.toNat
def k0_dev221 (d0 : Dev nD) : Nat :=
  let c0_i32_6172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6171 : BitVec 32 := 1#32
  let v5905 : BitVec 32 := Scalar.muli v24 c1_i32_6171
  let v5906 : BitVec 32 := Scalar.addi c0_i32_6172 v5905
  v5906.toNat
def k0_dev222 (d0 : Dev nD) : Nat :=
  let c0_i32_6182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6181 : BitVec 32 := 1#32
  let v5915 : BitVec 32 := Scalar.muli v13 c1_i32_6181
  let v5916 : BitVec 32 := Scalar.addi c0_i32_6182 v5915
  v5916.toNat
def k0_dev223 (d0 : Dev nD) : Nat :=
  let c0_i32_6227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6226 : BitVec 32 := 1#32
  let v5953 : BitVec 32 := Scalar.muli v13 c1_i32_6226
  let v5954 : BitVec 32 := Scalar.addi c0_i32_6227 v5953
  v5954.toNat
def k0_dev224 (d0 : Dev nD) : Nat :=
  let c0_i32_6230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6229 : BitVec 32 := 1#32
  let v5955 : BitVec 32 := Scalar.muli v24 c1_i32_6229
  let v5956 : BitVec 32 := Scalar.addi c0_i32_6230 v5955
  v5956.toNat
def k0_dev225 (d0 : Dev nD) : Nat :=
  let c0_i32_6289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6288 : BitVec 32 := 1#32
  let v6014 : BitVec 32 := Scalar.muli v24 c1_i32_6288
  let v6015 : BitVec 32 := Scalar.addi c0_i32_6289 v6014
  v6015.toNat
def k0_dev226 (d0 : Dev nD) : Nat :=
  let c0_i32_6299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6298 : BitVec 32 := 1#32
  let v6024 : BitVec 32 := Scalar.muli v13 c1_i32_6298
  let v6025 : BitVec 32 := Scalar.addi c0_i32_6299 v6024
  v6025.toNat
def k0_dev227 (d0 : Dev nD) : Nat :=
  let c0_i32_6344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6343 : BitVec 32 := 1#32
  let v6062 : BitVec 32 := Scalar.muli v13 c1_i32_6343
  let v6063 : BitVec 32 := Scalar.addi c0_i32_6344 v6062
  v6063.toNat
def k0_dev228 (d0 : Dev nD) : Nat :=
  let c0_i32_6347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6346 : BitVec 32 := 1#32
  let v6064 : BitVec 32 := Scalar.muli v24 c1_i32_6346
  let v6065 : BitVec 32 := Scalar.addi c0_i32_6347 v6064
  v6065.toNat
def k0_dev229 (d0 : Dev nD) : Nat :=
  let c0_i32_6406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6405 : BitVec 32 := 1#32
  let v6123 : BitVec 32 := Scalar.muli v24 c1_i32_6405
  let v6124 : BitVec 32 := Scalar.addi c0_i32_6406 v6123
  v6124.toNat
def k0_dev230 (d0 : Dev nD) : Nat :=
  let c0_i32_6416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6415 : BitVec 32 := 1#32
  let v6133 : BitVec 32 := Scalar.muli v13 c1_i32_6415
  let v6134 : BitVec 32 := Scalar.addi c0_i32_6416 v6133
  v6134.toNat
def k0_dev231 (d0 : Dev nD) : Nat :=
  let c0_i32_6461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6460 : BitVec 32 := 1#32
  let v6171 : BitVec 32 := Scalar.muli v13 c1_i32_6460
  let v6172 : BitVec 32 := Scalar.addi c0_i32_6461 v6171
  v6172.toNat
def k0_dev232 (d0 : Dev nD) : Nat :=
  let c0_i32_6464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6463 : BitVec 32 := 1#32
  let v6173 : BitVec 32 := Scalar.muli v24 c1_i32_6463
  let v6174 : BitVec 32 := Scalar.addi c0_i32_6464 v6173
  v6174.toNat
def k0_dev233 (d0 : Dev nD) : Nat :=
  let c0_i32_6523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6522 : BitVec 32 := 1#32
  let v6232 : BitVec 32 := Scalar.muli v24 c1_i32_6522
  let v6233 : BitVec 32 := Scalar.addi c0_i32_6523 v6232
  v6233.toNat
def k0_dev234 (d0 : Dev nD) : Nat :=
  let c0_i32_6533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6532 : BitVec 32 := 1#32
  let v6242 : BitVec 32 := Scalar.muli v13 c1_i32_6532
  let v6243 : BitVec 32 := Scalar.addi c0_i32_6533 v6242
  v6243.toNat
def k0_dev235 (d0 : Dev nD) : Nat :=
  let c0_i32_6578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6577 : BitVec 32 := 1#32
  let v6280 : BitVec 32 := Scalar.muli v13 c1_i32_6577
  let v6281 : BitVec 32 := Scalar.addi c0_i32_6578 v6280
  v6281.toNat
def k0_dev236 (d0 : Dev nD) : Nat :=
  let c0_i32_6581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6580 : BitVec 32 := 1#32
  let v6282 : BitVec 32 := Scalar.muli v24 c1_i32_6580
  let v6283 : BitVec 32 := Scalar.addi c0_i32_6581 v6282
  v6283.toNat
def k0_dev237 (d0 : Dev nD) : Nat :=
  let c0_i32_6640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6639 : BitVec 32 := 1#32
  let v6341 : BitVec 32 := Scalar.muli v24 c1_i32_6639
  let v6342 : BitVec 32 := Scalar.addi c0_i32_6640 v6341
  v6342.toNat
def k0_dev238 (d0 : Dev nD) : Nat :=
  let c0_i32_6650 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6649 : BitVec 32 := 1#32
  let v6351 : BitVec 32 := Scalar.muli v13 c1_i32_6649
  let v6352 : BitVec 32 := Scalar.addi c0_i32_6650 v6351
  v6352.toNat
def k0_dev239 (d0 : Dev nD) : Nat :=
  let c0_i32_6695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6694 : BitVec 32 := 1#32
  let v6389 : BitVec 32 := Scalar.muli v13 c1_i32_6694
  let v6390 : BitVec 32 := Scalar.addi c0_i32_6695 v6389
  v6390.toNat
def k0_dev240 (d0 : Dev nD) : Nat :=
  let c0_i32_6698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6697 : BitVec 32 := 1#32
  let v6391 : BitVec 32 := Scalar.muli v24 c1_i32_6697
  let v6392 : BitVec 32 := Scalar.addi c0_i32_6698 v6391
  v6392.toNat
def k0_dev241 (d0 : Dev nD) : Nat :=
  let c0_i32_6757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6756 : BitVec 32 := 1#32
  let v6450 : BitVec 32 := Scalar.muli v24 c1_i32_6756
  let v6451 : BitVec 32 := Scalar.addi c0_i32_6757 v6450
  v6451.toNat
def k0_dev242 (d0 : Dev nD) : Nat :=
  let c0_i32_6767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6766 : BitVec 32 := 1#32
  let v6460 : BitVec 32 := Scalar.muli v13 c1_i32_6766
  let v6461 : BitVec 32 := Scalar.addi c0_i32_6767 v6460
  v6461.toNat
def k0_dev243 (d0 : Dev nD) : Nat :=
  let c0_i32_6812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6811 : BitVec 32 := 1#32
  let v6498 : BitVec 32 := Scalar.muli v13 c1_i32_6811
  let v6499 : BitVec 32 := Scalar.addi c0_i32_6812 v6498
  v6499.toNat
def k0_dev244 (d0 : Dev nD) : Nat :=
  let c0_i32_6815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6814 : BitVec 32 := 1#32
  let v6500 : BitVec 32 := Scalar.muli v24 c1_i32_6814
  let v6501 : BitVec 32 := Scalar.addi c0_i32_6815 v6500
  v6501.toNat
def k0_dev245 (d0 : Dev nD) : Nat :=
  let c0_i32_6874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_6 : BitVec 32 := 1#32
  let v14 : BitVec 32 := Scalar.addi v2 c1_i32_6
  let c32_i32_7 : BitVec 32 := 32#32
  let c0_i32_8 : BitVec 32 := 0#32
  let v15 : BitVec 1 := Scalar.cmpi .eq c32_i32_7 c0_i32_8
  let c1_i32_9 : BitVec 32 := 1#32
  let v16 : BitVec 32 := Scalar.select v15 c1_i32_9 c32_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6873 : BitVec 32 := 1#32
  let v6559 : BitVec 32 := Scalar.muli v24 c1_i32_6873
  let v6560 : BitVec 32 := Scalar.addi c0_i32_6874 v6559
  v6560.toNat
def k0_dev246 (d0 : Dev nD) : Nat :=
  let c0_i32_6884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.subi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6883 : BitVec 32 := 1#32
  let v6569 : BitVec 32 := Scalar.muli v13 c1_i32_6883
  let v6570 : BitVec 32 := Scalar.addi c0_i32_6884 v6569
  v6570.toNat
abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic

@[expose] public section

noncomputable section

namespace Cert.RingProof

open Cert.KernelIdeal Cert.KernelIdeal.Gen

open Idealize.ShloMosaic Idealize.SL.Sem

/-! # The kernel's body as a program over a direction, a step number and a slot

`d = true` is the direction to the right (the top half of every chunk), `d = false` to the left (the bottom half). -/

/-! ## Buffers and semaphores -/

/-- The kernel's copy of its columns of `x`. -/
abbrev xM : Memref sig .tc .vmem S4096x128 .bf16 := Memref.whole cc0_scratch0
/-- The kernel's copy of its rows of `w`. -/
abbrev wM : Memref sig .tc .vmem S128x8192 .bf16 := Memref.whole cc0_scratch1
/-- The result. -/
abbrev oM : Memref sig .tc .hbm S4096x8192 .f32 := Memref.whole main_v1

/-- The send buffer, the receive buffer and the staging buffer of a direction. -/
abbrev sR (d : Bool) : Ref sig .tc := match d with | true => cc0_scratch2 | false => cc0_scratch4

/-- A direction's three double buffers. -/
inductive Buf3 | send | recv

/-- A direction's send or receive buffer. -/
def bM (b : Buf3) (d : Bool) : Memref sig .tc .vmem S2x64x8192 .bf16 :=
  match b, d with
  | .send, true => Memref.whole cc0_scratch2
  | .send, false => Memref.whole cc0_scratch4
  | .recv, true => Memref.whole cc0_scratch3
  | .recv, false => Memref.whole cc0_scratch5

/-- A direction's staging buffer. -/
def gM (d : Bool) : Memref sig .tc .vmem S2x64x8192 .f32 :=
  match d with | true => Memref.whole cc0_scratch6 | false => Memref.whole cc0_scratch7

/-- A send or receive buffer is a whole operand. -/
theorem bM_whole (b : Buf3) (d : Bool) : (bM b d).IsWhole := by
  cases b <;> cases d <;> exact Memref.isWhole_whole _
/-- A staging buffer is a whole operand. -/
theorem gM_whole (d : Bool) : (gM d).IsWhole := by cases d <;> exact Memref.isWhole_whole _

/-- The DMA semaphore pairs: departures, arrivals, result copies; and the credit semaphore. -/
def sendS (d : Bool) : DmaSems sig S2 := match d with | true => cc0_scratch8 | false => cc0_scratch10
/-- A direction's arrival semaphores. -/
def recvS (d : Bool) : DmaSems sig S2 := match d with | true => cc0_scratch9 | false => cc0_scratch11
/-- A direction's semaphores for the copies to the result. -/
def copyS (d : Bool) : DmaSems sig S2 := match d with | true => cc0_scratch12 | false => cc0_scratch13
/-- A direction's credit semaphore. -/
def credS (d : Bool) : Sems sig S_ := match d with | true => cc0_scratch14 | false => cc0_scratch15

/-- The barrier. -/
abbrev barS : Sem sig := (SemArray.scalar (sig.barrier 0 rfl) : Sems sig S_).sem

/-! ## Slots -/

/-- A pair of semaphores has one at each of two places. -/
theorem inbSem (s : Fin 2) : ∀ a, (![s.val] : Fin 1 → Nat) a + S1.size a ≤ S2.size a := by
  match s with | 0 => exact inb_S2_S1_0 | 1 => exact inb_S2_S1_1

/-- A slot lies inside its double buffer. -/
theorem inbSlot (s : Fin 2) : ∀ a, (![s.val, 0, 0] : Fin 3 → Nat) a + S1x64x8192.size a ≤ S2x64x8192.size a := by
  match s with | 0 => exact inb_S2x64x8192_S1x64x8192_0_0_0 | 1 => exact inb_S2x64x8192_S1x64x8192_1_0_0

/-- A slot, as a rectangle of its double buffer. -/
abbrev slotRect (s : Fin 2) : Rect S2x64x8192 := Rect.unit (s := S2x64x8192) ![s.val, 0, 0] S1x64x8192.size (inbSlot s)

/-- A slot of a bf16 buffer has packed rows. -/
theorem packedSlot (s : Fin 2) : (slotRect s).PackedRows (EltTy.packing .bf16) := by
  match s with
  | 0 => exact packedbf16_S2x64x8192_S1x64x8192_0_0_0
  | 1 => exact packedbf16_S2x64x8192_S1x64x8192_1_0_0
/-- A slot of a bf16 buffer is made of whole words. -/
theorem wordsSlot (s : Fin 2) : (slotRect s).WholeWords (EltTy.packing .bf16) := by
  match s with
  | 0 => exact wordsbf16_S2x64x8192_S1x64x8192_0_0_0
  | 1 => exact wordsbf16_S2x64x8192_S1x64x8192_1_0_0

/-- Semaphore `s` of a pair. -/
abbrev semAt (A : DmaSems sig S2) (s : Fin 2) : DmaSem sig :=
  ((A.slice (Rect.unit (s := S2) ![s.val] S1.size (inbSem s))).squeeze S_ squeezes_S1_S_).sem

/-- Slot `s` of a double buffer, as a `1 × 64 × 8192` array and as the `64 × 8192` block the transfers move. -/
abbrev slot3 {e : EltTy} (M : Memref sig .tc .vmem S2x64x8192 e) (s : Fin 2) : Memref sig .tc .vmem S1x64x8192 e :=
  M.slice (slotRect s) (fun _ => rfl)
/-- A slot, as a 64-row array. -/
abbrev slotM {e : EltTy} (M : Memref sig .tc .vmem S2x64x8192 e) (s : Fin 2) : Memref sig .tc .vmem S64x8192 e :=
  (slot3 M s).squeeze S64x8192 squeezes_S1x64x8192_S64x8192

/-- A slot can be transferred word by word. -/
theorem slotW (b : Buf3) (d : Bool) (s : Fin 2) : (slotM (bM b d) s).view.WordExact :=
  (((bM_whole b d).wordExact_slice rfl _ (wordsSlot s)).reshape _ _)

/-! ## Devices and offsets -/

/-- The device to the left. -/
abbrev devL (c : Dev nD) : Dev nD := ⟨k0_dev1 c, k0_dev1_lt c⟩
/-- The device to the right. -/
abbrev devR (c : Dev nD) : Dev nD := ⟨k0_dev2 c, k0_dev2_lt c⟩
/-- The device a direction sends to, and the one it receives from. -/
def dstOf (d : Bool) (c : Dev nD) : Dev nD := match d with | true => devR c | false => devL c
/-- The upstream neighbour of a direction. -/
def srcOf (d : Bool) (c : Dev nD) : Dev nD := match d with | true => devL c | false => devR c

/-- Where the rows of the chunk half a direction adds at reduce-scatter step `h` start. -/
def accOff (d : Bool) (c : Dev nD) (h : Fin 31) : Fin 2 → Nat :=
  match d with | true => k0_off2 c (BitVec.ofNat 32 h.val) | false => k0_off3 c (BitVec.ofNat 32 h.val)
/-- The rows added at step `h` lie inside `x`. -/
theorem accOff_inb (d : Bool) (c : Dev nD) (h : Fin 31) : ∀ a, accOff d c h a + S64x128.size a ≤ S4096x128.size a := by
  cases d
  · exact k0_off3_inb c h
  · exact k0_off2_inb c h

/-- Where the rows of the chunk half a direction sends first start. -/
def ownOff (d : Bool) (c : Dev nD) : Fin 2 → Nat :=
  match d with | true => k0_off1 c 0#32 | false => k0_off1 c 64#32
/-- The rows a direction starts from lie inside `x`. -/
theorem ownOff_inb (d : Bool) (c : Dev nD) : ∀ a, ownOff d c a + S64x128.size a ≤ S4096x128.size a := by
  cases d
  · exact k0_off1_inb c 1
  · exact k0_off1_inb c 0

/-- Where the `k`-th result block a direction writes starts. -/
def outOff (d : Bool) (c : Dev nD) (k : Fin 32) : Fin 2 → Nat :=
  match d, k with
  | true, ⟨0, _⟩ => k0_off4 c
  | false, ⟨0, _⟩ => k0_off5 c
  | true, ⟨g + 1, _⟩ => k0_off6 c (BitVec.ofNat 32 g)
  | false, ⟨g + 1, _⟩ => k0_off7 c (BitVec.ofNat 32 g)
/-- A result block lies inside the result. -/
theorem outOff_inb (d : Bool) (c : Dev nD) (k : Fin 32) : ∀ a, outOff d c k a + S64x8192.size a ≤ S4096x8192.size a := by
  match d, k with
  | true, ⟨0, _⟩ => exact k0_off4_inb c
  | false, ⟨0, _⟩ => exact k0_off5_inb c
  | true, ⟨g + 1, hk⟩ => exact k0_off6_inb c ⟨g, Nat.lt_of_succ_lt_succ hk⟩
  | false, ⟨g + 1, hk⟩ => exact k0_off7_inb c ⟨g, Nat.lt_of_succ_lt_succ hk⟩

/-- Result block `k` of a direction. -/
abbrev outP (d : Bool) (c : Dev nD) (k : Fin 32) : Memref sig .tc .hbm S64x8192 .f32 :=
  oM.slice (Rect.unit (s := S4096x8192) (outOff d c k) S64x8192.size (outOff_inb d c k)) (fun _ => rfl)

/-- A TensorCore's programs. -/
abbrev P (F : FTy → Type) := Prog (TpuEff nD τ sig (Elt F) Λ₀ .tc)

variable {F : FTy → Type} [FloatOps F]

/-! ## Pieces of the body -/

/-- Read 64 rows of the device's columns of `x`. -/
def ldX (off : Fin 2 → Nat) (h : ∀ a, off a + S64x128.size a ≤ S4096x128.size a) : P F (Vec F S64x128 .bf16) :=
  Prog.lift (.load xM (Rect.unit (s := S4096x128) off S64x128.size h).toLoadRect (View.loadsAt_vmem h_S64x128))

/-- Read the device's rows of `w`. -/
def ldW : P F (Vec F S128x8192 .bf16) :=
  Prog.lift (.load wM (Rect.unit (s := S128x8192) ![0, 0] S128x8192.size inb_S128x8192_S128x8192_0_0).toLoadRect (View.loadsAt_vmem h_S128x8192))

/-- Read a slot. -/
def ldSlot {e : EltTy} (M : Memref sig .tc .vmem S2x64x8192 e) (s : Fin 2) : P F (Vec F S1x64x8192 e) :=
  Prog.lift (.load M (slotRect s).toLoadRect (View.loadsAt_vmem h_S1x64x8192))

/-- Read a slot of a send buffer (the value is not used) and overwrite it. -/
def stSend (d : Bool) (s : Fin 2) (v : FVec F S1x64x8192 .bf16) : P F PUnit := do
  let _ ← ldSlot (bM .send d) s
  Prog.lift (.store (bM .send d) (slotRect s) v Finset.univ (View.stores_vmem h_S1x64x8192 ((bM_whole .send d).storeExact_slice rfl _ (packedSlot s)) (fun _ => rfl)) (.inl rfl))

/-- Start the transfer of a slot to the neighbour's receive slot `r`, the departure counted on semaphore `q`. -/
def xfer (c : Dev nD) (b : Buf3) (d : Bool) (s r q : Fin 2) : P F PUnit :=
  Prog.lift (.enqueueDma (slotM (bM b d) s) (.remote (Dev.tc (dstOf d c)) (slotM (bM .recv d) r) (.dma (semAt (sendS d) q)))
    (.dma (semAt (recvS d) r)) (slotW b d s) (slotW .recv d r) ⟨⟨rfl, Or.inl rfl⟩, trivial⟩)

/-- Wait for the departure and for the arrival of a direction's transfer. -/
def await (b : Buf3) (d : Bool) (s r q : Fin 2) : P F PUnit := do
  Prog.lift (.waitDma2 (semAt (sendS d) q) (slotM (bM .recv d) r) (slotM (bM b d) s) (slotW .recv d r) (slotW b d s))
  Prog.lift (.waitDma2 (semAt (recvS d) r) (slotM (bM b d) s) (slotM (bM .recv d) r) (slotW b d s) (slotW .recv d r))

/-- One credit to the device a direction receives from. -/
def grant (c : Dev nD) (d : Bool) : P F PUnit := semSignalWord (srcOf d c) (credS d).sem 1#32
/-- Take one credit of a direction. -/
def take (d : Bool) : P F PUnit := semWaitWord (credS d).sem 1#32

/-- Put a result block into a staging slot and start its copy to the result. -/
def emit (c : Dev nD) (d : Bool) (s : Fin 2) (k : Fin 32) (v : FVec F S1x64x8192 .f32) : P F PUnit := do
  let _ ← ldSlot (gM d) s
  Prog.lift (.store (gM d) (slotRect s) v Finset.univ (View.stores_vmem_bits_univ h_S1x64x8192 rfl) (.inl rfl))
  Prog.lift (.enqueueDma (slotM (gM d) s) (.here (outP d c k)) (.dma (semAt (copyS d) s)) ((View.wordExact_bits rfl).reshape _ _) (View.wordExact_bits rfl) ⟨Or.inl rfl, trivial⟩)

/-- Wait for the copy of result block `k`. -/
def drain (c : Dev nD) (d : Bool) (s : Fin 2) (k : Fin 32) : P F PUnit :=
  Prog.lift (.waitDma2 (semAt (copyS d) s) (slotM (gM d) s) (outP d c k) ((View.wordExact_bits rfl).reshape _ _) (View.wordExact_bits rfl))

/-- The slot a number names by its parity. -/
abbrev par (t : ℕ) : Fin 2 := ⟨t % 2, Nat.mod_lt _ (Nat.zero_lt_succ 1)⟩

/-- The partial product of 64 rows, and the running sum with what has arrived. -/
abbrev mm (x : Vec F S64x128 .bf16) (w : Vec F S128x8192 .bf16) : FVec F S64x8192 .f32 := k0_pay5 x w
/-- What arrived, widened, plus a product. -/
abbrev accV (p : FVec F S64x8192 .f32) (v : Vec F S1x64x8192 .bf16) : FVec F S64x8192 .f32 := k0_pay144 p v

/-- Before the barrier's wait, and the first values to send. -/
def prologue (c : Dev nD) : P F PUnit := do
  semSignalWord (devL c) barS 1#32
  semSignalWord (devR c) barS 1#32
  semWaitWord barS 2#32

/-- Copy both arguments into the kernel's own buffers. -/
def loadIn : P F PUnit := do
  let v30 : Vec F S4096x128 .bf16 ← Prog.lift (.load (Memref.whole cc0_stg0_0) (Rect.unit (s := S4096x128) ![0, 0] S4096x128.size inb_S4096x128_S4096x128_0_0).toLoadRect (View.loadsAt_vmem h_S4096x128))
  let v32 : Vec F S4096x128 .bf16 ← Prog.lift (.load xM (Rect.unit (s := S4096x128) ![0, 0] S4096x128.size inb_S4096x128_S4096x128_0_0).toLoadRect (View.loadsAt_vmem h_S4096x128))
  Prog.lift (.store xM (Rect.unit (s := S4096x128) ![0, 0] S4096x128.size inb_S4096x128_S4096x128_0_0) (k0_pay1 v30) Finset.univ (View.stores_vmem h_S4096x128 ((Memref.isWhole_whole _).storeExact_slice rfl _ packedbf16_S4096x128_S4096x128_0_0) (fun _ => rfl)) (.inl rfl))
  let v35 : Vec F S128x8192 .bf16 ← Prog.lift (.load (Memref.whole cc0_stg1_0) (Rect.unit (s := S128x8192) ![0, 0] S128x8192.size inb_S128x8192_S128x8192_0_0).toLoadRect (View.loadsAt_vmem h_S128x8192))
  let v37 : Vec F S128x8192 .bf16 ← ldW
  Prog.lift (.store wM (Rect.unit (s := S128x8192) ![0, 0] S128x8192.size inb_S128x8192_S128x8192_0_0) (k0_pay2 v35) Finset.univ (View.stores_vmem h_S128x8192 ((Memref.isWhole_whole _).storeExact_slice rfl _ packedbf16_S128x8192_S128x8192_0_0) (fun _ => rfl)) (.inl rfl))

/-- Fill a direction's first send slot with the device's own product. -/
def first (c : Dev nD) (d : Bool) : P F PUnit := do
  let x ← ldX (ownOff d c) (ownOff_inb d c)
  let w ← ldW
  stSend d 0 (k0_pay3 x w)

/-- Take the credits of step `t`. -/
def takes (t : ℕ) : P F PUnit :=
  match Nat.ble 2 t with
  | true => do take true; take false
  | false => pure ⟨⟩

/-- Reduce-scatter step `h`: send the running sums, compute the next partial products, receive and add. -/
def rsCore (c : Dev nD) (h : Fin 31) : P F (FVec F S64x8192 .f32 × FVec F S64x8192 .f32) := do
  takes h.val
  xfer c .send true (par h.val) (par (h.val + 1)) (par h.val)
  xfer c .send false (par h.val) (par (h.val + 1)) (par h.val)
  let xR ← ldX (accOff true c h) (accOff_inb true c h)
  let wR ← ldW
  let xL ← ldX (accOff false c h) (accOff_inb false c h)
  let wL ← ldW
  await .send true (par h.val) (par (h.val + 1)) (par h.val)
  await .send false (par h.val) (par (h.val + 1)) (par h.val)
  let vR ← ldSlot (bM .recv true) (par (h.val + 1))
  let vL ← ldSlot (bM .recv false) (par (h.val + 1))
  stSend true (par (h.val + 1)) (k0_pay147 (accV (mm xR wR) vR))
  stSend false (par (h.val + 1)) (k0_pay147 (accV (mm xL wL) vL))
  grant c true
  grant c false
  pure (accV (mm xR wR) vR, accV (mm xL wL) vL)

/-- The summing steps from step `h` on. -/
def rsLoop (c : Dev nD) : (n h : ℕ) → h + n = 30 → P F PUnit
  | 0, _, _ => pure ⟨⟩
  | n + 1, h, e => do
    let _ ← rsCore c ⟨h, by omega⟩
    rsLoop c n (h + 1) (by omega)

/-- The last reduce-scatter step also emits its sums. -/
def rsLast (c : Dev nD) : P F PUnit := do
  let v ← rsCore c ⟨30, by omega⟩
  emit c true 0 0 (k0_pay149 v.1)
  emit c false 0 0 (k0_pay149 v.2)

/-- What an all-gather step sends: first the finished sum, later what arrived the step before. -/
def agBuf (g : ℕ) : Buf3 := match g with | 0 => .send | _ + 1 => .recv
/-- The slot that all-gather step `g` sends from. -/
def agSlot (g : ℕ) : Fin 2 := match g with | 0 => 1 | g + 1 => par g

/-- Grant the credits of all-gather step `g`. -/
def grants (c : Dev nD) (g : ℕ) : P F PUnit :=
  match Nat.ble 1 g && Nat.ble g 29 with
  | true => do grant c true; grant c false
  | false => pure ⟨⟩

/-- Before staging slot reuse: wait for the copy two blocks earlier. -/
def drainPrev (c : Dev nD) (d : Bool) (g : ℕ) (h : g < 31) : P F PUnit :=
  match g, h with
  | 0, _ => pure ⟨⟩
  | g + 1, h => drain c d (par g) ⟨g, by omega⟩

/-- All-gather step `g`. -/
def agStep (c : Dev nD) (g : ℕ) (hg : g < 31) : P F PUnit := do
  take true
  take false
  xfer c (agBuf g) true (agSlot g) (par g) (par g)
  xfer c (agBuf g) false (agSlot g) (par g) (par g)
  await (agBuf g) true (agSlot g) (par g) (par g)
  await (agBuf g) false (agSlot g) (par g) (par g)
  grants c g
  let vR ← ldSlot (bM .recv true) (par g)
  let vL ← ldSlot (bM .recv false) (par g)
  drainPrev c true g hg
  emit c true (par (g + 1)) ⟨g + 1, by omega⟩ (k0_pay254 vR)
  drainPrev c false g hg
  emit c false (par (g + 1)) ⟨g + 1, by omega⟩ (k0_pay254 vL)

/-- The all-gather steps from step `g` on. -/
def agLoop (c : Dev nD) : (n g : ℕ) → g + n = 31 → P F PUnit
  | 0, _, _ => pure ⟨⟩
  | n + 1, g, e => do
    agStep c g (by omega)
    agLoop c n (g + 1) (by omega)

/-- The whole body. -/
def body : P F PUnit := do
  let c ← Prog.lift .deviceId
  prologue c
  loadIn
  first c true
  first c false
  rsLoop c 30 0 rfl
  rsLast c
  agLoop c 31 0 rfl
  drain c true 0 30
  drain c true 1 31
  drain c false 0 30
  drain c false 1 31

end Cert.RingProof

end
-- ==== Proof.Cells.lean ====
module

public import proofs.«01_k».proof.Proof.Prog

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! # The cells of the two rings, their rounds and what each round hands over -/

/-! ## The resource algebra: the pipeline's part and the rings' part, duties numbered -/

/-- The ring's part of the ghost state. -/
abbrev UB : Type := URounds (GSem nD τ sig) ℕ
/-- The ghost state: the pipeline's and the ring's. -/
abbrev UU : Type := UR sig nD τ × UB

variable {F : FTy → Type} [FloatOps F]

local notation "𝕄" => MT nD τ sig ℕ (Elt F) ℕ UU ℕ

/-- The pipeline's part inside the whole. -/
abbrev EP : Emb (UR sig nD τ) (MT nD τ sig ℕ (Elt F) ℕ UU ℕ) := embL
/-- The ring's part inside the whole. -/
abbrev ER : Emb UB (MT nD τ sig ℕ (Elt F) ℕ UU ℕ) := embR

/-! ## The neighbours -/

/-- A device's downstream neighbour has the device upstream of it. -/
theorem src_dst (d : Bool) (c : Dev nD) : srcOf d (dstOf d c) = c := by revert d c; decide +kernel
/-- A device's upstream neighbour has the device downstream of it. -/
theorem dst_src (d : Bool) (c : Dev nD) : dstOf d (srcOf d c) = c := by revert d c; decide +kernel
/-- Downstream in the other direction is upstream in this one. -/
theorem dst_not (d : Bool) (c : Dev nD) : dstOf (!d) c = srcOf d c := by cases d <;> rfl
/-- Upstream in the other direction is downstream in this one. -/
theorem src_not (d : Bool) (c : Dev nD) : srcOf (!d) c = dstOf d c := by cases d <;> rfl

/-! ## Cells -/

/-- A device's cells: the barrier, per direction two arrival, two departure and two result-copy cells, and the credits. -/
inductive Cl
  | bar
  | recv (d : Bool) (s : Fin 2)
  | send (d : Bool) (s : Fin 2)
  | cp (d : Bool) (s : Fin 2)
  | cred (d : Bool)
  deriving DecidableEq

instance : Fintype Cl where
  elems := {.bar, .recv true 0, .recv true 1, .recv false 0, .recv false 1, .send true 0, .send true 1, .send false 0, .send false 1,
    .cp true 0, .cp true 1, .cp false 0, .cp false 1, .cred true, .cred false}
  complete k := by
    rcases k with _ | ⟨_ | _, s⟩ | ⟨_ | _, s⟩ | ⟨_ | _, s⟩ | ⟨_ | _⟩
    all_goals first | decide | (fin_cases s <;> decide)

/-- The semaphore of each class. -/
def semOf : Cl → SemLoc sig
  | .bar => .reg barS
  | .recv d s => .dma (semAt (recvS d) s)
  | .send d s => .dma (semAt (sendS d) s)
  | .cp d s => .dma (semAt (copyS d) s)
  | .cred d => .reg (credS d).sem

/-- Different classes have different semaphores. -/
theorem semOf_injective : Function.Injective semOf := by
  unfold Function.Injective; decide +kernel

/-- The cell a semaphore is, if it is one of these. -/
def clOf (sm : SemLoc sig) : Option Cl := Function.partialInv semOf sm

/-- The class of a class's semaphore is that class. -/
theorem clOf_semOf (k : Cl) : clOf (semOf k) = some k := Function.partialInv_left semOf_injective k

/-- The semaphore of class `k` on device `c`. -/
abbrev cell (c : Dev nD) (k : Cl) : GSem nD τ sig := ((c : Thread nD τ), semOf k)

/-- Different devices or classes have different cells. -/
theorem cell_injective : Function.Injective (fun ck : Dev nD × Cl => cell ck.1 ck.2) := by
  rintro ⟨c, k⟩ ⟨c', k'⟩ h
  have h1 : c = c' := congrArg (fun g : GSem nD τ sig => g.1.1) h
  have h2 : k = k' := semOf_injective (congrArg Prod.snd h)
  rw [h1, h2]

/-! ## Rounds -/

/-- How many of the numbers below `n` use slot `s`. -/
def cnt (sl : ℕ → Fin 2) (s : Fin 2) (n : ℕ) : ℕ := ((Finset.range n).filter fun i => sl i = s).card

/-- Before the first use no slot has been used. -/
theorem cnt_zero (sl : ℕ → Fin 2) (s : Fin 2) : cnt sl s 0 = 0 := rfl
/-- A use of slot `s` raises its count by one. -/
theorem cnt_succ_eq {sl : ℕ → Fin 2} {s : Fin 2} {n : ℕ} (h : sl n = s) : cnt sl s (n + 1) = cnt sl s n + 1 := by
  unfold cnt; rw [Finset.range_add_one, Finset.filter_insert, if_pos h, Finset.card_insert_of_notMem (by simp)]
/-- A use of the other slot leaves the count of `s`. -/
theorem cnt_succ_ne {sl : ℕ → Fin 2} {s : Fin 2} {n : ℕ} (h : sl n ≠ s) : cnt sl s (n + 1) = cnt sl s n := by
  unfold cnt; rw [Finset.range_add_one, Finset.filter_insert, if_neg h]
/-- Counts never fall. -/
theorem cnt_mono (sl : ℕ → Fin 2) (s : Fin 2) {n n' : ℕ} (h : n ≤ n') : cnt sl s n ≤ cnt sl s n' :=
  Finset.card_le_card (Finset.filter_subset_filter _ (Finset.range_mono h))
/-- After a use of slot `s` its count is larger. -/
theorem cnt_lt {sl : ℕ → Fin 2} {s : Fin 2} {n n' : ℕ} (h : n < n') (hs : sl n = s) : cnt sl s n < cnt sl s n' :=
  Nat.lt_of_lt_of_le (by rw [cnt_succ_eq hs]; exact Nat.lt_succ_self _) (cnt_mono sl s h)

/-- The numbers below `N` that are slot `s`'s `r`-th use. -/
def seqD (sl : ℕ → Fin 2) (N : ℕ) (s : Fin 2) (r : ℕ) : Finset ℕ := (Finset.range N).filter fun n => sl n = s ∧ cnt sl s n = r

/-- The round in which slot `s` has its use number `n` contains that use alone. -/
theorem seqD_eq {sl : ℕ → Fin 2} {N n : ℕ} {s : Fin 2} (h : n < N) (hs : sl n = s) : seqD sl N s (cnt sl s n) = {n} := by
  ext i
  simp only [seqD, Finset.mem_filter, Finset.mem_range, Finset.mem_singleton]
  constructor
  · rintro ⟨_, h1, h2⟩
    rcases Nat.lt_trichotomy i n with h' | h' | h'
    · exact absurd h2 (Nat.ne_of_lt (cnt_lt h' h1))
    · exact h'
    · exact absurd h2.symm (Nat.ne_of_lt (cnt_lt h' hs))
  · rintro rfl; exact ⟨h, hs, rfl⟩
/-- After the last use the rounds are empty. -/
theorem seqD_later {sl : ℕ → Fin 2} {N r : ℕ} {s : Fin 2} (h : cnt sl s N ≤ r) : seqD sl N s r = ∅ := by
  ext i
  simp only [seqD, Finset.mem_filter, Finset.mem_range, Finset.notMem_empty, iff_false]
  rintro ⟨h1, h2, h3⟩
  have := cnt_lt (sl := sl) h1 h2
  omega

/-- The slot transfer `t` arrives in, the semaphore of the pair that counts its departure, and the staging slot of result
    block `k`. -/
def slR (t : ℕ) : Fin 2 := par (t + 1)
/-- The departure semaphore that transfer `t` uses. -/
def slS (t : ℕ) : Fin 2 := if t ≤ 30 then par t else par (t + 1)
/-- The staging slot of result block `k`. -/
def slC (k : ℕ) : Fin 2 := par k

/-- Two steps on, the slot is the same. -/
theorem par_add_two (t : ℕ) : par (t + 2) = par t := Fin.ext (Nat.add_mod_right t 2)
/-- One step on, the slot is the other one. -/
theorem par_ne (t : ℕ) : par t ≠ par (t + 1) := fun h => by have := congrArg Fin.val h; simp only [par] at this; omega
/-- Numbers of equal parity name the same slot. -/
theorem par_eq {a b : ℕ} (h : a % 2 = b % 2) : par a = par b := Fin.ext h

/-- What a direction sends at step `t`: its sums from the send buffer, later what arrived the step before. -/
def srcB (t : ℕ) : Buf3 := if t ≤ 31 then .send else .recv

/-- A number as the number of a result block. -/
abbrev k32 (n : ℕ) : Fin 32 := ⟨n % 32, Nat.mod_lt _ (by decide)⟩
/-- A number as the number of a summing step. -/
abbrev h31 (n : ℕ) : Fin 31 := ⟨n % 31, Nat.mod_lt _ (by decide)⟩

/-! ## Amounts -/

/-- What a transferred block counts on its semaphore. -/
def NB : ℕ := (slotM (bM .recv true) 0).view.dmaCredit
/-- What a copied result block counts on its semaphore. -/
def NC : ℕ := (outP true 0 0).view.dmaCredit

/-- A transferred block counts something. -/
theorem NB_pos : 0 < NB := View.dmaCredit_pos (slotM (bM .recv true) 0).view (by decide)
/-- A copied result block counts something. -/
theorem NC_pos : 0 < NC := View.dmaCredit_pos (outP true 0 0).view (by decide)
/-- Every slot of every send and receive buffer counts the same. -/
theorem credit_slot (b : Buf3) (d : Bool) (s : Fin 2) : (slotM (bM b d) s).view.dmaCredit = NB := by
  cases b <;> cases d <;> rfl
/-- Every result block counts the same. -/
theorem credit_out (d : Bool) (c : Dev nD) (k : Fin 32) : (outP d c k).view.dmaCredit = NC := rfl

end Cert.RingProof

end
-- ==== Proof.Sched.lean ====
module

public import proofs.«01_k».proof.Proof.Cells

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! # What the rounds hand over -/

/-! ## Contents -/

variable (X : (c : Dev nD) → Buf (Elt F) ((xM : Memref sig .tc _ _ _).view.loc (c : Thread nD τ)))
  (Wt : (c : Dev nD) → Buf (Elt F) ((wM : Memref sig .tc _ _ _).view.loc (c : Thread nD τ)))

/-- 64 rows of device `c`'s columns of `x`, and its rows of `w`. -/
def xrows (c : Dev nD) (off : Fin 2 → Nat) (h : ∀ a, off a + S64x128.size a ≤ S4096x128.size a) : Vec F S64x128 .bf16 :=
  (xM : Memref sig .tc _ _ _).view.readAt (Elt F) (Rect.unit (s := S4096x128) off S64x128.size h).toLoadRect (X c)
/-- The device's rows of `w`. -/
def wrows (c : Dev nD) : Vec F S128x8192 .bf16 :=
  (wM : Memref sig .tc _ _ _).view.readAt (Elt F) (Rect.unit (s := S128x8192) ![0, 0] S128x8192.size inb_S128x8192_S128x8192_0_0).toLoadRect (Wt c)

/-- The sum device `c` forms at reduce-scatter step `h` from what arrived. -/
def accS (d : Bool) (c : Dev nD) (h : ℕ) (v : Vec F S1x64x8192 .bf16) : FVec F S64x8192 .f32 :=
  accV (mm (xrows X c (accOff d c (h31 h)) (accOff_inb d c (h31 h))) (wrows Wt c)) v

/-- What device `c` sends in direction `d` at step `t`. -/
def xval (d : Bool) : ℕ → Dev nD → FVec F S1x64x8192 .bf16
  | 0, c => k0_pay3 (xrows X c (ownOff d c) (ownOff_inb d c)) (wrows Wt c)
  | t + 1, c => if t ≤ 30 then k0_pay147 (accS X Wt d c t (xval d t (srcOf d c))) else xval d t (srcOf d c)

/-- The `k`-th result block device `c` writes in direction `d`. -/
def oval3 (d : Bool) (c : Dev nD) : ℕ → FVec F S1x64x8192 .f32
  | 0 => k0_pay149 (accS X Wt d c 30 (xval X Wt d 30 (srcOf d c)))
  | g + 1 => k0_pay254 (xval X Wt d (31 + g) (srcOf d c))

/-! ## Ownership of slots and of result blocks -/

/-- A `1 × 64 × 8192` block as the `64 × 8192` block the transfers move. -/
def flat {α : Type} (v : S1x64x8192.Idx → α) : S64x8192.Idx → α :=
  fun i => v (Shape.reshapeEquiv (s := S1x64x8192) (s' := S64x8192) squeezes_S1x64x8192_S64x8192.numel_eq i)

/-- Slot `s` of a double buffer of device `c`, reading `v`; and at anything. -/
def held {e : EltTy} (c : Dev nD) (M : Memref sig .tc .vmem S2x64x8192 e) (s : Fin 2) (v : S1x64x8192.Idx → Elt F e) : sProp 𝕄 :=
  iprop(∃ f : Buf (Elt F) ((M.access (slotRect s)).loc (c : Thread nD τ)), ⌜(M.access (slotRect s)).read (Elt F) f = v⌝
    ∗ ((M.access (slotRect s)).loc (c : Thread nD τ) ↦[(M.access (slotRect s)).set]{fullShare} f))
/-- A slot at any contents. -/
def heldE {e : EltTy} (c : Dev nD) (M : Memref sig .tc .vmem S2x64x8192 e) (s : Fin 2) : sProp 𝕄 :=
  iprop(∃ f : Buf (Elt F) ((M.access (slotRect s)).loc (c : Thread nD τ)), ((M.access (slotRect s)).loc (c : Thread nD τ) ↦[(M.access (slotRect s)).set]{fullShare} f))

/-- Result block `k` of direction `d` on device `c`, reading `v`; and at anything. -/
def outHeld (c : Dev nD) (d : Bool) (k : Fin 32) (v : S64x8192.Idx → Elt F .f32) : sProp 𝕄 :=
  iprop(∃ f : Buf (Elt F) ((outP d c k).view.loc (c : Thread nD τ)), ⌜(outP d c k).view.read (Elt F) f = v⌝
    ∗ ((outP d c k).view.loc (c : Thread nD τ) ↦[(outP d c k).view.set]{fullShare} f))
/-- A result block at any contents. -/
def outE (c : Dev nD) (d : Bool) (k : Fin 32) : sProp 𝕄 :=
  iprop(∃ f : Buf (Elt F) ((outP d c k).view.loc (c : Thread nD τ)), ((outP d c k).view.loc (c : Thread nD τ) ↦[(outP d c k).view.set]{fullShare} f))

/-- A slot may be handed over. -/
instance held_storable {e : EltTy} (c : Dev nD) (M : Memref sig .tc .vmem S2x64x8192 e) (s : Fin 2) (v : S1x64x8192.Idx → Elt F e) :
    BI.Storable (upEmb : UEmb _ 𝕄) (held (F := F) c M s v) := by unfold held; infer_instance
/-- So may a slot at any contents, -/
instance heldE_storable {e : EltTy} (c : Dev nD) (M : Memref sig .tc .vmem S2x64x8192 e) (s : Fin 2) :
    BI.Storable (upEmb : UEmb _ 𝕄) (heldE (F := F) c M s) := by unfold heldE; infer_instance
/-- a result block, -/
instance outHeld_storable (c : Dev nD) (d : Bool) (k : Fin 32) (v : S64x8192.Idx → Elt F .f32) :
    BI.Storable (upEmb : UEmb _ 𝕄) (outHeld (F := F) c d k v) := by unfold outHeld; infer_instance
/-- and a result block at any contents. -/
instance outE_storable (c : Dev nD) (d : Bool) (k : Fin 32) :
    BI.Storable (upEmb : UEmb _ 𝕄) (outE (F := F) c d k) := by unfold outE; infer_instance

/-- A slot with known contents is a slot at some contents. -/
theorem held_heldE {e : EltTy} (c : Dev nD) (M : Memref sig .tc .vmem S2x64x8192 e) (s : Fin 2) (v : S1x64x8192.Idx → Elt F e) :
    held c M s v ⊢ heldE (F := F) c M s := by
  unfold held heldE; iintro ⟨%f, -, H⟩; iexists f; iexact H

/-! ## What the rounds hand over -/

/-- A receive slot of device `p`, free, with the mark that `p` has finished the slot's earlier arrivals: what lets another
    device start transfer `t` into it. -/
def free (p : Dev nD) (d : Bool) (t : ℕ) : sProp 𝕄 :=
  iprop(heldE p (bM .recv d) (slR t) ∗ reached ER (cell p (.recv d (slR t))) (cnt slR (slR t) t))

/-- What comes with the arrival of transfer `t` at device `c` besides the block: while sums travel, the sender's freed slot
    of the other direction; later, how far the sender has taken its credits. -/
def extra (c : Dev nD) (d : Bool) (t : ℕ) : sProp 𝕄 :=
  if t = 0 then iprop(emp) else if t ≤ 31 then free (srcOf d c) (!d) (t + 1)
  else iprop(reached ER (cell (srcOf d c) (.cred d)) (t - 31))

/-- What the use numbered `n` of a cell hands over. -/
def pay (c : Dev nD) : Cl → ℕ → sProp 𝕄
  | .bar, n => iprop(heldE (dstOf (n == 0) c) (bM .recv (n == 0)) 0 ∗ heldE (dstOf (n == 0) c) (bM .recv (n == 0)) 1)
  | .recv d s, t => iprop(held c (bM .recv d) s (xval X Wt d t (srcOf d c)) ∗ extra c d t)
  | .send d _, t => held c (bM (srcB t) d) (par t) (xval X Wt d t c)
  | .cp d s, k => iprop(outHeld c d (k32 k) (flat (oval3 X Wt d c k)) ∗ heldE c (gM d) s)
  | .cred d, n => if n < 31 then iprop(emp) else free (dstOf d c) d (n + 2)

/-- The uses that make up a round of a cell. -/
def dut : Cl → ℕ → Finset ℕ
  | .bar, r => if r = 0 then Finset.range 2 else ∅
  | .recv _ s, r => seqD slR 62 s r
  | .send _ s, r => seqD slS 62 s r
  | .cp _ s, r => seqD slC 32 s r
  | .cred _, r => (Finset.range 60).filter fun n => n - 30 = r

/-- What each use of a cell counts. -/
def amt : Cl → ℕ
  | .bar => 1
  | .recv _ _ => NB
  | .send _ _ => NB
  | .cp _ _ => NC
  | .cred _ => 1

/-- Each use counts something. -/
theorem amt_pos (k : Cl) : 0 < amt k := by
  cases k <;> first | exact Nat.one_pos | exact NB_pos | exact NC_pos

/-- A free slot may be handed over, -/
instance free_storable (p : Dev nD) (d : Bool) (t : ℕ) : BI.Storable (upEmb : UEmb _ 𝕄) (free (F := F) p d t) := by unfold free; infer_instance
/-- so may what comes with an arrival, -/
instance extra_storable (c : Dev nD) (d : Bool) (t : ℕ) : BI.Storable (upEmb : UEmb _ 𝕄) (extra (F := F) c d t) := by
  unfold extra; (repeat' split) <;> infer_instance
/-- and so may all that a use hands over. -/
instance pay_storable (c : Dev nD) (k : Cl) (n : ℕ) : BI.Storable (upEmb : UEmb _ 𝕄) (pay (F := F) X Wt c k n) := by
  unfold pay; (repeat' split) <;> infer_instance

/-- The rounds of every cell. -/
def Rd : Rounds.Schedule (GSem nD τ sig) ℕ 𝕄 where
  duties g r := if g.1.2 = .tc then (match clOf g.2 with | none => ∅ | some k => dut k r) else ∅
  unitless _ := False
  amount g _ _ := match clOf g.2 with | none => 1 | some k => amt k
  payload g _ n := match clOf g.2 with | none => iprop(emp) | some k => pay X Wt g.1.1 k n
  amount_pos g _ _ _ := by split; exacts [Nat.one_pos, amt_pos _]

/-- That, for the rounds as a whole. -/
instance Rd_payload_storable (g : GSem nD τ sig) (r : ℕ) (n : ℕ) :
    BI.Storable (upEmb : UEmb _ 𝕄) ((Rd (F := F) X Wt).payload g r n) := by
  show BI.Storable upEmb (match clOf g.2 with | none => iprop(emp) | some k => pay X Wt g.1.1 k n)
  split <;> infer_instance

/-- The uses in a cell's round. -/
theorem duties_cell (c : Dev nD) (k : Cl) (r : ℕ) : (Rd (F := F) X Wt).duties (cell c k) r = dut k r := by
  dsimp only [Rd]; rw [if_pos rfl, clOf_semOf]
/-- What a use of a cell counts. -/
theorem amount_cell (c : Dev nD) (k : Cl) (r n : ℕ) : (Rd (F := F) X Wt).amount (cell c k) r n = amt k := by
  dsimp only [Rd]; rw [clOf_semOf]
/-- What a use of a cell hands over. -/
theorem payload_cell (c : Dev nD) (k : Cl) (r n : ℕ) : (Rd (F := F) X Wt).payload (cell c k) r n = pay X Wt c k n := by
  dsimp only [Rd]; rw [clOf_semOf]
/-- What a round of a cell counts in all. -/
theorem expect_cell (c : Dev nD) (k : Cl) (r : ℕ) : (Rd (F := F) X Wt).expect (cell c k) r = (dut k r).card * amt k := by
  unfold Schedule.expect Schedule.amountOf
  rw [duties_cell, Finset.sum_congr rfl fun n _ => amount_cell X Wt c k r n, Finset.sum_const, smul_eq_mul]

/-- The rest of a round with one duty, nothing taken. -/
theorem rest_one (c : Dev nD) (k : Cl) (r n : ℕ) (h : dut k r = {n}) :
    bigSep ((Rd (F := F) X Wt).duties (cell c k) r \ ∅) (fun d => (Rd (F := F) X Wt).payload (cell c k) r d) = pay X Wt c k n := by
  rw [Finset.sdiff_empty, duties_cell, h, bigSep_singleton, payload_cell]
/-- A round of one use counts what that use does. -/
theorem expect_one (c : Dev nD) (k : Cl) (r n : ℕ) (h : dut k r = {n}) : (Rd (F := F) X Wt).expect (cell c k) r = amt k := by
  rw [expect_cell, h, Finset.card_singleton, Nat.one_mul]

/-- The round of transfer `t` at an arrival cell is that transfer alone. -/
theorem dut_recv (d : Bool) {t : ℕ} (h : t < 62) : dut (.recv d (slR t)) (cnt slR (slR t) t) = {t} := seqD_eq h rfl
/-- The round of transfer `t` at a departure cell is that transfer alone. -/
theorem dut_send (d : Bool) {t : ℕ} (h : t < 62) : dut (.send d (slS t)) (cnt slS (slS t) t) = {t} := seqD_eq h rfl
/-- The round of result block `k` at a copy cell is that block alone. -/
theorem dut_cp (d : Bool) {k : ℕ} (h : k < 32) : dut (.cp d (slC k)) (cnt slC (slC k) k) = {k} := seqD_eq h rfl
/-- From the 32nd on, a credit is a round of its own. -/
theorem dut_cred_late (d : Bool) {n : ℕ} (h : 31 ≤ n) (h' : n < 60) : dut (.cred d) (n - 30) = {n} := by
  ext i; simp only [dut, Finset.mem_filter, Finset.mem_range, Finset.mem_singleton]; omega
/-- The first 31 credits are one round. -/
theorem dut_cred_zero (d : Bool) : dut (.cred d) 0 = Finset.range 31 := by
  ext i; simp only [dut, Finset.mem_filter, Finset.mem_range]; omega

end Cert.RingProof

end
-- ==== Proof.Owes.lean ====
module

public import proofs.«01_k».proof.Proof.Cells

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! # What each device owes; the levels -/

/-- Owed: the arrivals from transfer `a` (direction right) and `b` (left) on, and the credits from `p` and `q` on. -/
def Ow (c : Dev nD) (a b p q : ℕ) : CellTallies nD τ sig ℕ :=
  (∑ t ∈ Finset.Ico a 62, tallyAt (cell (dstOf true c) (.recv true (slR t))) t NB)
    + (∑ t ∈ Finset.Ico b 62, tallyAt (cell (dstOf false c) (.recv false (slR t))) t NB)
    + (∑ n ∈ Finset.Ico p 60, tallyAt (cell (srcOf true c) (.cred true)) n 1)
    + (∑ n ∈ Finset.Ico q 60, tallyAt (cell (srcOf false c) (.cred false)) n 1)

/-- Owed after the first barrier signal. -/
def O₁ (c : Dev nD) : CellTallies nD τ sig ℕ := Ow c 0 0 0 0 + tallyAt (cell (srcOf false c) .bar) 0 1
/-- Owed at the start. -/
def O₀ (c : Dev nD) : CellTallies nD τ sig ℕ := O₁ c + tallyAt (cell (srcOf true c) .bar) 0 1

/-- A sum over an interval is its first term and the rest. -/
theorem sum_peel {M : Type*} [AddCommMonoid M] (f : ℕ → M) {a n : ℕ} (h : a < n) :
    ∑ i ∈ Finset.Ico a n, f i = (∑ i ∈ Finset.Ico (a + 1) n, f i) + f a := by
  have h' : Finset.Ico a n = insert a (Finset.Ico (a + 1) n) := by
    ext i; simp only [Finset.mem_Ico, Finset.mem_insert]; omega
  rw [h', Finset.sum_insert (by simp), add_comm]

/-- What is owed from transfer `a` to the right on: that transfer and the rest. -/
theorem Ow_a {c : Dev nD} {a b p q : ℕ} (h : a < 62) :
    Ow c a b p q = Ow c (a + 1) b p q + tallyAt (cell (dstOf true c) (.recv true (slR a))) a NB := by
  unfold Ow; rw [sum_peel _ h]; rw [add_right_comm _ (tallyAt _ _ _), add_right_comm _ (tallyAt _ _ _), add_right_comm _ (tallyAt _ _ _)]
/-- What is owed from transfer `b` to the left on: that transfer and the rest. -/
theorem Ow_b {c : Dev nD} {a b p q : ℕ} (h : b < 62) :
    Ow c a b p q = Ow c a (b + 1) p q + tallyAt (cell (dstOf false c) (.recv false (slR b))) b NB := by
  unfold Ow; rw [sum_peel _ h]; rw [← add_assoc, add_right_comm _ (tallyAt _ _ _), add_right_comm _ (tallyAt _ _ _)]
/-- What is owed from credit `p` going right on: that credit and the rest. -/
theorem Ow_p {c : Dev nD} {a b p q : ℕ} (h : p < 60) :
    Ow c a b p q = Ow c a b (p + 1) q + tallyAt (cell (srcOf true c) (.cred true)) p 1 := by
  unfold Ow; rw [sum_peel _ h]; rw [← add_assoc, add_right_comm _ (tallyAt _ _ _)]
/-- What is owed from credit `q` going left on: that credit and the rest. -/
theorem Ow_q {c : Dev nD} {a b p q : ℕ} (h : q < 60) :
    Ow c a b p q = Ow c a b p (q + 1) + tallyAt (cell (srcOf false c) (.cred false)) q 1 := by
  unfold Ow; rw [sum_peel _ h]; rw [← add_assoc]
/-- After the last transfers and credits nothing is owed. -/
theorem Ow_end (c : Dev nD) : Ow c 62 62 60 60 = 0 := by
  unfold Ow; rw [Finset.Ico_self, Finset.Ico_self, Finset.sum_empty, Finset.sum_empty, Finset.sum_empty, Finset.sum_empty]; simp only [add_zero]

/-- The indices at which a cell has a level. -/
def L (g : GSem nD τ sig) : Finset ℕ := if g.1.2 = .tc then Finset.range 62 else ∅

/-- The level of a cell at an index: the barrier lowest, then arrivals and credits by their numbers; a device's own copies
    and departures below everything owed. -/
def lvl : Cl → ℕ → ℕ
  | .bar, _ => 1
  | .recv _ _, t => 2 * t + 3
  | .cred _, n => 2 * n + 6
  | _, _ => 0
/-- The level of a semaphore at an index. -/
def lv (g : GSem nD τ sig) (i : ℕ) : ℕ := match clOf g.2 with | none => 0 | some k => lvl k i

/-- The level of a cell is that of its class. -/
theorem lv_cell (c : Dev nD) (k : Cl) (i : ℕ) : lv (cell c k) i = lvl k i := by unfold lv; rw [clOf_semOf]
/-- Other threads' semaphores have no level. -/
theorem L_of_ne (g : GSem nD τ sig) (h : g.1.2 ≠ .tc) : L g = ∅ := if_neg h
/-- The kernel's semaphores have one at every index in use. -/
theorem L_tc (c : Dev nD) (sm : SemLoc sig) : L ((c : Thread nD τ), sm) = Finset.range 62 := if_pos rfl

/-- Where a sum of debts is positive, one of them is. -/
theorem sum_pos {s : Finset ℕ} {cl : ℕ → GSem nD τ sig} {n : ℕ} {g : GSem nD τ sig} {u : ℕ}
    (h : 0 < (∑ i ∈ s, tallyAt (Ix := ℕ) (cl i) i n) g u) : u ∈ s ∧ g = cl u := by
  rw [Finset.sum_apply, Finsupp.finset_sum_apply] at h
  obtain ⟨i, hi, hp⟩ := Finset.exists_ne_zero_of_sum_ne_zero (Nat.pos_iff_ne_zero.mp h)
  rw [tallyAt_apply] at hp
  by_cases hc : g = cl i ∧ u = i
  · obtain ⟨h1, h2⟩ := hc; subst h2; exact ⟨hi, h1⟩
  · rw [if_neg hc] at hp; exact absurd rfl hp

/-- Every debt is to a cell of the ring and lies above the levels already paid. -/
theorem Ow_pos {c : Dev nD} {a b p q : ℕ} {g : GSem nD τ sig} {u : ℕ} (h : 0 < Ow c a b p q g u) :
    u < 62 ∧ (∃ k x, g = cell x k) ∧ ((2 * a + 3 ≤ lv g u) ∨ (2 * b + 3 ≤ lv g u) ∨ (2 * p + 6 ≤ lv g u) ∨ (2 * q + 6 ≤ lv g u)) ∧ g.1.2 = .tc := by
  unfold Ow at h
  rw [Pi.add_apply, Finsupp.add_apply, Pi.add_apply, Finsupp.add_apply, Pi.add_apply, Finsupp.add_apply] at h
  have h' : 0 < (∑ t ∈ Finset.Ico a 62, tallyAt (Ix := ℕ) (cell (dstOf true c) (.recv true (slR t))) t NB) g u
      ∨ 0 < (∑ t ∈ Finset.Ico b 62, tallyAt (Ix := ℕ) (cell (dstOf false c) (.recv false (slR t))) t NB) g u
      ∨ 0 < (∑ n ∈ Finset.Ico p 60, tallyAt (Ix := ℕ) (cell (srcOf true c) (.cred true)) n 1) g u
      ∨ 0 < (∑ n ∈ Finset.Ico q 60, tallyAt (Ix := ℕ) (cell (srcOf false c) (.cred false)) n 1) g u := by omega
  rcases h' with h | h | h | h <;> obtain ⟨h1, rfl⟩ := sum_pos h <;> rw [Finset.mem_Ico] at h1
  · refine ⟨h1.2, ⟨_, _, rfl⟩, Or.inl ?_, rfl⟩; rw [lv_cell]; dsimp only [lvl]; omega
  · refine ⟨h1.2, ⟨_, _, rfl⟩, Or.inr (Or.inl ?_), rfl⟩; rw [lv_cell]; dsimp only [lvl]; omega
  · refine ⟨by omega, ⟨_, _, rfl⟩, Or.inr (Or.inr (Or.inl ?_)), rfl⟩; rw [lv_cell]; dsimp only [lvl]; omega
  · refine ⟨by omega, ⟨_, _, rfl⟩, Or.inr (Or.inr (Or.inr ?_)), rfl⟩; rw [lv_cell]; dsimp only [lvl]; omega

/-- A wait below everything still owed may be made. -/
theorem mayWait (c : Dev nD) (k : Cl) (i : ℕ) (hi : i < 62) (a b p q : ℕ)
    (h : lvl k i < 2 * a + 3 ∧ lvl k i < 2 * b + 3 ∧ lvl k i < 2 * p + 6 ∧ lvl k i < 2 * q + 6) :
    (levAts L lv : sProp 𝕄) ⊢ MayWait (c : Thread nD τ) (semOf k) i (Ow c a b p q) :=
  MayOwe.of_cut (L := L) (lev := lv) (lvl k i)
    (fun x hx => by rw [Finset.mem_singleton.mp hx, L_tc]; exact Finset.mem_range.mpr hi)
    (fun g u hg => by
      obtain ⟨h1, ⟨k', x, rfl⟩, _⟩ := Ow_pos hg
      rw [L_tc]; exact Finset.mem_range.mpr h1)
    (fun x hx => by rw [Finset.mem_singleton.mp hx]; exact (lv_cell c k i).le)
    (fun g u hg => by obtain ⟨_, _, h2, _⟩ := Ow_pos hg; omega)

end Cert.RingProof

end
-- ==== Proof.Slots.lean ====
module

public import proofs.«01_k».proof.Proof.Sched
public import proofs.«01_k».proof.Proof.Owes
public import Idealize.ShloMosaic.Lib.SparseCore.ProtocolKit
public import Idealize.ShloMosaic.Lib.ViewIndex

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! # Reading and writing slots -/

/-- The kernel declares no variants. -/
abbrev 𝒱₀ : Variants := Variants.none

/-- The weakest precondition of a piece of device `c`'s body. -/
abbrev run {α : Type} (c : Dev nD) (p : P F α) (Q : α → sProp 𝕄) : sProp 𝕄 :=
  wp frame (wpE (defs₀ (F := F)) 𝒱₀ (c : Thread nD τ) none) Set.univ p Q

/-- A program followed by another. -/
theorem run_bind {α β : Type} (c : Dev nD) (p : P F α) (k : α → P F β) (Q : β → sProp 𝕄) :
    run c (p >>= k) Q = run c p fun x => run c (k x) Q := wp_bind _ _ _ _ _ _
/-- A program that does nothing. -/
theorem run_pure {α : Type} (c : Dev nD) (a : α) (Q : α → sProp 𝕄) : Q a ⊢ run c (pure a : P F α) Q := by
  show Q a ⊢ run c (Prog.ret a) Q
  unfold run; rw [wp_ret]; iintro H; imodintro; iexact H

variable {e : EltTy}

/-- A slot's elements, as an array and as a part of its buffer. -/
theorem slotM_set (M : Memref sig .tc .vmem S2x64x8192 e) (s : Fin 2) : (slotM M s).view.set = (M.access (slotRect s)).set :=
  View.set_reshape _ _

/-- Reading a slot gives its contents. -/
theorem ldSlot_spec (c : Dev nD) (M : Memref sig .tc .vmem S2x64x8192 e) (s : Fin 2) (v : S1x64x8192.Idx → Elt F e) (Q : Vec F S1x64x8192 e → sProp 𝕄) :
    held c M s v ⊢ iprop((held c M s v -∗ Q v) -∗ run c (ldSlot M s) Q) := by
  unfold held ldSlot run
  iintro ⟨%f, %hf, H⟩ Hk
  iapply (wp_load_rect 𝒱₀ (c : Thread nD τ) none Set.univ (m := M) (r := slotRect s) (Finset.Subset.refl _)) $$ H
  iintro H
  rw [hf]
  rw [wp_ret]; imodintro
  iapply Hk
  iexists f
  isplitr; · ipureintro; exact hf
  iexact H

/-- Reading a slot at unknown contents gives something. -/
theorem ldSlot_any (c : Dev nD) (M : Memref sig .tc .vmem S2x64x8192 e) (s : Fin 2) (Q : Vec F S1x64x8192 e → sProp 𝕄) :
    heldE c M s ⊢ iprop((∀ v, heldE c M s -∗ Q v) -∗ run c (ldSlot M s) Q) := by
  unfold heldE ldSlot run
  iintro ⟨%f, H⟩ Hk
  iapply (wp_load_rect 𝒱₀ (c : Thread nD τ) none Set.univ (m := M) (r := slotRect s) (Finset.Subset.refl _)) $$ H
  iintro H
  rw [wp_ret]; imodintro
  iapply Hk
  iexists f
  iexact H

/-- Storing a whole slot. -/
theorem store_spec (c : Dev nD) (M : Memref sig .tc .vmem S2x64x8192 e) (s : Fin 2) (v : S1x64x8192.Idx → Elt F e)
    {hx : (M.access (slotRect s)).Stores Finset.univ} {hm : Finset.univ = Finset.univ ∨ ∀ a, (slotRect s).stride a = 1} (Q : PUnit → sProp 𝕄) :
    heldE c M s ⊢ iprop((held c M s v -∗ Q ⟨⟩) -∗ run c (Prog.lift (.store M (slotRect s) v Finset.univ hx hm)) Q) := by
  unfold held heldE run
  iintro ⟨%f, H⟩ Hk
  iapply (wp_store 𝒱₀ (c : Thread nD τ) none Set.univ (m := M) (r := slotRect s) (w := v) (Mk := Finset.univ)
    (S := (M.access (slotRect s)).set) (f := f) (hx := hx) (hm := hm) (Finset.Subset.refl _)) $$ H
  iintro H
  rw [wp_ret]; imodintro
  iapply Hk
  iexists ((M.access (slotRect s)).write (Elt F) f v Finset.univ)
  isplitr
  · ipureintro; exact View.read_write_univ _ _
  iexact H

/-- Filling a send slot. -/
theorem stSend_spec (c : Dev nD) (d : Bool) (s : Fin 2) (v : FVec F S1x64x8192 .bf16) (Q : PUnit → sProp 𝕄) :
    heldE c (bM .send d) s ⊢ iprop((held c (bM .send d) s v -∗ Q ⟨⟩) -∗ run c (stSend d s v) Q) := by
  unfold stSend
  iintro H Hk
  rw [run_bind]
  iapply (ldSlot_any c (bM .send d) s) $$ H
  iintro %_ H
  iapply (store_spec c (bM .send d) s v) $$ H
  iexact Hk

/-- What a slot written through its `64 × 8192` block with another slot's block reads: what that slot read. -/
theorem slot_copied {p : Dev nD} (c : Dev nD) (M M' : Memref sig .tc .vmem S2x64x8192 e) (s s' : Fin 2)
    (f : Buf (Elt F) ((slotM M s).view.loc (c : Thread nD τ))) (f' : Buf (Elt F) ((slotM M' s').view.loc (p : Thread nD τ)))
    (v : S1x64x8192.Idx → Elt F e) (hv : (M.access (slotRect s)).read (Elt F) f = v) :
    (M'.access (slotRect s')).read (Elt F) ((slotM M' s').view.write (Elt F) f' ((slotM M s).view.read (Elt F) f) Finset.univ) = v := by
  funext x
  obtain ⟨y, rfl⟩ := (Shape.reshapeEquiv (s := S1x64x8192) (s' := S64x8192) squeezes_S1x64x8192_S64x8192.numel_eq).surjective x
  have h := View.read_write_reshape (M'.access (slotRect s')) squeezes_S1x64x8192_S64x8192.numel_eq f' ((slotM M s).view.read (Elt F) f) y
  exact h.trans (congrFun hv _)

/-- What a block of the result copied from a staging slot reads: what the slot read, as a `64 × 8192` block. -/
theorem out_copied (c : Dev nD) (d d' : Bool) (k : Fin 32) (s : Fin 2)
    (f : Buf (Elt F) ((slotM (gM d) s).view.loc (c : Thread nD τ))) (f' : Buf (Elt F) ((outP d' c k).view.loc (c : Thread nD τ)))
    (v : S1x64x8192.Idx → Elt F .f32) (hv : ((gM d).access (slotRect s)).read (Elt F) f = v) :
    (outP d' c k).view.read (Elt F) ((outP d' c k).view.write (Elt F) f' ((slotM (gM d) s).view.read (Elt F) f) Finset.univ) = flat v := by
  rw [View.read_write_univ]
  funext y
  exact congrFun hv _

end Cert.RingProof

end
-- ==== Proof.Steps.lean ====
module

public import proofs.«01_k».proof.Proof.Slots

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! # One lemma per step of the protocol -/

variable (X : (c : Dev nD) → Buf (Elt F) ((xM : Memref sig .tc _ _ _).view.loc (c : Thread nD τ)))
  (Wt : (c : Dev nD) → Buf (Elt F) ((wM : Memref sig .tc _ _ _).view.loc (c : Thread nD τ)))

/-! ## What every device knows: the cells' invariants, round 0 reached, the levels -/

/-- What every device knows throughout: the cells' invariants, their first rounds and the levels. -/
def records (K : Dev nD × Cl → ℕ) : sProp 𝕄 :=
  iprop(bigSep Finset.univ (fun ck : Dev nD × Cl => cellInv ER (Rd X Wt) (K ck) (cell ck.1 ck.2))
    ∗ bigSep Finset.univ (fun ck : Dev nD × Cl => reached ER (cell ck.1 ck.2) 0) ∗ (levAts L lv : sProp 𝕄))

/-- It may be used any number of times. -/
instance records_persistent (K : Dev nD × Cl → ℕ) : BI.Persistent (records X Wt K) := by unfold records; infer_instance

variable (K : Dev nD × Cl → ℕ)

/-- It contains each cell's invariant, -/
theorem inv_of (c : Dev nD) (k : Cl) : records X Wt K ⊢ cellInv ER (Rd X Wt) (K (c, k)) (cell c k) := by
  unfold records
  exact sep_elim_left.trans (bigSep_elim (Φ := fun ck : Dev nD × Cl => cellInv ER (Rd X Wt) (K ck) (cell ck.1 ck.2)) (Finset.mem_univ (c, k)))
/-- that each cell's first round has been reached, -/
theorem reached_of (c : Dev nD) (k : Cl) : records X Wt K ⊢ reached ER (cell c k) 0 := by
  unfold records
  exact sep_elim_right.trans (sep_elim_left.trans (bigSep_elim (Φ := fun ck : Dev nD × Cl => reached ER (cell ck.1 ck.2) 0) (Finset.mem_univ (c, k))))
/-- and the levels. -/
theorem lev_of : records X Wt K ⊢ (levAts L lv : sProp 𝕄) := by
  unfold records
  iintro ⟨-, -, H⟩
  iexact H

/-- A wait below everything still owed may be made. -/
theorem may_of (c : Dev nD) (k : Cl) (i : ℕ) (hi : i < 62) (a b p q : ℕ)
    (h : lvl k i < 2 * a + 3 ∧ lvl k i < 2 * b + 3 ∧ lvl k i < 2 * p + 6 ∧ lvl k i < 2 * q + 6) :
    records X Wt K ⊢ MayWait (c : Thread nD τ) (semOf k) i (Ow c a b p q) := by
  have h1 := mayWait (F := F) c k i hi a b p q h
  unfold records
  iintro ⟨-, -, H⟩
  iapply h1; iexact H

/-! ## Positions -/

/-- A device's positions at the two cells of a pair after `t` uses of the pair. -/
def pos2 (c : Dev nD) (k : Fin 2 → Cl) (sl : ℕ → Fin 2) (t : ℕ) : sProp 𝕄 :=
  iprop((atPos ER (cell c (k 0)) (cnt sl 0 t) ∅ 0 ∗ reached ER (cell c (k 0)) (cnt sl 0 t))
    ∗ (atPos ER (cell c (k 1)) (cnt sl 1 t) ∅ 0 ∗ reached ER (cell c (k 1)) (cnt sl 1 t)))

/-- One use of a pair of cells moves the position at the cell used. -/
theorem pos2_step (c : Dev nD) (k : Fin 2 → Cl) (sl : ℕ → Fin 2) (t : ℕ) :
    (pos2 c k sl t : sProp 𝕄) ⊢ iprop(atPos ER (cell c (k (sl t))) (cnt sl (sl t) t) ∅ 0
      ∗ ((atPos ER (cell c (k (sl t))) (cnt sl (sl t) t + 1) ∅ 0 ∗ reached ER (cell c (k (sl t))) (cnt sl (sl t) t + 1)) -∗ pos2 c k sl (t + 1))) := by
  unfold pos2
  rcases (show sl t = 0 ∨ sl t = 1 by have := (sl t).isLt; rcases h : sl t with ⟨i, hi⟩; match i, hi with | 0, _ => exact Or.inl rfl | 1, _ => exact Or.inr rfl) with h | h
  · have h' : sl t ≠ 1 := by rw [h]; decide
    rw [cnt_succ_eq h, cnt_succ_ne h', h]
    iintro ⟨⟨H0, -⟩, H1⟩
    isplitl [H0]; · iexact H0
    iintro H
    isplitl [H]; · iexact H
    iexact H1
  · have h' : sl t ≠ 0 := by rw [h]; decide
    rw [cnt_succ_eq h, cnt_succ_ne h', h]
    iintro ⟨H0, ⟨H1, -⟩⟩
    isplitl [H1]; · iexact H1
    iintro H
    isplitl [H0]; · iexact H0
    iexact H

/-- The position at a pair shows which rounds have been reached. -/
theorem pos2_reached (c : Dev nD) (k : Fin 2 → Cl) (sl : ℕ → Fin 2) (t : ℕ) (s : Fin 2) :
    (pos2 c k sl t : sProp 𝕄) ⊢ iprop(pos2 c k sl t ∗ reached ER (cell c (k s)) (cnt sl s t)) := by
  unfold pos2
  iintro ⟨⟨Ha, #Hra⟩, ⟨Hb, #Hrb⟩⟩
  isplitl [Ha Hb]
  · isplitl [Ha]
    · isplitl [Ha]; · iexact Ha
      iexact Hra
    isplitl [Hb]; · iexact Hb
    iexact Hrb
  match s with
  | 0 => iexact Hra
  | 1 => iexact Hrb

/-! ## Waiting -/

/-- What a device owes, its waits so far left open. -/
def owesE (c : Dev nD) (O : CellTallies nD τ sig ℕ) : sProp 𝕄 := iprop(∃ W, owes (c : Thread nD τ) O W)

/-- A debt with its waits is a debt. -/
theorem owesE_intro (c : Dev nD) (O : CellTallies nD τ sig ℕ) (W : Waits sig ℕ) : (owes (c : Thread nD τ) O W : sProp 𝕄) ⊢ owesE c O := by
  unfold owesE; iintro H; iexists W; iexact H

/-- A debt comes with some waits. -/
theorem owesE_elim (c : Dev nD) (O : CellTallies nD τ sig ℕ) : (owesE c O : sProp 𝕄) ⊢ iprop(∃ W, owes (c : Thread nD τ) O W) := by
  unfold owesE; iintro H; iexact H

/-- A wait for a round with one duty. -/
theorem wait_one (c : Dev nD) (k : Cl) (n r : ℕ) (hn : n < 62) (hd : dut k r = {n}) (a b p q : ℕ)
    (hl : lvl k n < 2 * a + 3 ∧ lvl k n < 2 * b + 3 ∧ lvl k n < 2 * p + 6 ∧ lvl k n < 2 * q + 6)
    {w : TpuEff nD τ sig (Elt F) Λ₀ .tc PUnit} {N : ℕ} (hN : N = amt k)
    (hw : ∀ K' : PUnit → sProp 𝕄, wpE (defs₀ (F := F)) 𝒱₀ (c : Thread nD τ) none Set.univ w K' = waitSpec (c : Thread nD τ) Set.univ (semOf k) N K')
    (Q : PUnit → sProp 𝕄) :
    iprop(records X Wt K ∗ cred (tallyAt (cell c k) n (amt k)) ∗ owesE c (Ow c a b p q) ∗ atPos ER (cell c k) r ∅ 0)
      ⊢ iprop(((owesE c (Ow c a b p q) ∗ (atPos ER (cell c k) (r + 1) ∅ 0 ∗ reached ER (cell c k) (r + 1)) ∗ pay X Wt c k n) -∗ Q ⟨⟩)
        -∗ run c (Prog.lift w) Q) := by
  subst hN
  unfold run
  iintro ⟨#HR, Hc, HO, Hat⟩ Hk
  icases (owesE_elim c _) $$ HO with ⟨%W, HO⟩
  iapply (Rounds.wp_wait_rest_token 𝒱₀ ER (Rd X Wt) (c : Thread nD τ) none (κ := K (c, k)) hw (Set.mem_univ _) n (O := Ow c a b p q) (W := W) (R := r) (m := 0) (T := ∅)
    (by rw [Nat.zero_add]; exact (expect_one X Wt c k r n hd).symm)) $$ [Hc HO Hat]
  · isplitr; · iapply (inv_of X Wt K c k); iexact HR
    isplitl [Hc]; · iexact Hc
    isplitl [HO]; · iexact HO
    isplitr; · iapply (may_of X Wt K c k n hn a b p q hl); iexact HR
    iexact Hat
  iintro ⟨HO, Hat, Hre, Hp⟩
  rw [wp_ret]; imodintro
  iapply Hk
  isplitl [HO]; · iapply (owesE_intro c _ _) $$ HO
  isplitl [Hat Hre]; · isplitl [Hat] <;> iassumption
  iapply (Entails.of_eq (rest_one X Wt c k r n hd)); iexact Hp

/-! ## Transfers -/

/-- The positions at the departure cells after `t` transfers. -/
def sendPos (c : Dev nD) (d : Bool) (t : ℕ) : sProp 𝕄 := pos2 c (Cl.send d) slS t
/-- The positions at the arrival cells after `t` transfers. -/
def recvPos (c : Dev nD) (d : Bool) (t : ℕ) : sProp 𝕄 := pos2 c (Cl.recv d) slR t
/-- The positions at the copy cells after `k` blocks. -/
def copyPos (c : Dev nD) (d : Bool) (k : ℕ) : sProp 𝕄 := pos2 c (Cl.cp d) slC k

/-- What device `c` spends on transfer `t`: the right to count its departure, the right to count its arrival at the
    neighbour, and the credit for the arrival of the transfer it receives. -/
def xtok (c : Dev nD) (d : Bool) (t : ℕ) : sProp 𝕄 :=
  iprop(dutyTok ER (cell c (.send d (slS t))) (cnt slS (slS t) t) t
    ∗ dutyTok ER (cell (dstOf d c) (.recv d (slR t))) (cnt slR (slR t) t) t)
/-- The right to wait for the arrival of transfer `t`. -/
def xcred (c : Dev nD) (d : Bool) (t : ℕ) : sProp 𝕄 := cred (tallyAt (cell c (.recv d (slR t))) t NB)

/-- Starting transfer `t`. -/
theorem xfer_spec (c : Dev nD) (d : Bool) (t : ℕ) (ht : t < 62) (b : Buf3) (s r q : Fin 2) (hb : b = srcB t) (hs : s = par t) (hr : r = slR t)
    (hq : q = slS t) (O : CellTallies nD τ sig ℕ) {O' : CellTallies nD τ sig ℕ}
    (hO : O' = O + tallyAt (cell (dstOf d c) (.recv d (slR t))) t NB) (Q : PUnit → sProp 𝕄) :
    iprop(records X Wt K ∗ owesE c O' ∗ held c (bM (srcB t) d) (par t) (xval X Wt d t c) ∗ free (dstOf d c) d t ∗ extra (dstOf d c) d t
        ∗ xtok c d t ∗ sendPos c d t)
      ⊢ iprop(((owesE c O ∗ cred (tallyAt (cell c (.send d (slS t))) t NB) ∗ sendPos c d t) -∗ Q ⟨⟩)
        -∗ run c (xfer c b d s r q) Q) := by
  subst hb; subst hs; subst hr; subst hq
  unfold held free heldE xtok xfer sendPos run
  iintro ⟨#HR, HO, ⟨%f, %hf, Hs⟩, ⟨⟨%fd, Hd⟩, #Hrd⟩, Hx, ⟨Ht1, Ht2⟩, Hp⟩ Hk
  icases (owesE_elim c _) $$ HO with ⟨%W, HO⟩
  icases (pos2_reached c (Cl.send d) slS t (slS t)) $$ Hp with ⟨Hp, #Hrs⟩
  iapply (Rounds.wp_send_pointsTo_with 𝒱₀ ER (Rd X Wt) (c : Thread nD τ) none (κ₁ := K (c, .send d (slS t))) (κ₂ := K (dstOf d c, .recv d (slR t)))
    (c' := (dstOf d c : Thread nD τ)) (src := slotM (bM (srcB t) d) (par t)) (dst := slotM (bM .recv d) (slR t))
    (sS := .dma (semAt (sendS d) (slS t))) (sem := .dma (semAt (recvS d) (slR t)))
    (q := fullShare) (fs := f) (fd := fd) (F := extra (dstOf d c) d t)
    (r₁ := cnt slS (slS t) t) (r₂ := cnt slR (slR t) t) (d₁ := t) (d₂ := t)
    (by rw [show ((c : Thread nD τ), SemLoc.dma (semAt (sendS d) (slS t))) = cell c (.send d (slS t)) from rfl, duties_cell, dut_send d ht]; exact Finset.mem_singleton_self _)
    (by rw [show ((dstOf d c : Thread nD τ), SemLoc.dma (semAt (recvS d) (slR t))) = cell (dstOf d c) (.recv d (slR t)) from rfl, duties_cell, dut_recv d ht]; exact Finset.mem_singleton_self _)
    t t NB (credit_slot .recv d (slR t))
    (amount_cell X Wt c (.send d (slS t)) _ _) (amount_cell X Wt (dstOf d c) (.recv d (slR t)) _ _) O hO (W := W)
    (by
      rw [show ((c : Thread nD τ), SemLoc.dma (semAt (sendS d) (slS t))) = cell c (.send d (slS t)) from rfl, payload_cell, slotM_set]
      show _ ⊢ held (F := F) _ _ _ _
      unfold held
      iintro H; iexists f
      isplitr; · ipureintro; exact hf
      iexact H)
    (by
      rw [show ((dstOf d c : Thread nD τ), SemLoc.dma (semAt (recvS d) (slR t))) = cell (dstOf d c) (.recv d (slR t)) from rfl, payload_cell, slotM_set]
      show _ ⊢ iprop(held (dstOf d c) (bM .recv d) (slR t) (xval X Wt d t (srcOf d (dstOf d c))) ∗ extra (dstOf d c) d t)
      rw [src_dst]
      unfold held
      iintro ⟨H, Hx⟩
      isplitl [H]
      · iexists _
        isplitr
        rotate_left
        · iexact H
        · ipureintro
          exact slot_copied c (bM (srcB t) d) (bM .recv d) (par t) (slR t) f fd _ hf
      iexact Hx))
    $$ [Hs Hd Hx HO Ht1 Ht2]
  · isplitr; · iapply (inv_of X Wt K c (.send d (slS t))); iexact HR
    isplitr; · iapply (inv_of X Wt K (dstOf d c) (.recv d (slR t))); iexact HR
    rw [slotM_set, slotM_set]
    isplitl [Hs]; · iexact Hs
    isplitl [Hd Hx]; · isplitl [Hd] <;> iassumption
    isplitl [HO]; · iexact HO
    isplitl [Ht1]; · iexact Ht1
    isplitr; · iexact Hrs
    isplitl [Ht2]; · iexact Ht2
    iexact Hrd
  iintro ⟨Hc, HO⟩
  rw [wp_ret]; imodintro
  iapply Hk
  isplitl [HO]; · iapply (owesE_intro c _ _) $$ HO
  isplitl [Hc]; · iexact Hc
  iexact Hp

/-- Waiting for the departure and the arrival of transfer `t`. -/
theorem await_spec (c : Dev nD) (d : Bool) (t : ℕ) (ht : t < 62) (b : Buf3) (s r q : Fin 2) (hb : b = srcB t) (hs : s = par t) (hr : r = slR t)
    (hq : q = slS t) (a b' p p' : ℕ) (hl : t < a ∧ t < b' ∧ t < p + 2 ∧ t < p' + 2) (Q : PUnit → sProp 𝕄) :
    iprop(records X Wt K ∗ owesE c (Ow c a b' p p') ∗ cred (tallyAt (cell c (.send d (slS t))) t NB) ∗ xcred c d t ∗ sendPos c d t ∗ recvPos c d t)
      ⊢ iprop(((owesE c (Ow c a b' p p') ∗ sendPos c d (t + 1) ∗ recvPos c d (t + 1) ∗ held c (bM (srcB t) d) (par t) (xval X Wt d t c)
          ∗ held c (bM .recv d) (slR t) (xval X Wt d t (srcOf d c)) ∗ extra c d t) -∗ Q ⟨⟩)
        -∗ run c (await b d s r q) Q) := by
  subst hb; subst hs; subst hr; subst hq
  unfold xcred await sendPos recvPos
  iintro ⟨#HR, HO, Hcs, Hcr, Hps, Hpr⟩ Hk
  rw [run_bind]
  icases (pos2_step c (Cl.send d) slS t) $$ Hps with ⟨Hat, Hps⟩
  iapply (wait_one X Wt K c (.send d (slS t)) t _ ht (dut_send d ht) a b' p p' (by dsimp only [lvl]; omega) (N := (slotM (bM (srcB t) d) (par t)).view.dmaCredit)
    (credit_slot _ _ _) (wpE_waitDma2_eq 𝒱₀ (c : Thread nD τ) none Set.univ)) $$ [HO Hcs Hat]
  · isplitr; · iexact HR
    isplitl [Hcs]; · iexact Hcs
    isplitl [HO] <;> iassumption
  iintro ⟨HO, Hat, Hsrc⟩
  ihave Hps := Hps $$ Hat
  icases (pos2_step c (Cl.recv d) slR t) $$ Hpr with ⟨Hat, Hpr⟩
  iapply (wait_one X Wt K c (.recv d (slR t)) t _ ht (dut_recv d ht) a b' p p' (by dsimp only [lvl]; omega) (N := (slotM (bM .recv d) (slR t)).view.dmaCredit)
    (credit_slot _ _ _) (wpE_waitDma2_eq 𝒱₀ (c : Thread nD τ) none Set.univ)) $$ [HO Hcr Hat]
  · isplitr; · iexact HR
    isplitl [Hcr]; · iexact Hcr
    isplitl [HO] <;> iassumption
  iintro ⟨HO, Hat, Hdst⟩
  ihave Hpr := Hpr $$ Hat
  iapply Hk
  unfold pay
  icases Hdst with ⟨Hdst, Hx⟩
  isplitl [HO]; · iexact HO
  isplitl [Hps]; · iexact Hps
  isplitl [Hpr]; · iexact Hpr
  isplitl [Hsrc]; · iexact Hsrc
  isplitl [Hdst] <;> iassumption

/-! ## Credits -/

/-- A device's position at its credit cell of a direction after `k` credits taken. -/
def credPos (c : Dev nD) (d : Bool) (k : ℕ) : sProp 𝕄 :=
  if k < 31 then iprop(∃ T, atPos ER (cell c (.cred d)) 0 T k)
  else iprop(atPos ER (cell c (.cred d)) (k - 30) ∅ 0 ∗ reached ER (cell c (.cred d)) (k - 30))

/-- What the `k`-th credit taken brings. -/
def credPay (c : Dev nD) (d : Bool) (k : ℕ) : sProp 𝕄 := if k < 31 then iprop(emp) else free (dstOf d c) d (k + 2)

/-- The right to grant credit `n` to the upstream neighbour. -/
def gtok (c : Dev nD) (d : Bool) (n : ℕ) : sProp 𝕄 := dutyTok ER (cell (srcOf d c) (.cred d)) (n - 30) n
/-- The right to wait for credit `k`. -/
def gcred (c : Dev nD) (d : Bool) (k : ℕ) : sProp 𝕄 := cred (tallyAt (cell c (.cred d)) k 1)

/-- Granting a credit pays one debt and gives away the freed slot that goes with it. -/
theorem grant_spec (c : Dev nD) (d : Bool) (n : ℕ) (hn : n < 60) (O : CellTallies nD τ sig ℕ) {O' : CellTallies nD τ sig ℕ}
    (hO : O' = O + tallyAt (cell (srcOf d c) (.cred d)) n 1) (Q : PUnit → sProp 𝕄) :
    iprop(records X Wt K ∗ owesE c O' ∗ gtok c d n ∗ reached ER (cell (srcOf d c) (.cred d)) (n - 30) ∗ credPay (srcOf d c) d n)
      ⊢ iprop((owesE c O -∗ Q ⟨⟩) -∗ run c (grant c d) Q) := by
  unfold grant gtok run
  simp only [semSignalWord, Prog.lift, Prog.bind_op, Prog.bind_ret, Prog.pure_eq_ret]
  iintro ⟨#HR, HO, Ht, #Hr, Hp⟩ Hk
  icases (owesE_elim c _) $$ HO with ⟨%W, HO⟩
  iapply (Rounds.wp_signal 𝒱₀ ER (Rd X Wt) (c : Thread nD τ) none (dst := (srcOf d c : Thread nD τ)) (sem := (credS d).sem) (κ := K (srcOf d c, .cred d))
      (r := n - 30) (d := n)
      (by
        rw [show ((srcOf d c : Thread nD τ), SemLoc.reg (credS d).sem) = cell (srcOf d c) (.cred d) from rfl, duties_cell]
        exact Finset.mem_filter.mpr ⟨Finset.mem_range.mpr hn, rfl⟩)
      (amount_cell X Wt (srcOf d c) (.cred d) _ _) n O hO (W := W))
    $$ [HO Ht Hp]
  · isplitr; · iapply (inv_of X Wt K (srcOf d c) (.cred d)); iexact HR
    isplitl [HO]; · iexact HO
    isplitl [Ht]; · iexact Ht
    isplitl [Hp]
    · rw [show ((srcOf d c : Thread nD τ), SemLoc.reg (credS d).sem) = cell (srcOf d c) (.cred d) from rfl, payload_cell]
      unfold pay credPay; iexact Hp
    iexact Hr
  iintro HO
  first | (rw [wp_ret]; imodintro) | skip
  iapply Hk
  iapply (owesE_intro c _ _) $$ HO

/-- Taking a credit brings what goes with it. -/
theorem take_spec (c : Dev nD) (d : Bool) (k : ℕ) (hk : k < 60) (a b p q : ℕ)
    (hl : k + 1 < a ∧ k + 1 < b ∧ k < p ∧ k < q) (Q : PUnit → sProp 𝕄) :
    iprop(records X Wt K ∗ owesE c (Ow c a b p q) ∗ gcred c d k ∗ credPos c d k)
      ⊢ iprop(((owesE c (Ow c a b p q) ∗ credPos c d (k + 1) ∗ credPay c d k) -∗ Q ⟨⟩) -∗ run c (take d) Q) := by
  have hlv : lvl (.cred d) k < 2 * a + 3 ∧ lvl (.cred d) k < 2 * b + 3 ∧ lvl (.cred d) k < 2 * p + 6 ∧ lvl (.cred d) k < 2 * q + 6 := by
    dsimp only [lvl]; omega
  unfold take gcred
  simp only [semWaitWord]
  by_cases h31 : 31 ≤ k
  · rw [show credPos (F := F) c d k = iprop(atPos ER (cell c (.cred d)) (k - 30) ∅ 0 ∗ reached ER (cell c (.cred d)) (k - 30)) from if_neg (by omega),
      show credPos (F := F) c d (k + 1) = iprop(atPos ER (cell c (.cred d)) (k + 1 - 30) ∅ 0 ∗ reached ER (cell c (.cred d)) (k + 1 - 30)) from if_neg (by omega),
      show k + 1 - 30 = k - 30 + 1 by omega]
    iintro ⟨#HR, HO, Hc, Hat, -⟩ Hk
    iapply (wait_one X Wt K c (.cred d) k (k - 30) (by omega) (dut_cred_late d h31 hk) a b p q hlv (N := 1) rfl
      (wpE_semWait_eq 𝒱₀ (c : Thread nD τ) none Set.univ)) $$ [HO Hc Hat]
    · isplitr; · iexact HR
      isplitl [Hc]; · iexact Hc
      isplitl [HO] <;> iassumption
    iintro ⟨HO, Hat, Hp⟩
    iapply Hk
    isplitl [HO]; · iexact HO
    isplitl [Hat]; · iexact Hat
    unfold credPay pay; iexact Hp
  · have hlt : k < 31 := by omega
    rw [show credPos (F := F) c d k = iprop(∃ T, atPos ER (cell c (.cred d)) 0 T k) from if_pos hlt,
      show credPay (F := F) c d k = iprop(emp) from if_pos hlt]
    unfold run
    iintro ⟨#HR, HO, Hc, ⟨%T, Hat⟩⟩ Hk
    icases (owesE_elim c _) $$ HO with ⟨%W, HO⟩
    by_cases h30 : k = 30
    · subst h30
      iapply (Rounds.wp_wait_rest_token 𝒱₀ ER (Rd X Wt) (c : Thread nD τ) none (κ := K (c, .cred d)) (wpE_semWait_eq 𝒱₀ (c : Thread nD τ) none Set.univ) (Set.mem_univ _) 30
        (sm := semOf (.cred d)) (k' := 1) (O := Ow c a b p q) (W := W) (R := 0) (m := 30) (T := T)
        (by rw [show (((c : Thread nD τ), semOf (.cred d)) : GSem nD τ sig) = cell c (.cred d) from rfl, expect_cell, dut_cred_zero, Finset.card_range]; rfl)) $$ [Hc HO Hat]
      · isplitr; · iapply (inv_of X Wt K c (.cred d)); iexact HR
        isplitl [Hc]; · iexact Hc
        isplitl [HO]; · iexact HO
        isplitr; · iapply (may_of X Wt K c (.cred d) 30 (by omega) a b p q hlv); iexact HR
        iexact Hat
      iintro ⟨HO, Hat, Hre, -⟩
      rw [wp_ret]; imodintro
      iapply Hk
      isplitl [HO]; · iapply (owesE_intro c _ _) $$ HO
      isplitl
      · rw [show credPos (F := F) c d (30 + 1) = iprop(atPos ER (cell c (.cred d)) 1 ∅ 0 ∗ reached ER (cell c (.cred d)) 1) from if_neg (by omega)]
        isplitl [Hat] <;> iassumption
      iempintro
    · iapply (Rounds.wp_wait 𝒱₀ ER (Rd X Wt) (c : Thread nD τ) none (κ := K (c, .cred d)) (wpE_semWait_eq 𝒱₀ (c : Thread nD τ) none Set.univ) (Set.mem_univ _)
        (sm := semOf (.cred d)) (k' := 1) (cr := Finsupp.single k 1) (O := Ow c a b p q) (W := W) {(semOf (.cred d), k)} (R := 0) (m := k) (T := T)
        (by rw [Util.total_single]) (image_single_subset _ _ _)) $$ [Hc HO Hat]
      · isplitr; · iapply (inv_of X Wt K c (.cred d)); iexact HR
        isplitl [Hc]; · iexact Hc
        isplitl [HO]; · iexact HO
        isplitr; · iapply (may_of X Wt K c (.cred d) k (by omega) a b p q hlv); iexact HR
        iexact Hat
      iintro %S ⟨-, HO, Hat, -⟩
      rw [wp_ret]; imodintro
      iapply Hk
      isplitl [HO]; · iapply (owesE_intro c _ _) $$ HO
      isplitl
      · rw [show credPos (F := F) c d (k + 1) = iprop(∃ T, atPos ER (cell c (.cred d)) 0 T (k + 1)) from if_pos (by omega)]
        iexists S; iexact Hat
      iempintro

/-! ## Result blocks -/

/-- The right to start the copy of result block `k`. -/
def ctok (c : Dev nD) (d : Bool) (k : ℕ) : sProp 𝕄 := dutyTok ER (cell c (.cp d (slC k))) (cnt slC (slC k) k) k
/-- The right to wait for the copy of result block `k`. -/
def ccred (c : Dev nD) (d : Bool) (k : ℕ) : sProp 𝕄 := cred (tallyAt (cell c (.cp d (slC k))) k NC)

/-- Staging result block `k` and starting its copy. -/
theorem emit_spec (c : Dev nD) (d : Bool) (k : ℕ) (hk : k < 32) (s : Fin 2) (hs : s = slC k) (k' : Fin 32) (hk' : k' = k32 k)
    (v : FVec F S1x64x8192 .f32) (hv : v = oval3 X Wt d c k) (Q : PUnit → sProp 𝕄) :
    iprop(records X Wt K ∗ heldE c (gM d) (slC k) ∗ outE c d (k32 k) ∗ ctok c d k ∗ reached ER (cell c (.cp d (slC k))) (cnt slC (slC k) k))
      ⊢ iprop((ccred c d k -∗ Q ⟨⟩) -∗ run c (emit c d s k' v) Q) := by
  subst hs; subst hk'; subst hv
  unfold emit outE ctok ccred
  iintro ⟨#HR, Hg, ⟨%fo, Ho⟩, Ht, #Hr⟩ Hk
  rw [run_bind]
  iapply (ldSlot_any c (gM d) (slC k)) $$ Hg
  iintro %_ Hg
  rw [run_bind]
  iapply (store_spec c (gM d) (slC k) (oval3 X Wt d c k)) $$ Hg
  unfold held run
  iintro ⟨%f, %hf, Hg⟩
  iapply (Rounds.wp_copy_pointsTo 𝒱₀ ER (Rd X Wt) (c : Thread nD τ) none (κ := K (c, .cp d (slC k)))
    (src := slotM (gM d) (slC k)) (dst := outP d c (k32 k)) (sem := .dma (semAt (copyS d) (slC k)))
    (q := fullShare) (fs := f) (fd := fo) (r := cnt slC (slC k) k) (d := k)
    (by rw [show ((c : Thread nD τ), SemLoc.dma (semAt (copyS d) (slC k))) = cell c (.cp d (slC k)) from rfl, duties_cell, dut_cp d hk]; exact Finset.mem_singleton_self _)
    k NC (credit_out d c (k32 k)) (amount_cell X Wt c (.cp d (slC k)) _ _)
    (by
      rw [show ((c : Thread nD τ), SemLoc.dma (semAt (copyS d) (slC k))) = cell c (.cp d (slC k)) from rfl, payload_cell, slotM_set]
      unfold pay outHeld heldE
      iintro ⟨H, Hg⟩
      isplitl [H]
      · iexists _
        isplitr
        rotate_left
        · iexact H
        · ipureintro
          exact out_copied c d d (k32 k) (slC k) f fo _ hf
      iexists f; iexact Hg))
    $$ [Hg Ho Ht]
  · isplitr; · iapply (inv_of X Wt K c (.cp d (slC k))); iexact HR
    rw [slotM_set]
    isplitl [Hg]; · iexact Hg
    isplitl [Ho]; · iexact Ho
    isplitl [Ht]; · iexact Ht
    iexact Hr
  iintro Hc
  rw [wp_ret]; imodintro
  iapply Hk
  iexact Hc

/-- Waiting for the copy of result block `k`: the block is written and its staging slot free. -/
theorem drain_spec (c : Dev nD) (d : Bool) (k : ℕ) (hk : k < 32) (s : Fin 2) (hs : s = slC k) (k' : Fin 32) (hk' : k' = k32 k)
    (a b p q : ℕ) (Q : PUnit → sProp 𝕄) :
    iprop(records X Wt K ∗ owesE c (Ow c a b p q) ∗ ccred c d k ∗ copyPos c d k)
      ⊢ iprop(((owesE c (Ow c a b p q) ∗ copyPos c d (k + 1) ∗ outHeld c d (k32 k) (flat (oval3 X Wt d c k)) ∗ heldE c (gM d) (slC k)) -∗ Q ⟨⟩)
        -∗ run c (drain c d s k') Q) := by
  subst hs; subst hk'
  unfold drain ccred copyPos
  iintro ⟨#HR, HO, Hc, Hp⟩ Hk
  icases (pos2_step c (Cl.cp d) slC k) $$ Hp with ⟨Hat, Hp⟩
  iapply (wait_one X Wt K c (.cp d (slC k)) k _ (by omega) (dut_cp d hk) a b p q (by dsimp only [lvl]; omega) (N := (outP d c (k32 k)).view.dmaCredit)
    (credit_out _ _ _) (wpE_waitDma2_eq 𝒱₀ (c : Thread nD τ) none Set.univ)) $$ [HO Hc Hat]
  · isplitr; · iexact HR
    isplitl [Hc]; · iexact Hc
    isplitl [HO] <;> iassumption
  iintro ⟨HO, Hat, Hpay⟩
  ihave Hp := Hp $$ Hat
  iapply Hk
  unfold pay
  isplitl [HO]; · iexact HO
  isplitl [Hp] <;> iassumption

end Cert.RingProof

end
-- ==== Proof.Loop.lean ====
module

public import proofs.«01_k».proof.Proof.Steps
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! # The two loops -/

variable (X : (c : Dev nD) → Buf (Elt F) ((xM : Memref sig .tc _ _ _).view.loc (c : Thread nD τ)))
  (Wt : (c : Dev nD) → Buf (Elt F) ((wM : Memref sig .tc _ _ _).view.loc (c : Thread nD τ)))
variable (K : Dev nD × Cl → ℕ)

/-! ## The two operands -/

/-- The kernel's copy of the device's columns of `x`. -/
def xPts (c : Dev nD) : sProp 𝕄 := iprop((xM : Memref sig .tc _ _ _).view.loc (c : Thread nD τ) ↦{fullShare} X c)
/-- The kernel's copy of the device's rows of `w`. -/
def wPts (c : Dev nD) : sProp 𝕄 := iprop((wM : Memref sig .tc _ _ _).view.loc (c : Thread nD τ) ↦{fullShare} Wt c)

/-- Reading 64 rows of the copy of `x`. -/
theorem ldX_spec (c : Dev nD) (off : Fin 2 → Nat) (h : ∀ a, off a + S64x128.size a ≤ S4096x128.size a) (Q : Vec F S64x128 .bf16 → sProp 𝕄) :
    xPts X c ⊢ iprop((xPts X c -∗ Q (xrows X c off h)) -∗ run c (ldX off h) Q) := by
  unfold xPts xrows ldX run
  iintro H Hk
  iapply (wp_load 𝒱₀ (c : Thread nD τ) none Set.univ (m := xM) (f := X c) (Finset.subset_univ _)) $$ H
  iintro H
  rw [wp_ret]; imodintro
  iapply Hk; iexact H

/-- Reading the copy of `w`. -/
theorem ldW_spec (c : Dev nD) (Q : Vec F S128x8192 .bf16 → sProp 𝕄) :
    wPts Wt c ⊢ iprop((wPts Wt c -∗ Q (wrows Wt c)) -∗ run c ldW Q) := by
  unfold wPts wrows ldW run
  iintro H Hk
  iapply (wp_load 𝒱₀ (c : Thread nD τ) none Set.univ (m := wM) (f := Wt c) (Finset.subset_univ _)) $$ H
  iintro H
  rw [wp_ret]; imodintro
  iapply Hk; iexact H

/-! ## Slots changing hands -/

/-- Two transfers on, the receive slot is the same. -/
theorem slR_add_two (t : ℕ) : slR (t + 2) = slR t := par_add_two (t + 1)

/-- Once transfer `t` into a slot is done with, the slot is free for transfer `t + 2`. -/
theorem free_of (c : Dev nD) (d : Bool) (t : ℕ) :
    iprop(heldE c (bM .recv d) (slR t) ∗ recvPos c d (t + 1)) ⊢ iprop(recvPos (F := F) c d (t + 1) ∗ free c d (t + 2)) := by
  have e : cnt slR (slR t) (t + 2) = cnt slR (slR t) (t + 1) := cnt_succ_ne (fun h => par_ne (t + 1) h.symm)
  unfold free recvPos
  rw [slR_add_two, e]
  iintro ⟨H, Hp⟩
  icases (pos2_reached c (Cl.recv d) slR (t + 1) (slR t)) $$ Hp with ⟨Hp, Hr⟩
  isplitl [Hp]; · iexact Hp
  isplitl [H] <;> iassumption

/-- What a device holds towards transfer `t + 1` when transfer `t` starts: at the beginning the neighbour's second slot,
    then the slot of its own it has just emptied. -/
def own (c : Dev nD) (d : Bool) (t : ℕ) : sProp 𝕄 := if t = 0 then free (dstOf d c) d 1 else free c d (t + 1)
/-- What is left of it after transfer `t` of the other direction has started. -/
def left (c : Dev nD) (d : Bool) (t : ℕ) : sProp 𝕄 := if t = 0 then free (dstOf d c) d 1 else iprop(emp)

/-- The device's freed slot leaves with transfer `t` of the other direction. -/
theorem own_give (c : Dev nD) (d : Bool) (t : ℕ) (h : t ≤ 31) :
    own (F := F) c (!d) t ⊢ iprop(extra (dstOf d c) d t ∗ left c (!d) t) := by
  unfold own left extra
  by_cases h0 : t = 0
  · rw [if_pos h0, if_pos h0, if_pos h0]; iintro H; isplitr; · iempintro
    iexact H
  · rw [if_neg h0, if_neg h0, if_neg h0, if_pos h, src_dst]; iintro H; isplitl [H]; · iexact H
    iempintro
/-- The neighbour's freed slot, come with an arrival, is what the next transfer fills. -/
theorem extra_take (c : Dev nD) (d : Bool) (t : ℕ) (h : t ≤ 31) :
    iprop(extra c d t ∗ left c (!d) t) ⊢ free (F := F) (dstOf (!d) c) (!d) (t + 1) := by
  unfold left extra
  by_cases h0 : t = 0
  · subst h0; rw [if_pos rfl, if_pos rfl]; iintro ⟨-, H⟩; iexact H
  · rw [if_neg h0, if_neg h0, if_pos h, dst_not]; iintro ⟨H, -⟩; iexact H

/-- The first for the transfer to the right. -/
theorem own_giveR (c : Dev nD) (t : ℕ) (h : t ≤ 31) : own (F := F) c false t ⊢ iprop(extra (dstOf true c) true t ∗ left c false t) := own_give c true t h
/-- The first for the transfer to the left. -/
theorem own_giveL (c : Dev nD) (t : ℕ) (h : t ≤ 31) : own (F := F) c true t ⊢ iprop(extra (dstOf false c) false t ∗ left c true t) := own_give c false t h
/-- The second for the next transfer to the left. -/
theorem extra_takeL (c : Dev nD) (t : ℕ) (h : t ≤ 31) : iprop(extra c true t ∗ left c false t) ⊢ free (F := F) (dstOf false c) false (t + 1) := extra_take c true t h
/-- The second for the next transfer to the right. -/
theorem extra_takeR (c : Dev nD) (t : ℕ) (h : t ≤ 31) : iprop(extra c false t ∗ left c true t) ⊢ free (F := F) (dstOf true c) true (t + 1) := extra_take c false t h

/-! ## Reduce-scatter -/

/-- A direction's resources at the start of reduce-scatter step `t`. -/
def RSd (c : Dev nD) (d : Bool) (t : ℕ) : sProp 𝕄 :=
  iprop(held c (bM .send d) (par t) (xval X Wt d t c) ∗ heldE c (bM .send d) (par (t + 1)) ∗ own c d t ∗ free (dstOf d c) d t
    ∗ sendPos c d t ∗ recvPos c d t ∗ credPos c d (t - 2)
    ∗ bigSep (Finset.Ico t 62) (xtok c d) ∗ bigSep (Finset.Ico t 62) (xcred c d)
    ∗ bigSep (Finset.Ico t 60) (gtok c d) ∗ bigSep (Finset.Ico (t - 2) 60) (gcred c d))

/-- While sums travel, the next block sent is the sum of what arrived and the device's product. -/
theorem xval_rs (d : Bool) (t : ℕ) (c : Dev nD) (h : t ≤ 30) :
    xval X Wt d (t + 1) c = k0_pay147 (accS X Wt d c t (xval X Wt d t (srcOf d c))) := by
  show (if t ≤ 30 then _ else _) = _; rw [if_pos h]
/-- Afterwards the next block sent is the one that arrived. -/
theorem xval_ag (d : Bool) (t : ℕ) (c : Dev nD) (h : ¬ t ≤ 30) : xval X Wt d (t + 1) c = xval X Wt d t (srcOf d c) := by
  show (if t ≤ 30 then _ else _) = _; rw [if_neg h]

/-- The taking of credits at step `t`: one in each direction from step 2 on. -/
theorem takes_spec (c : Dev nD) (t : ℕ) (ht : t ≤ 30) (Q : PUnit → sProp 𝕄) :
    iprop(records X Wt K ∗ owesE c (Ow c t t t t)
        ∗ (credPos c true (t - 2) ∗ bigSep (Finset.Ico (t - 2) 60) (gcred c true))
        ∗ (credPos c false (t - 2) ∗ bigSep (Finset.Ico (t - 2) 60) (gcred c false)))
      ⊢ iprop(((owesE c (Ow c t t t t)
        ∗ (credPos c true (t + 1 - 2) ∗ bigSep (Finset.Ico (t + 1 - 2) 60) (gcred c true))
        ∗ (credPos c false (t + 1 - 2) ∗ bigSep (Finset.Ico (t + 1 - 2) 60) (gcred c false))) -∗ Q ⟨⟩) -∗ run c (takes t) Q) := by
  unfold takes
  match t, ht with
  | 0, _ => iintro ⟨-, H⟩ Hk; iapply (run_pure c); iapply Hk; iexact H
  | 1, _ => iintro ⟨-, H⟩ Hk; iapply (run_pure c); iapply Hk; iexact H
  | u + 2, ht =>
    rw [show u + 2 - 2 = u by omega, show u + 2 + 1 - 2 = u + 1 by omega,
      bigSep_Ico_succ_bot (show u < 60 by omega), bigSep_Ico_succ_bot (show u < 60 by omega)]
    show _ ⊢ iprop(_ -∗ run c (take true >>= fun _ => take false) Q)
    iintro ⟨#HR, HO, ⟨HpR, ⟨HcR, HsR⟩⟩, ⟨HpL, ⟨HcL, HsL⟩⟩⟩ Hk
    rw [run_bind]
    iapply (take_spec X Wt K c true u (by omega) (u + 2) (u + 2) (u + 2) (u + 2) (by omega)) $$ [HO HcR HpR]
    · isplitr; · iexact HR
      isplitl [HO]; · iexact HO
      isplitl [HcR] <;> iassumption
    iintro ⟨HO, HpR, -⟩
    iapply (take_spec X Wt K c false u (by omega) (u + 2) (u + 2) (u + 2) (u + 2) (by omega)) $$ [HO HcL HpL]
    · isplitr; · iexact HR
      isplitl [HO]; · iexact HO
      isplitl [HcL] <;> iassumption
    iintro ⟨HO, HpL, -⟩
    iapply Hk
    isplitl [HO]; · iexact HO
    isplitl [HpR HsR]; · isplitl [HpR] <;> iassumption
    isplitl [HpL] <;> iassumption

/-- A receive slot's number, by its transfer or by parity; with known contents. -/
theorem held_slR (c : Dev nD) (M : Memref sig .tc .vmem S2x64x8192 .bf16) (t : ℕ) (v : S1x64x8192.Idx → Elt F .bf16) :
    held c M (slR t) v ⊢ held c M (par (t + 1)) v := Entails.refl _
/-- The same, at any contents. -/
theorem heldE_slR (c : Dev nD) (M : Memref sig .tc .vmem S2x64x8192 .bf16) (t : ℕ) : heldE (F := F) c M (par (t + 1)) ⊢ heldE c M (slR t) := Entails.refl _

/-- Sums are sent from the send buffer. -/
theorem srcB_send {t : ℕ} (h : t ≤ 31) : srcB t = .send := if_pos h
/-- Later blocks are sent on from the receive buffer. -/
theorem srcB_recv {t : ℕ} (h : ¬ t ≤ 31) : srcB t = .recv := if_neg h

/-- One reduce-scatter step. -/
theorem rsCore_spec (c : Dev nD) (t : ℕ) (ht : t ≤ 30) (h : Fin 31) (e : h = h31 t) (e' : h.val = t)
    (Q : FVec F S64x8192 .f32 × FVec F S64x8192 .f32 → sProp 𝕄) :
    iprop(records X Wt K ∗ xPts X c ∗ wPts Wt c ∗ owesE c (Ow c t t t t) ∗ RSd X Wt c true t ∗ RSd X Wt c false t)
      ⊢ iprop(((xPts X c ∗ wPts Wt c ∗ owesE c (Ow c (t + 1) (t + 1) (t + 1) (t + 1)) ∗ RSd X Wt c true (t + 1) ∗ RSd X Wt c false (t + 1))
          -∗ Q (accS X Wt true c t (xval X Wt true t (srcOf true c)), accS X Wt false c t (xval X Wt false t (srcOf false c))))
        -∗ run c (rsCore c h) Q) := by
  unfold rsCore
  simp only [e']
  subst e
  unfold accS
  have hs : srcB t = .send := srcB_send (by omega)
  have hq : par t = slS t := (if_pos ht : slS t = par t).symm
  unfold RSd
  rw [bigSep_Ico_succ_bot (show t < 62 by omega), bigSep_Ico_succ_bot (show t < 62 by omega), bigSep_Ico_succ_bot (show t < 62 by omega),
    bigSep_Ico_succ_bot (show t < 62 by omega), bigSep_Ico_succ_bot (show t < 60 by omega), bigSep_Ico_succ_bot (show t < 60 by omega)]
  iintro ⟨#HR, HX, HW, HO, ⟨HsR, HeR, HwR, HdR, HpsR, HprR, HpcR, ⟨HtR, HtsR⟩, ⟨HcR, HcsR⟩, ⟨HgR, HgsR⟩, HkR⟩,
    ⟨HsL, HeL, HwL, HdL, HpsL, HprL, HpcL, ⟨HtL, HtsL⟩, ⟨HcL, HcsL⟩, ⟨HgL, HgsL⟩, HkL⟩⟩ Hk
  rw [run_bind]
  iapply (takes_spec X Wt K c t ht) $$ [HO HpcR HkR HpcL HkL]
  · isplitr; · iexact HR
    isplitl [HO]; · iexact HO
    isplitl [HpcR HkR]; · isplitl [HpcR] <;> iassumption
    isplitl [HpcL] <;> iassumption
  iintro ⟨HO, ⟨HpcR, HkR⟩, ⟨HpcL, HkL⟩⟩
  icases (own_giveR c t (by omega)) $$ HwL with ⟨HxR, HlL⟩
  icases (own_giveL c t (by omega)) $$ HwR with ⟨HxL, HlR⟩
  rw [run_bind]
  iapply (xfer_spec X Wt K c true t (by omega) .send (par t) (par (t + 1)) (par t) hs.symm rfl rfl hq (Ow c (t + 1) t t t) (Ow_a (by omega))) $$ [HO HsR HdR HxR HtR HpsR]
  · isplitr; · iexact HR
    isplitl [HO]; · iexact HO
    isplitl [HsR]; · rw [hs]; iexact HsR
    isplitl [HdR]; · iexact HdR
    isplitl [HxR]; · iexact HxR
    isplitl [HtR] <;> iassumption
  iintro ⟨HO, HcsendR, HpsR⟩
  rw [run_bind]
  iapply (xfer_spec X Wt K c false t (by omega) .send (par t) (par (t + 1)) (par t) hs.symm rfl rfl hq (Ow c (t + 1) (t + 1) t t) (Ow_b (by omega))) $$ [HO HsL HdL HxL HtL HpsL]
  · isplitr; · iexact HR
    isplitl [HO]; · iexact HO
    isplitl [HsL]; · rw [hs]; iexact HsL
    isplitl [HdL]; · iexact HdL
    isplitl [HxL]; · iexact HxL
    isplitl [HtL] <;> iassumption
  iintro ⟨HO, HcsendL, HpsL⟩
  rw [run_bind]; iapply (ldX_spec X c) $$ HX; iintro HX
  rw [run_bind]; iapply (ldW_spec Wt c) $$ HW; iintro HW
  rw [run_bind]; iapply (ldX_spec X c) $$ HX; iintro HX
  rw [run_bind]; iapply (ldW_spec Wt c) $$ HW; iintro HW
  rw [run_bind]
  iapply (await_spec X Wt K c true t (by omega) .send (par t) (par (t + 1)) (par t) hs.symm rfl rfl hq (t + 1) (t + 1) t t (by omega)) $$ [HO HcsendR HcR HpsR HprR]
  · isplitr; · iexact HR
    isplitl [HO]; · iexact HO
    isplitl [HcsendR]; · iexact HcsendR
    isplitl [HcR]; · iexact HcR
    isplitl [HpsR] <;> iassumption
  iintro ⟨HO, HpsR, HprR, HsR, HvR, HxR⟩
  rw [run_bind]
  iapply (await_spec X Wt K c false t (by omega) .send (par t) (par (t + 1)) (par t) hs.symm rfl rfl hq (t + 1) (t + 1) t t (by omega)) $$ [HO HcsendL HcL HpsL HprL]
  · isplitr; · iexact HR
    isplitl [HO]; · iexact HO
    isplitl [HcsendL]; · iexact HcsendL
    isplitl [HcL]; · iexact HcL
    isplitl [HpsL] <;> iassumption
  iintro ⟨HO, HpsL, HprL, HsL, HvL, HxL⟩
  ihave HvR := (held_slR c _ t _) $$ HvR
  rw [run_bind]; iapply (ldSlot_spec c (bM .recv true) (par (t + 1))) $$ HvR; iintro HvR
  ihave HvL := (held_slR c _ t _) $$ HvL
  rw [run_bind]; iapply (ldSlot_spec c (bM .recv false) (par (t + 1))) $$ HvL; iintro HvL
  rw [run_bind]; iapply (stSend_spec c true (par (t + 1))) $$ HeR; iintro HeR
  rw [run_bind]; iapply (stSend_spec c false (par (t + 1))) $$ HeL; iintro HeL
  rw [run_bind]
  iapply (grant_spec X Wt K c true t (by omega) (Ow c (t + 1) (t + 1) (t + 1) t) (Ow_p (by omega))) $$ [HO HgR]
  · isplitr; · iexact HR
    isplitl [HO]; · iexact HO
    isplitl [HgR]; · iexact HgR
    isplitr; · rw [show t - 30 = 0 by omega]; iapply (reached_of X Wt K); iexact HR
    unfold credPay; rw [if_pos (by omega)]; iempintro
  iintro HO
  rw [run_bind]
  iapply (grant_spec X Wt K c false t (by omega) (Ow c (t + 1) (t + 1) (t + 1) (t + 1)) (Ow_q (by omega))) $$ [HO HgL]
  · isplitr; · iexact HR
    isplitl [HO]; · iexact HO
    isplitl [HgL]; · iexact HgL
    isplitr; · rw [show t - 30 = 0 by omega]; iapply (reached_of X Wt K); iexact HR
    unfold credPay; rw [if_pos (by omega)]; iempintro
  iintro HO
  iapply (run_pure c)
  iapply Hk
  isplitl [HX]; · iexact HX
  isplitl [HW]; · iexact HW
  isplitl [HO]; · iexact HO
  ihave HvR := ((held_heldE c (bM .recv true) (par (t + 1)) _).trans (heldE_slR c _ t)) $$ HvR
  ihave HvL := ((held_heldE c (bM .recv false) (par (t + 1)) _).trans (heldE_slR c _ t)) $$ HvL
  icases (free_of c true t) $$ [HvR HprR] with ⟨HprR, HwR⟩
  · isplitl [HvR] <;> iassumption
  icases (free_of c false t) $$ [HvL HprL] with ⟨HprL, HwL⟩
  · isplitl [HvL] <;> iassumption
  ihave HdL := (extra_takeL c t (by omega)) $$ [HxR HlL]
  · isplitl [HxR] <;> iassumption
  ihave HdR := (extra_takeR c t (by omega)) $$ [HxL HlR]
  · isplitl [HxL] <;> iassumption
  ihave HsR := (held_heldE c _ (par t) _) $$ HsR
  ihave HsL := (held_heldE c _ (par t) _) $$ HsL
  rw [xval_rs X Wt true t c ht, xval_rs X Wt false t c ht, hs, show par (t + 1 + 1) = par t from par_add_two t,
    show own (F := F) c true (t + 1) = free c true (t + 2) from if_neg (Nat.succ_ne_zero t),
    show own (F := F) c false (t + 1) = free c false (t + 2) from if_neg (Nat.succ_ne_zero t)]
  unfold accS
  isplitl [HeR HsR HwR HdR HpsR HprR HpcR HtsR HcsR HgsR HkR]
  · isplitl [HeR]; · iexact HeR
    isplitl [HsR]; · iexact HsR
    isplitl [HwR]; · iexact HwR
    isplitl [HdR]; · iexact HdR
    isplitl [HpsR]; · iexact HpsR
    isplitl [HprR]; · iexact HprR
    isplitl [HpcR]; · iexact HpcR
    isplitl [HtsR]; · iexact HtsR
    isplitl [HcsR]; · iexact HcsR
    isplitl [HgsR] <;> iassumption
  · isplitl [HeL]; · iexact HeL
    isplitl [HsL]; · iexact HsL
    isplitl [HwL]; · iexact HwL
    isplitl [HdL]; · iexact HdL
    isplitl [HpsL]; · iexact HpsL
    isplitl [HprL]; · iexact HprL
    isplitl [HpcL]; · iexact HpcL
    isplitl [HtsL]; · iexact HtsL
    isplitl [HcsL]; · iexact HcsL
    isplitl [HgsL] <;> iassumption

/-- The loop over the first steps. -/
theorem rsLoop_spec (c : Dev nD) (Q : PUnit → sProp 𝕄) : ∀ (n h : ℕ) (e : h + n = 30),
    iprop(records X Wt K ∗ xPts X c ∗ wPts Wt c ∗ owesE c (Ow c h h h h) ∗ RSd X Wt c true h ∗ RSd X Wt c false h)
      ⊢ iprop(((xPts X c ∗ wPts Wt c ∗ owesE c (Ow c 30 30 30 30) ∗ RSd X Wt c true 30 ∗ RSd X Wt c false 30) -∗ Q ⟨⟩)
        -∗ run c (rsLoop c n h e) Q)
  | 0, h, e => by
    obtain rfl : h = 30 := by omega
    unfold rsLoop
    iintro ⟨-, H⟩ Hk; iapply (run_pure c); iapply Hk; iexact H
  | n + 1, h, e => by
    have hh : h < 31 := by omega
    have hh' : h ≤ 30 := by omega
    have e' : h + 1 + n = 30 := by omega
    unfold rsLoop
    iintro ⟨#HR, H⟩ Hk
    rw [run_bind]
    iapply (rsCore_spec X Wt K c h hh' ⟨h, hh⟩ (Fin.ext (Nat.mod_eq_of_lt hh).symm) rfl) $$ [H]
    · isplitr; · iexact HR
      iexact H
    iintro H
    iapply (rsLoop_spec c Q n (h + 1) e') $$ [H]
    · isplitr; · iexact HR
      iexact H
    iexact Hk

end Cert.RingProof

end
-- ==== Proof.Gather.lean ====
module

public import proofs.«01_k».proof.Proof.Loop

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! # The all-gather steps and the result's copies -/

variable (X : (c : Dev nD) → Buf (Elt F) ((xM : Memref sig .tc _ _ _).view.loc (c : Thread nD τ)))
  (Wt : (c : Dev nD) → Buf (Elt F) ((wM : Memref sig .tc _ _ _).view.loc (c : Thread nD τ)))
variable (K : Dev nD × Cl → ℕ)

/-! ## What changes hands in an all-gather step -/

/-- How many credits a device has granted when transfer `t` starts. -/
def gp (t : ℕ) : ℕ := if t ≤ 31 then t else min (t - 1) 60

/-- The slots kept back when transfer `t` starts. -/
def agRest (c : Dev nD) (d : Bool) (t : ℕ) : sProp 𝕄 :=
  if t = 31 then iprop(heldE c (bM .send d) 0 ∗ own c d 31)
  else iprop(heldE c (bM .send d) 0 ∗ heldE c (bM .send d) 1 ∗ (if t = 62 then heldE c (bM .recv d) (par 61) else iprop(emp)))
/-- The slots a direction still keeps back once transfer `t` has been started. -/
def agMid (c : Dev nD) (d : Bool) (t : ℕ) : sProp 𝕄 :=
  if t = 31 then heldE c (bM .send d) 0 else iprop(heldE c (bM .send d) 0 ∗ heldE c (bM .send d) 1)
/-- The neighbour's slot that is already at hand for transfer `t`. -/
def agDst (c : Dev nD) (d : Bool) (t : ℕ) : sProp 𝕄 := if t ≤ 32 then free (dstOf d c) d t else iprop(emp)
/-- The receive slot that transfer `t` has emptied. -/
def agFree (c : Dev nD) (d : Bool) (t : ℕ) : sProp 𝕄 := if t = 31 then iprop(emp) else heldE c (bM .recv d) (par t)
/-- How far the upstream neighbour has taken its credits, as known from transfer `t`. -/
def agGr (c : Dev nD) (d : Bool) (t : ℕ) : sProp 𝕄 :=
  if t = 31 then iprop(emp) else reached ER (cell (srcOf d c) (.cred d)) (t - 31)
/-- The receive slot kept at the very end. -/
def agKeep (c : Dev nD) (d : Bool) (t : ℕ) : sProp 𝕄 := if t = 61 then heldE c (bM .recv d) (par 61) else iprop(emp)

/-- What transfer `t` carries besides its block is at hand. -/
theorem ag_give (c : Dev nD) (d : Bool) (t : ℕ) (h : 31 ≤ t) (h' : t ≤ 61) :
    iprop(agRest c (!d) t ∗ credPos c d (t - 1)) ⊢ iprop(extra (F := F) (dstOf d c) d t ∗ credPos c d (t - 1) ∗ agMid c (!d) t) := by
  unfold agRest agMid
  by_cases h0 : t = 31
  · subst h0
    rw [if_pos rfl, if_pos rfl]
    iintro ⟨⟨Hs, Hw⟩, Hp⟩
    icases (own_give c d 31 (Nat.le_refl _)) $$ Hw with ⟨He, -⟩
    isplitl [He]; · iexact He
    isplitl [Hp] <;> iassumption
  · rw [if_neg h0, if_neg h0]
    unfold extra credPos
    rw [if_neg (show ¬ t = 0 by omega), if_neg (show ¬ t ≤ 31 by omega), if_neg (show ¬ t - 1 < 31 by omega), src_dst,
      show t - 1 - 30 = t - 31 by omega]
    iintro ⟨⟨Ha, Hb, -⟩, ⟨Hat, #Hr⟩⟩
    isplitr; · iexact Hr
    isplitl [Hat]
    · isplitl [Hat]; · iexact Hat
      iexact Hr
    isplitl [Ha] <;> iassumption
/-- That, for the transfer to the right. -/
theorem ag_giveR (c : Dev nD) (t : ℕ) (h : 31 ≤ t) (h' : t ≤ 61) :
    iprop(agRest c false t ∗ credPos c true (t - 1)) ⊢ iprop(extra (F := F) (dstOf true c) true t ∗ credPos c true (t - 1) ∗ agMid c false t) := ag_give c true t h h'
/-- That, for the transfer to the left. -/
theorem ag_giveL (c : Dev nD) (t : ℕ) (h : 31 ≤ t) (h' : t ≤ 61) :
    iprop(agRest c true t ∗ credPos c false (t - 1)) ⊢ iprop(extra (F := F) (dstOf false c) false t ∗ credPos c false (t - 1) ∗ agMid c true t) := ag_give c false t h h'

/-- The slot transfer `t` fills: the one at hand, or the one a credit brought. -/
theorem ag_dst (c : Dev nD) (d : Bool) (t : ℕ) (h : 31 ≤ t) :
    iprop(agDst c d t ∗ credPay c d (t - 2)) ⊢ free (F := F) (dstOf d c) d t := by
  unfold agDst credPay
  by_cases h0 : t ≤ 32
  · rw [if_pos h0]; iintro ⟨H, -⟩; iexact H
  · rw [if_neg h0, if_neg (by omega), show t - 2 + 2 = t by omega]; iintro ⟨-, H⟩; iexact H

/-- Once transfer `t` has left, the slot it was read from is free again. -/
theorem ag_back (c : Dev nD) (d : Bool) (t : ℕ) (h : 31 ≤ t) (v : S1x64x8192.Idx → Elt F .bf16) :
    iprop(agMid c d t ∗ held c (bM (srcB t) d) (par t) v) ⊢ iprop(heldE c (bM .send d) 0 ∗ heldE c (bM .send d) 1 ∗ agFree c d t) := by
  unfold agMid agFree
  by_cases h0 : t = 31
  · subst h0
    rw [if_pos rfl, if_pos rfl, show srcB 31 = .send from rfl, show par 31 = 1 from rfl]
    iintro ⟨Ha, Hb⟩
    ihave Hb := (held_heldE c _ 1 _) $$ Hb
    isplitl [Ha]; · iexact Ha
    isplitl; · iexact Hb
    iempintro
  · rw [if_neg h0, if_neg h0, srcB_recv (show ¬ t ≤ 31 by omega)]
    iintro ⟨⟨Ha, Hb⟩, Hc⟩
    ihave Hc := (held_heldE c _ (par t) _) $$ Hc
    isplitl [Ha]; · iexact Ha
    isplitl [Hb] <;> iassumption

/-- What came with the arrival of transfer `t` serves the next transfer of the other direction and the granting of credits. -/
theorem ag_next (c : Dev nD) (d : Bool) (t : ℕ) (h : 31 ≤ t) :
    extra (F := F) c d t ⊢ iprop(agDst c (!d) (t + 1) ∗ agGr c d t) := by
  unfold agDst agGr extra
  rw [if_neg (show ¬ t = 0 by omega)]
  by_cases h0 : t = 31
  · subst h0
    rw [if_pos (Nat.le_refl _), if_pos (Nat.le_refl _), if_pos rfl, dst_not]
    iintro H; isplitl; · iexact H
    iempintro
  · rw [if_neg (show ¬ t ≤ 31 by omega), if_neg (show ¬ t + 1 ≤ 32 by omega), if_neg h0]
    iintro H; isplitr; · iempintro
    iexact H
/-- That, for the arrival from the left. -/
theorem ag_nextR (c : Dev nD) (t : ℕ) (h : 31 ≤ t) : extra (F := F) c true t ⊢ iprop(agDst c false (t + 1) ∗ agGr c true t) := ag_next c true t h
/-- That, for the arrival from the right. -/
theorem ag_nextL (c : Dev nD) (t : ℕ) (h : 31 ≤ t) : extra (F := F) c false t ⊢ iprop(agDst c true (t + 1) ∗ agGr c false t) := ag_next c false t h

/-- The free slots at the end of a step are those kept back at the start of the next. -/
theorem ag_end (c : Dev nD) (d : Bool) (t : ℕ) (h : 31 ≤ t) :
    iprop(heldE c (bM .send d) 0 ∗ heldE c (bM .send d) 1 ∗ agKeep c d t) ⊢ agRest (F := F) c d (t + 1) := by
  unfold agKeep agRest
  rw [if_neg (show ¬ t + 1 = 31 by omega)]
  by_cases h0 : t = 61
  · subst h0; rw [if_pos rfl, if_pos rfl]
  · rw [if_neg h0, if_neg (show ¬ t + 1 = 62 by omega)]

/-- The slot that transfer `t` left is what the credit granted afterwards hands over. -/
theorem free_sent (c : Dev nD) (d : Bool) (t : ℕ) (h : 32 ≤ t) :
    iprop(agFree c d t ∗ recvPos c d (t + 1)) ⊢ iprop(recvPos (F := F) c d (t + 1) ∗ credPay (srcOf d c) d (t - 1)) := by
  unfold agFree credPay recvPos
  rw [if_neg (show ¬ t = 31 by omega), if_neg (show ¬ t - 1 < 31 by omega), dst_src, show t - 1 + 2 = t + 1 by omega]
  unfold free
  rw [show slR (t + 1) = par t from par_add_two t]
  iintro ⟨H, Hp⟩
  icases (pos2_reached c (Cl.recv d) slR (t + 1) (par t)) $$ Hp with ⟨Hp, Hr⟩
  isplitl [Hp]; · iexact Hp
  isplitl [H] <;> iassumption

/-! ## Granting credits -/

/-- In the middle of the all-gather a credit is granted in both directions. -/
theorem grants_mid (c : Dev nD) (g : ℕ) (h : 1 ≤ g) (h' : g ≤ 29) :
    grants (F := F) c g = (do grant c true; grant c false) := by
  unfold grants
  rw [Nat.ble_eq.mpr h, Nat.ble_eq.mpr h']
  rfl
/-- In its first step and in its last ones none is. -/
theorem grants_out (c : Dev nD) (g : ℕ) (h : g = 0 ∨ 30 ≤ g) : grants (F := F) c g = pure ⟨⟩ := by
  unfold grants
  have e : (Nat.ble 1 g && Nat.ble g 29) = false := by
    rcases h with rfl | h
    · rfl
    · rw [Bool.and_eq_false_iff]; right
      exact Bool.eq_false_iff.mpr fun hh => absurd (Nat.ble_eq.mp hh) (by omega)
  rw [e]

/-- What a direction brings to the granting of credits in transfer `t`'s step, and what it has afterwards. -/
def grIn (c : Dev nD) (d : Bool) (t : ℕ) : sProp 𝕄 :=
  iprop(agFree c d t ∗ agGr c d t ∗ recvPos c d (t + 1) ∗ bigSep (Finset.Ico (gp t) 60) (gtok c d))
/-- What a direction holds after the granting of credits in transfer `t`'s step. -/
def grOut (c : Dev nD) (d : Bool) (t : ℕ) : sProp 𝕄 :=
  iprop(agKeep c d t ∗ recvPos c d (t + 1) ∗ bigSep (Finset.Ico (gp (t + 1)) 60) (gtok c d))

/-- For a credit that is granted: the right to grant it and the freed slot it carries are at hand. -/
theorem gr_mid (c : Dev nD) (d : Bool) (t : ℕ) (h : 32 ≤ t) (h' : t ≤ 60) :
    grIn (F := F) c d t ⊢ iprop((gtok c d (t - 1) ∗ reached ER (cell (srcOf d c) (.cred d)) (t - 1 - 30) ∗ credPay (srcOf d c) d (t - 1)) ∗ grOut c d t) := by
  unfold grIn grOut agGr agKeep
  rw [if_neg (show ¬ t = 31 by omega), if_neg (show ¬ t = 61 by omega), show gp t = t - 1 by unfold gp; rw [if_neg (by omega)]; omega,
    bigSep_Ico_succ_bot (show t - 1 < 60 by omega), show gp (t + 1) = t - 1 + 1 by unfold gp; rw [if_neg (by omega)]; omega,
    show t - 1 - 30 = t - 31 by omega]
  iintro ⟨Hf, Hr, Hp, ⟨Ht, Hts⟩⟩
  icases (free_sent c d t h) $$ [Hf Hp] with ⟨Hp, Hf⟩
  · isplitl [Hf] <;> iassumption
  isplitl [Ht Hr Hf]
  · isplitl [Ht]; · iexact Ht
    isplitl [Hr] <;> iassumption
  isplitr; · iempintro
  isplitl [Hp] <;> iassumption

/-- Where none is granted, what there was is what is needed afterwards. -/
theorem gr_out (c : Dev nD) (d : Bool) (t : ℕ) (h : t = 31 ∨ t = 61) : grIn (F := F) c d t ⊢ grOut c d t := by
  unfold grIn grOut agFree agKeep
  rcases h with rfl | rfl
  · rw [if_pos rfl, if_neg (by omega)]
    iintro ⟨H, -, Hs⟩; isplitl [H]; · iexact H
    iexact Hs
  · rw [if_pos rfl, if_neg (by omega)]
    iintro ⟨H, -, Hs⟩; isplitl [H]; · iexact H
    iexact Hs

/-- The granting of credits in all-gather step `g`. -/
theorem grants_spec (c : Dev nD) (g : ℕ) (hg : g < 31) (Q : PUnit → sProp 𝕄) :
    iprop(records X Wt K ∗ owesE c (Ow c (31 + g + 1) (31 + g + 1) (gp (31 + g)) (gp (31 + g))) ∗ grIn c true (31 + g) ∗ grIn c false (31 + g))
      ⊢ iprop(((owesE c (Ow c (31 + g + 1) (31 + g + 1) (gp (31 + g + 1)) (gp (31 + g + 1))) ∗ grOut c true (31 + g) ∗ grOut c false (31 + g)) -∗ Q ⟨⟩)
        -∗ run c (grants c g) Q) := by
  by_cases h : 1 ≤ g ∧ g ≤ 29
  · rw [grants_mid c g h.1 h.2]
    iintro ⟨#HR, HO, HA, HB⟩ Hk
    icases (gr_mid c true (31 + g) (by omega) (by omega)) $$ HA with ⟨⟨HtR, HrR, HpR⟩, HA⟩
    icases (gr_mid c false (31 + g) (by omega) (by omega)) $$ HB with ⟨⟨HtL, HrL, HpL⟩, HB⟩
    have e1 : gp (31 + g) = 31 + g - 1 := by unfold gp; rw [if_neg (by omega)]; omega
    have e2 : gp (31 + g + 1) = 31 + g - 1 + 1 := by unfold gp; rw [if_neg (by omega)]; omega
    rw [e1, e2]
    rw [run_bind]
    iapply (grant_spec X Wt K c true (31 + g - 1) (by omega) (Ow c (31 + g + 1) (31 + g + 1) (31 + g - 1 + 1) (31 + g - 1)) (Ow_p (by omega))) $$ [HO HtR HrR HpR]
    · isplitr; · iexact HR
      isplitl [HO]; · iexact HO
      isplitl [HtR]; · iexact HtR
      isplitl [HrR] <;> iassumption
    iintro HO
    iapply (grant_spec X Wt K c false (31 + g - 1) (by omega) (Ow c (31 + g + 1) (31 + g + 1) (31 + g - 1 + 1) (31 + g - 1 + 1)) (Ow_q (by omega))) $$ [HO HtL HrL HpL]
    · isplitr; · iexact HR
      isplitl [HO]; · iexact HO
      isplitl [HtL]; · iexact HtL
      isplitl [HrL] <;> iassumption
    iintro HO
    iapply Hk
    isplitl [HO]; · iexact HO
    isplitl [HA] <;> iassumption
  · have hg' : g = 0 ∨ g = 30 := by omega
    rw [grants_out c g (by omega), show gp (31 + g + 1) = gp (31 + g) by rcases hg' with rfl | rfl <;> rfl]
    iintro ⟨-, HO, HA, HB⟩ Hk
    iapply (run_pure c)
    iapply Hk
    ihave HA := (gr_out c true (31 + g) (by omega)) $$ HA
    ihave HB := (gr_out c false (31 + g) (by omega)) $$ HB
    isplitl [HO]; · iexact HO
    isplitl [HA] <;> iassumption

/-! ## The copies of finished blocks into the result -/

/-- Result block `k` of direction `d`, written. -/
def outDone (c : Dev nD) (d : Bool) (k : ℕ) : sProp 𝕄 := outHeld c d (k32 k) (flat (oval3 X Wt d c k))

/-- Before all-gather step `g`: block `g` on its way into the result, and block `g - 1` if there is one; earlier blocks written. -/
def ES (c : Dev nD) (d : Bool) (g : ℕ) : sProp 𝕄 :=
  iprop(copyPos c d (g - 1) ∗ ccred c d g ∗ (if g = 0 then heldE c (gM d) 1 else ccred c d (g - 1))
    ∗ bigSep (Finset.range (g - 1)) (outDone X Wt c d)
    ∗ bigSep (Finset.Ico (g + 1) 32) (fun k => outE c d (k32 k)) ∗ bigSep (Finset.Ico (g + 1) 32) (ctok c d))
/-- Between the wait for block `g - 1` and the copy of block `g + 1`: a staging slot is free. -/
def ESm (c : Dev nD) (d : Bool) (g : ℕ) : sProp 𝕄 :=
  iprop(copyPos c d g ∗ ccred c d g ∗ heldE c (gM d) (slC (g + 1))
    ∗ bigSep (Finset.range g) (outDone X Wt c d)
    ∗ bigSep (Finset.Ico (g + 1) 32) (fun k => outE c d (k32 k)) ∗ bigSep (Finset.Ico (g + 1) 32) (ctok c d))
/-- Before the first block. -/
def ES0 (c : Dev nD) (d : Bool) : sProp 𝕄 :=
  iprop(copyPos c d 0 ∗ heldE c (gM d) 0 ∗ heldE c (gM d) 1
    ∗ bigSep (Finset.Ico 0 32) (fun k => outE c d (k32 k)) ∗ bigSep (Finset.Ico 0 32) (ctok c d))

/-- The wait for result block `g - 1`, if there is one, frees the staging slot for block `g + 1`. -/
theorem drainPrev_spec (c : Dev nD) (d : Bool) (g : ℕ) (h : g < 31) (a b p q : ℕ) (Q : PUnit → sProp 𝕄) :
    iprop(records X Wt K ∗ owesE c (Ow c a b p q) ∗ ES X Wt c d g)
      ⊢ iprop(((owesE c (Ow c a b p q) ∗ ESm X Wt c d g) -∗ Q ⟨⟩) -∗ run c (drainPrev c d g h) Q) := by
  unfold drainPrev ES ESm
  match g, h with
  | 0, _ =>
    rw [if_pos rfl]
    iintro ⟨-, HO, Hp, Hc, Hg, Hs⟩ Hk
    iapply (run_pure c)
    iapply Hk
    isplitl [HO]; · iexact HO
    isplitl [Hp]; · iexact Hp
    isplitl [Hc]; · iexact Hc
    isplitl [Hg]; · iexact Hg
    iexact Hs
  | g + 1, h =>
    rw [if_neg (Nat.succ_ne_zero g), show g + 1 - 1 = g from rfl, bigSep_range_succ,
      show slC (g + 1 + 1) = slC g from par_add_two g]
    iintro ⟨#HR, HO, Hp, Hc, Hg, Hd, Hs⟩ Hk
    have hg : g < 32 := by omega
    iapply (drain_spec X Wt K c d g hg (par g) rfl ⟨g, hg⟩ (Fin.ext (Nat.mod_eq_of_lt hg).symm) a b p q) $$ [HO Hp Hg]
    · isplitr; · iexact HR
      isplitl [HO]; · iexact HO
      isplitl [Hg] <;> iassumption
    iintro ⟨HO, Hp, Ho, Hg⟩
    iapply Hk
    isplitl [HO]; · iexact HO
    isplitl [Hp]; · iexact Hp
    isplitl [Hc]; · iexact Hc
    isplitl [Hg]; · iexact Hg
    isplitl [Hd Ho]
    · isplitl [Ho]; · unfold outDone; iexact Ho
      iexact Hd
    iexact Hs

/-- Starting the copy of result block `g + 1`. -/
theorem emitNext_spec (c : Dev nD) (d : Bool) (g : ℕ) (hg : g < 31) (k' : Fin 32) (hk' : k'.val = g + 1) (v : FVec F S1x64x8192 .f32)
    (hv : v = oval3 X Wt d c (g + 1)) (Q : PUnit → sProp 𝕄) :
    iprop(records X Wt K ∗ ESm X Wt c d g) ⊢ iprop((ES X Wt c d (g + 1) -∗ Q ⟨⟩) -∗ run c (emit c d (par (g + 1)) k' v) Q) := by
  unfold ES ESm
  have e : cnt slC (slC (g + 1)) (g + 1) = cnt slC (slC (g + 1)) g := cnt_succ_ne (par_ne g)
  have ek : k' = k32 (g + 1) := Fin.ext (by rw [hk']; exact (Nat.mod_eq_of_lt (show g + 1 < 32 by omega)).symm)
  rw [if_neg (Nat.succ_ne_zero g), bigSep_Ico_succ_bot (show g + 1 < 32 by omega), bigSep_Ico_succ_bot (show g + 1 < 32 by omega),
    show g + 1 - 1 = g from rfl]
  iintro ⟨#HR, Hp, Hc, Hg, Hd, ⟨Ho, Hos⟩, ⟨Ht, Hts⟩⟩ Hk
  unfold copyPos
  icases (pos2_reached c (Cl.cp d) slC g (slC (g + 1))) $$ Hp with ⟨Hp, Hr⟩
  iapply (emit_spec X Wt K c d (g + 1) (by omega) (par (g + 1)) rfl k' ek v hv) $$ [Hg Ho Ht Hr]
  · isplitr; · iexact HR
    isplitl [Hg]; · iexact Hg
    isplitl [Ho]; · iexact Ho
    isplitl [Ht]; · iexact Ht
    rw [e]; iexact Hr
  iintro Hn
  iapply Hk
  isplitl [Hp]; · iexact Hp
  isplitl [Hn]; · iexact Hn
  isplitl [Hc]; · iexact Hc
  isplitl [Hd]; · iexact Hd
  isplitl [Hos] <;> iassumption

/-- Starting the copy of the first result block. -/
theorem emitFirst_spec (c : Dev nD) (d : Bool) (v : FVec F S1x64x8192 .f32) (hv : v = oval3 X Wt d c 0) (Q : PUnit → sProp 𝕄) :
    iprop(records X Wt K ∗ ES0 c d) ⊢ iprop((ES X Wt c d 0 -∗ Q ⟨⟩) -∗ run c (emit c d 0 0 v) Q) := by
  unfold ES ES0
  rw [if_pos rfl, bigSep_Ico_succ_bot (show 0 < 32 by omega), bigSep_Ico_succ_bot (show 0 < 32 by omega)]
  iintro ⟨#HR, Hp, Hg, Hg', ⟨Ho, Hos⟩, ⟨Ht, Hts⟩⟩ Hk
  unfold copyPos
  icases (pos2_reached c (Cl.cp d) slC 0 (slC 0)) $$ Hp with ⟨Hp, Hr⟩
  iapply (emit_spec X Wt K c d 0 (by omega) 0 rfl 0 rfl v hv) $$ [Hg Ho Ht Hr]
  · isplitr; · iexact HR
    isplitl [Hg]; · iexact Hg
    isplitl [Ho]; · iexact Ho
    isplitl [Ht] <;> iassumption
  iintro Hn
  iapply Hk
  isplitl [Hp]; · iexact Hp
  isplitl [Hn]; · iexact Hn
  isplitl [Hg']; · iexact Hg'
  isplitr; · rw [show Finset.range (0 - 1) = ∅ from rfl, bigSep_empty]; iempintro
  isplitl [Hos] <;> iassumption

/-! ## An all-gather step -/

/-- A direction's resources when transfer `t` of the all-gather starts. -/
def AGd (c : Dev nD) (d : Bool) (t : ℕ) : sProp 𝕄 :=
  iprop(held c (bM (srcB t) d) (par t) (xval X Wt d t c) ∗ agRest c d t ∗ agDst c d t
    ∗ sendPos c d t ∗ recvPos c d t ∗ credPos c d (t - 2)
    ∗ bigSep (Finset.Ico t 62) (xtok c d) ∗ bigSep (Finset.Ico t 62) (xcred c d)
    ∗ bigSep (Finset.Ico (gp t) 60) (gtok c d) ∗ bigSep (Finset.Ico (t - 2) 60) (gcred c d))

/-- The state after the summing steps is the state before the first all-gather step. -/
theorem AGd_start (c : Dev nD) (d : Bool) : RSd X Wt c d 31 ⊢ AGd X Wt c d 31 := by
  unfold RSd AGd agRest agDst
  rw [if_pos rfl, if_pos (by omega), show srcB 31 = .send from rfl, show par (31 + 1) = 0 from rfl]
  iintro ⟨Ha, Hb, Hc, Hd, Hs⟩
  isplitl [Ha]; · iexact Ha
  isplitl [Hb Hc]; · isplitl [Hb] <;> iassumption
  isplitl [Hd]; · iexact Hd
  iexact Hs

/-- The slot an all-gather step sends from, by the number of its transfer. -/
theorem agSlot_eq (g : ℕ) : agSlot g = par (31 + g) := by
  unfold agSlot
  match g with
  | 0 => rfl
  | g + 1 => exact par_eq (by omega)
/-- The buffer an all-gather step sends from, by the number of its transfer. -/
theorem agBuf_eq (g : ℕ) : agBuf g = srcB (31 + g) := by
  unfold agBuf
  match g with
  | 0 => rfl
  | g + 1 => exact (srcB_recv (by omega)).symm
/-- The receive slot of an all-gather step, by the number of its transfer. -/
theorem par_slR (g : ℕ) : par g = slR (31 + g) := par_eq (by omega)
/-- The departure semaphore of an all-gather step, by the number of its transfer. -/
theorem par_slS (g : ℕ) : par g = slS (31 + g) := by
  show _ = if 31 + g ≤ 30 then _ else _
  rw [if_neg (by omega)]; exact par_eq (by omega)

/-- One step of the all-gather, in both directions: a block is sent on, another arrives, and one more result block is
    on its way. -/
theorem agStep_spec (c : Dev nD) (g : ℕ) (hg : g < 31) (Q : PUnit → sProp 𝕄) :
    iprop(records X Wt K ∗ owesE c (Ow c (31 + g) (31 + g) (gp (31 + g)) (gp (31 + g))) ∗ AGd X Wt c true (31 + g) ∗ AGd X Wt c false (31 + g)
        ∗ ES X Wt c true g ∗ ES X Wt c false g)
      ⊢ iprop(((owesE c (Ow c (31 + g + 1) (31 + g + 1) (gp (31 + g + 1)) (gp (31 + g + 1))) ∗ AGd X Wt c true (31 + g + 1) ∗ AGd X Wt c false (31 + g + 1)
          ∗ ES X Wt c true (g + 1) ∗ ES X Wt c false (g + 1)) -∗ Q ⟨⟩) -∗ run c (agStep c g hg) Q) := by
  have hl : 31 + g - 2 + 1 < 31 + g ∧ 31 + g - 2 < gp (31 + g) ∧ 31 + g < gp (31 + g) + 2 := by
    unfold gp; split <;> omega
  have hv (d : Bool) : k0_pay254 (xval X Wt d (31 + g) (srcOf d c)) = oval3 X Wt d c (g + 1) := rfl
  have hgr := grants_spec X Wt K c g hg
  have hs := agSlot_eq g
  have hb := agBuf_eq g
  have hr := par_slR g
  have hq := par_slS g
  have hx (d : Bool) : xval X Wt d (31 + g + 1) c = xval X Wt d (31 + g) (srcOf d c) := xval_ag X Wt d (31 + g) c (by omega)
  have hsb : srcB (31 + g + 1) = .recv := srcB_recv (by omega)
  have hk1 : 31 + g - 2 < 60 := by omega
  have ht : 31 + g < 62 := by omega
  have e1 : 31 + g + 1 - 2 = 31 + g - 2 + 1 := by omega
  have e2 : 31 + g - 1 = 31 + g - 2 + 1 := by omega
  have h31 : 31 ≤ 31 + g := by omega
  have h61 : 31 + g ≤ 61 := by omega
  unfold agStep AGd
  rw [e1]
  generalize 31 + g = t at *
  rw [bigSep_Ico_succ_bot ht, bigSep_Ico_succ_bot ht, bigSep_Ico_succ_bot ht, bigSep_Ico_succ_bot ht, bigSep_Ico_succ_bot hk1, bigSep_Ico_succ_bot hk1]
  iintro ⟨#HR, HO, ⟨HsR, HeR, HdR, HpsR, HprR, HpcR, ⟨HtR, HtsR⟩, ⟨HcR, HcsR⟩, HgR, ⟨HkR, HksR⟩⟩,
    ⟨HsL, HeL, HdL, HpsL, HprL, HpcL, ⟨HtL, HtsL⟩, ⟨HcL, HcsL⟩, HgL, ⟨HkL, HksL⟩⟩, HER, HEL⟩ Hk
  rw [run_bind]
  iapply (take_spec X Wt K c true (t - 2) hk1 t t (gp t) (gp t) ⟨hl.1, hl.1, hl.2.1, hl.2.1⟩) $$ [HO HkR HpcR]
  · isplitr; · iexact HR
    isplitl [HO]; · iexact HO
    isplitl [HkR] <;> iassumption
  iintro ⟨HO, HpcR, HyR⟩
  rw [run_bind]
  iapply (take_spec X Wt K c false (t - 2) hk1 t t (gp t) (gp t) ⟨hl.1, hl.1, hl.2.1, hl.2.1⟩) $$ [HO HkL HpcL]
  · isplitr; · iexact HR
    isplitl [HO]; · iexact HO
    isplitl [HkL] <;> iassumption
  iintro ⟨HO, HpcL, HyL⟩
  ihave HdR := (ag_dst c true t h31) $$ [HdR HyR]
  · isplitl [HdR] <;> iassumption
  ihave HdL := (ag_dst c false t h31) $$ [HdL HyL]
  · isplitl [HdL] <;> iassumption
  rw [← e2]
  icases (ag_giveR c t h31 h61) $$ [HeL HpcR] with ⟨HxR, HpcR, HeL⟩
  · isplitl [HeL] <;> iassumption
  icases (ag_giveL c t h31 h61) $$ [HeR HpcL] with ⟨HxL, HpcL, HeR⟩
  · isplitl [HeR] <;> iassumption
  rw [run_bind]
  iapply (xfer_spec X Wt K c true t ht (agBuf g) (agSlot g) (par g) (par g) hb hs hr hq (Ow c (t + 1) t (gp t) (gp t)) (Ow_a ht)) $$ [HO HsR HdR HxR HtR HpsR]
  · isplitr; · iexact HR
    isplitl [HO]; · iexact HO
    isplitl [HsR]; · iexact HsR
    isplitl [HdR]; · iexact HdR
    isplitl [HxR]; · iexact HxR
    isplitl [HtR] <;> iassumption
  iintro ⟨HO, HcsendR, HpsR⟩
  rw [run_bind]
  iapply (xfer_spec X Wt K c false t ht (agBuf g) (agSlot g) (par g) (par g) hb hs hr hq (Ow c (t + 1) (t + 1) (gp t) (gp t)) (Ow_b ht)) $$ [HO HsL HdL HxL HtL HpsL]
  · isplitr; · iexact HR
    isplitl [HO]; · iexact HO
    isplitl [HsL]; · iexact HsL
    isplitl [HdL]; · iexact HdL
    isplitl [HxL]; · iexact HxL
    isplitl [HtL] <;> iassumption
  iintro ⟨HO, HcsendL, HpsL⟩
  rw [run_bind]
  iapply (await_spec X Wt K c true t ht (agBuf g) (agSlot g) (par g) (par g) hb hs hr hq (t + 1) (t + 1) (gp t) (gp t)
    ⟨Nat.lt_succ_self t, Nat.lt_succ_self t, hl.2.2, hl.2.2⟩) $$ [HO HcsendR HcR HpsR HprR]
  · isplitr; · iexact HR
    isplitl [HO]; · iexact HO
    isplitl [HcsendR]; · iexact HcsendR
    isplitl [HcR]; · iexact HcR
    isplitl [HpsR] <;> iassumption
  iintro ⟨HO, HpsR, HprR, HsR, HvR, HxR⟩
  rw [run_bind]
  iapply (await_spec X Wt K c false t ht (agBuf g) (agSlot g) (par g) (par g) hb hs hr hq (t + 1) (t + 1) (gp t) (gp t)
    ⟨Nat.lt_succ_self t, Nat.lt_succ_self t, hl.2.2, hl.2.2⟩) $$ [HO HcsendL HcL HpsL HprL]
  · isplitr; · iexact HR
    isplitl [HO]; · iexact HO
    isplitl [HcsendL]; · iexact HcsendL
    isplitl [HcL]; · iexact HcL
    isplitl [HpsL] <;> iassumption
  iintro ⟨HO, HpsL, HprL, HsL, HvL, HxL⟩
  icases (ag_back c true t h31 _) $$ [HeR HsR] with ⟨HaR, HbR, HfR⟩
  · isplitl [HeR] <;> iassumption
  icases (ag_back c false t h31 _) $$ [HeL HsL] with ⟨HaL, HbL, HfL⟩
  · isplitl [HeL] <;> iassumption
  icases (ag_nextR c t h31) $$ HxR with ⟨HdL, HqR⟩
  icases (ag_nextL c t h31) $$ HxL with ⟨HdR, HqL⟩
  rw [run_bind]
  iapply hgr $$ [HO HfR HqR HprR HgR HfL HqL HprL HgL]
  · isplitr; · iexact HR
    isplitl [HO]; · iexact HO
    unfold grIn
    isplitl [HfR HqR HprR HgR]
    · isplitl [HfR]; · iexact HfR
      isplitl [HqR]; · iexact HqR
      isplitl [HprR] <;> iassumption
    · isplitl [HfL]; · iexact HfL
      isplitl [HqL]; · iexact HqL
      isplitl [HprL] <;> iassumption
  unfold grOut
  iintro ⟨HO, ⟨HfR, HprR, HgR⟩, ⟨HfL, HprL, HgL⟩⟩
  rw [run_bind, hr]; iapply (ldSlot_spec c (bM .recv true) (slR t)) $$ HvR; iintro HvR
  rw [run_bind]; iapply (ldSlot_spec c (bM .recv false) (slR t)) $$ HvL; iintro HvL
  rw [run_bind]
  iapply (drainPrev_spec X Wt K c true g hg _ _ _ _) $$ [HO HER]
  · isplitr; · iexact HR
    isplitl [HO] <;> iassumption
  iintro ⟨HO, HER⟩
  rw [run_bind]
  iapply (emitNext_spec X Wt K c true g hg _ rfl _ (hv true)) $$ [HER]
  · isplitr; · iexact HR
    iexact HER
  iintro HER
  rw [run_bind]
  iapply (drainPrev_spec X Wt K c false g hg _ _ _ _) $$ [HO HEL]
  · isplitr; · iexact HR
    isplitl [HO] <;> iassumption
  iintro ⟨HO, HEL⟩
  iapply (emitNext_spec X Wt K c false g hg _ rfl _ (hv false)) $$ [HEL]
  · isplitr; · iexact HR
    iexact HEL
  iintro HEL
  iapply Hk
  isplitl [HO]; · iexact HO
  ihave HeR := (ag_end c true t h31) $$ [HaR HbR HfR]
  · isplitl [HaR]; · iexact HaR
    isplitl [HbR] <;> iassumption
  ihave HeL := (ag_end c false t h31) $$ [HaL HbL HfL]
  · isplitl [HaL]; · iexact HaL
    isplitl [HbL] <;> iassumption
  rw [hx true, hx false, hsb]
  isplitl [HvR HeR HdR HpsR HprR HpcR HtsR HcsR HgR HksR]
  · isplitl [HvR]; · iexact HvR
    isplitl [HeR]; · iexact HeR
    isplitl [HdR]; · iexact HdR
    isplitl [HpsR]; · iexact HpsR
    isplitl [HprR]; · iexact HprR
    isplitl [HpcR]; · iexact HpcR
    isplitl [HtsR]; · iexact HtsR
    isplitl [HcsR]; · iexact HcsR
    isplitl [HgR]; · iexact HgR
    iexact HksR
  isplitl [HvL HeL HdL HpsL HprL HpcL HtsL HcsL HgL HksL]
  · isplitl [HvL]; · iexact HvL
    isplitl [HeL]; · iexact HeL
    isplitl [HdL]; · iexact HdL
    isplitl [HpsL]; · iexact HpsL
    isplitl [HprL]; · iexact HprL
    isplitl [HpcL]; · iexact HpcL
    isplitl [HtsL]; · iexact HtsL
    isplitl [HcsL]; · iexact HcsL
    isplitl [HgL]; · iexact HgL
    iexact HksL
  isplitl [HER] <;> iassumption

/-- All the all-gather steps. -/
theorem agLoop_spec (c : Dev nD) (Q : PUnit → sProp 𝕄) : ∀ (n g : ℕ) (e : g + n = 31),
    iprop(records X Wt K ∗ owesE c (Ow c (31 + g) (31 + g) (gp (31 + g)) (gp (31 + g))) ∗ AGd X Wt c true (31 + g) ∗ AGd X Wt c false (31 + g)
        ∗ ES X Wt c true g ∗ ES X Wt c false g)
      ⊢ iprop(((owesE c (Ow c 62 62 60 60) ∗ AGd X Wt c true 62 ∗ AGd X Wt c false 62 ∗ ES X Wt c true 31 ∗ ES X Wt c false 31) -∗ Q ⟨⟩)
        -∗ run c (agLoop c n g e) Q)
  | 0, g, e => by
    obtain rfl : g = 31 := by omega
    unfold agLoop
    iintro ⟨-, H⟩ Hk; iapply (run_pure c); iapply Hk; iexact H
  | n + 1, g, e => by
    have hh : g < 31 := by omega
    have e' : g + 1 + n = 31 := by omega
    unfold agLoop
    iintro ⟨#HR, H⟩ Hk
    rw [run_bind]
    iapply (agStep_spec X Wt K c g hh) $$ [H]
    · isplitr; · iexact HR
      iexact H
    iintro H
    iapply (agLoop_spec c Q n (g + 1) e') $$ [H]
    · isplitr; · iexact HR
      iexact H
    iexact Hk

end Cert.RingProof

end
-- ==== Proof.Geom.lean ====
module

public import proofs.«01_k».proof.Proof.Slots

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! # Where things lie -/

/-! ## Closed forms of the devices and the offsets -/

/-- Going right, the downstream neighbour is the next device. -/
theorem dstR_val (c : Dev nD) : (dstOf true c).val = (c.val + 1) % 32 := by revert c; decide +kernel
/-- Going left, the downstream neighbour is the device before. -/
theorem dstL_val (c : Dev nD) : (dstOf false c).val = (c.val + 31) % 32 := by revert c; decide +kernel
/-- Going right, the upstream neighbour is the device before. -/
theorem srcR_val (c : Dev nD) : (srcOf true c).val = (c.val + 31) % 32 := by revert c; decide +kernel
/-- Going left, the upstream neighbour is the next device. -/
theorem srcL_val (c : Dev nD) : (srcOf false c).val = (c.val + 1) % 32 := by revert c; decide +kernel

/-- The 64-row block of the result that direction `d`'s `k`-th result block on device `c` is. -/
def outBlk (c : Dev nD) (d : Bool) (k : Fin 32) : ℕ :=
  match d with | true => 2 * ((c.val + 33 - k.val) % 32) | false => 2 * ((c.val + k.val + 31) % 32) + 1
/-- The 64-row block of `x` that direction `d` adds at step `h`. -/
def accBlk (c : Dev nD) (d : Bool) (h : ℕ) : ℕ :=
  match d with | true => 2 * ((c.val + 31 - h) % 32) | false => 2 * ((c.val + h + 1) % 32) + 1
/-- The 64-row block of `x` that direction `d` starts from. -/
def ownBlk (c : Dev nD) (d : Bool) : ℕ := match d with | true => 2 * c.val | false => 2 * c.val + 1

/-- A result block's first row. -/
theorem outOff_zero (c : Dev nD) (d : Bool) (k : Fin 32) : outOff d c k 0 = 64 * outBlk c d k := by
  revert k d c; decide +kernel
/-- A result block starts at column zero. -/
theorem outOff_one (c : Dev nD) (d : Bool) (k : Fin 32) : outOff d c k 1 = 0 := by
  revert k d c; decide +kernel
/-- The first row of the block of `x` added at step `h`. -/
theorem accOff_zero (c : Dev nD) (d : Bool) (h : Fin 31) : accOff d c h 0 = 64 * accBlk c d h.val := by
  revert h d c; decide +kernel
/-- That block starts at column zero. -/
theorem accOff_one (c : Dev nD) (d : Bool) (h : Fin 31) : accOff d c h 1 = 0 := by
  revert h d c; decide +kernel
/-- The first row of the block of `x` a direction starts from. -/
theorem ownOff_zero (c : Dev nD) (d : Bool) : ownOff d c 0 = 64 * ownBlk c d := by
  revert d c; decide +kernel
/-- That block starts at column zero. -/
theorem ownOff_one (c : Dev nD) (d : Bool) : ownOff d c 1 = 0 := by
  revert d c; decide +kernel

/-! ## A double buffer is its two slots -/

variable {e : EltTy}

/-- Something held of both slots is held of the one and of the other. -/
theorem bigSep_two (Φ : Fin 2 → sProp 𝕄) : bigSep Finset.univ Φ = iprop(Φ 0 ∗ Φ 1) := bigSep_univ_eq_bigSepL [0, 1] (by decide) (by decide) Φ

/-- Every element of a double buffer lies in one of its slots. -/
theorem slot_cover (i : S2x64x8192.Idx) : ∃ s : Fin 2, i ∈ (slotRect s).set := by
  have h0 : (i 0).val < 2 := (i 0).isLt
  have h1 : (i 1).val < 64 := (i 1).isLt
  have h2 : (i 2).val < 8192 := (i 2).isLt
  refine ⟨⟨(i 0).val, h0⟩, Rect.mem_set_unit.mpr fun a => ?_⟩
  match a with
  | 0 => exact ⟨Nat.le_refl _, Nat.lt_succ_self _⟩
  | 1 => exact ⟨Nat.zero_le _, by show (i 1).val < 0 + 64; omega⟩
  | 2 => exact ⟨Nat.zero_le _, by show (i 2).val < 0 + 8192; omega⟩
/-- The two slots share no element. -/
theorem slot_disj (s s' : Fin 2) (h : s ≠ s') : Disjoint (slotRect s).set (slotRect s').set := by
  rw [Finset.disjoint_left]
  intro i hi hi'
  have h1 := Rect.mem_set_unit.mp hi 0
  have h2 := Rect.mem_set_unit.mp hi' 0
  apply h
  have e1 : s.val ≤ (i 0).val ∧ (i 0).val < s.val + 1 := h1
  have e2 : s'.val ≤ (i 0).val ∧ (i 0).val < s'.val + 1 := h2
  exact Fin.ext (by omega)

/-- A double buffer's elements are those of its slots. -/
theorem slots_set (M : Memref sig .tc .vmem S2x64x8192 e) :
    M.view.set = (Finset.univ : Finset (Fin 2)).biUnion fun s => (M.access (slotRect s)).set := by
  ext i
  simp only [Finset.mem_biUnion, Finset.mem_univ, true_and]
  have hs (s : Fin 2) : (M.access (slotRect s)).set = (slotRect s).set.map M.view.emb := View.set_slice _ _
  constructor
  · intro h
    obtain ⟨x, -, rfl⟩ := Finset.mem_map.mp h
    obtain ⟨s, hx⟩ := slot_cover x
    exact ⟨s, by rw [hs]; exact Finset.mem_map_of_mem _ hx⟩
  · rintro ⟨s, h⟩
    rw [hs] at h
    obtain ⟨x, -, rfl⟩ := Finset.mem_map.mp h
    exact Finset.mem_map_of_mem _ (Finset.mem_univ x)
/-- The slots' elements are apart, in the buffer the memref names. -/
theorem slots_disj (M : Memref sig .tc .vmem S2x64x8192 e) (s s' : Fin 2) (h : s ≠ s') :
    Disjoint (M.access (slotRect s)).set (M.access (slotRect s')).set := by
  rw [show (M.access (slotRect s)).set = (slotRect s).set.map M.view.emb from View.set_slice _ _,
    show (M.access (slotRect s')).set = (slotRect s').set.map M.view.emb from View.set_slice _ _]
  exact (Finset.disjoint_map _).mpr (slot_disj s s' h)

/-- A buffer at anything is its two slots at anything. -/
theorem slots_split (c : Dev nD) (M : Memref sig .tc .vmem S2x64x8192 e) (hM : M.view.set = Finset.univ) :
    iprop(∃ f : Buf (Elt F) (M.view.loc (c : Thread nD τ)), M.view.loc (c : Thread nD τ) ↦{fullShare} f) ⊢ (iprop(heldE c M 0 ∗ heldE c M 1) : sProp 𝕄) := by
  have e (f : Buf (Elt F) (M.view.loc (c : Thread nD τ))) : (M.view.loc (c : Thread nD τ) ↦{fullShare} f : sProp 𝕄)
      = iprop((M.view.loc (c : Thread nD τ) ↦[(M.access (slotRect 0)).set]{fullShare} f) ∗ (M.view.loc (c : Thread nD τ) ↦[(M.access (slotRect 1)).set]{fullShare} f)) := by
    rw [← hM, slots_set M, pointsTo_biUnion _ _ (fun s _ s' _ h => slots_disj M s s' h), bigSep_two]
  iintro ⟨%f, H⟩
  icases (Entails.of_eq (e f)) $$ H with ⟨Ha, Hb⟩
  unfold heldE
  isplitl [Ha]
  · iexists f; iexact Ha
  · iexists f; iexact Hb
/-- Both slots together are the whole buffer. -/
theorem slots_join (c : Dev nD) (M : Memref sig .tc .vmem S2x64x8192 e) (hM : M.view.set = Finset.univ) :
    (iprop(heldE c M 0 ∗ heldE c M 1) : sProp 𝕄) ⊢ iprop(∃ f : Buf (Elt F) (M.view.loc (c : Thread nD τ)), M.view.loc (c : Thread nD τ) ↦{fullShare} f) := by
  unfold heldE
  iintro ⟨⟨%f, Ha⟩, ⟨%g, Hb⟩⟩
  ihave H := (pointsTo_biUnion_join (ℓ := M.view.loc (c : Thread nD τ)) (q := fullShare) (Finset.univ : Finset (Fin 2)) (fun s => (M.access (slotRect s)).set)
    (fun s => match s with | 0 => f | 1 => g) f (fun s _ s' _ h => slots_disj M s s' h)) $$ [Ha Hb]
  · rw [bigSep_two]
    isplitl [Ha]; · iexact Ha
    iexact Hb
  icases H with ⟨%k, -, H⟩
  iexists k
  rw [← hM, slots_set M]
  iexact H

/-! ## The result array is its 64 blocks -/

/-- The elements of a result block, as a rectangle of the result. -/
theorem out_set (d : Bool) (c : Dev nD) (k : Fin 32) :
    (outP d c k).view.set = (Rect.unit (s := S4096x8192) (outOff d c k) S64x8192.size (outOff_inb d c k)).set.map (oM : Memref sig .tc _ _ _).view.emb := View.set_slice _ _

/-- An element lies in a result block exactly when its row does. -/
theorem mem_out (d : Bool) (c : Dev nD) (k : Fin 32) (i : S4096x8192.Idx) :
    i ∈ (Rect.unit (s := S4096x8192) (outOff d c k) S64x8192.size (outOff_inb d c k)).set ↔ (i 0).val / 64 = outBlk c d k := by
  rw [Rect.mem_set_unit]
  constructor
  · intro h
    have h0 : outOff d c k 0 ≤ (i 0).val ∧ (i 0).val < outOff d c k 0 + 64 := h 0
    rw [outOff_zero] at h0
    omega
  · intro h a
    have h1 : (i 1).val < 8192 := (i 1).isLt
    match a with
    | 0 =>
      show outOff d c k 0 ≤ (i 0).val ∧ (i 0).val < outOff d c k 0 + 64
      rw [outOff_zero]; omega
    | 1 =>
      show outOff d c k 1 ≤ (i 1).val ∧ (i 1).val < outOff d c k 1 + 8192
      rw [outOff_one]; omega

/-- Different result blocks are different 64-row blocks. -/
theorem outBlk_inj (c : Dev nD) (p p' : Bool × Fin 32) (h : outBlk c p.1 p.2 = outBlk c p'.1 p'.2) : p = p' := by
  obtain ⟨d, k⟩ := p
  obtain ⟨d', k'⟩ := p'
  have hc := c.isLt
  have hk := k.isLt
  have hk' := k'.isLt
  have hn : nD = 32 := rfl
  cases d <;> cases d' <;> dsimp only [outBlk] at h
  · exact congrArg _ (Fin.ext (by omega))
  · omega
  · omega
  · exact congrArg _ (Fin.ext (by omega))
/-- Every 64-row block of the result is one of a device's result blocks. -/
theorem outBlk_surj (c : Dev nD) (n : ℕ) (h : n < 64) : ∃ p : Bool × Fin 32, outBlk c p.1 p.2 = n := by
  have hc := c.isLt
  have hn : nD = 32 := rfl
  rcases Nat.mod_two_eq_zero_or_one n with h2 | h2
  · refine ⟨(true, ⟨(c.val + 33 - n / 2) % 32, Nat.mod_lt _ (by decide)⟩), ?_⟩
    show 2 * ((c.val + 33 - (c.val + 33 - n / 2) % 32) % 32) = n
    omega
  · refine ⟨(false, ⟨(n / 2 + 33 - c.val) % 32, Nat.mod_lt _ (by decide)⟩), ?_⟩
    show 2 * ((c.val + (n / 2 + 33 - c.val) % 32 + 31) % 32) + 1 = n
    omega

/-- The elements of a result block. -/
def outSet (c : Dev nD) (p : Bool × Fin 32) : Finset (Idx ((oM : Memref sig .tc .hbm S4096x8192 .f32).view.loc (c : Thread nD τ))) := (outP p.1 c p.2).view.set

/-- The result blocks cover the result. -/
theorem out_cover (c : Dev nD) : (Finset.univ : Finset (Bool × Fin 32)).biUnion (outSet c) = Finset.univ := by
  ext i
  simp only [Finset.mem_biUnion, Finset.mem_univ, true_and, iff_true]
  have hi : ((i : S4096x8192.Idx) 0).val < 4096 := ((i : S4096x8192.Idx) 0).isLt
  obtain ⟨p, hp⟩ := outBlk_surj c (((i : S4096x8192.Idx) 0).val / 64) (by omega)
  refine ⟨p, ?_⟩
  unfold outSet
  rw [out_set]
  exact Finset.mem_map.mpr ⟨i, (mem_out p.1 c p.2 i).mpr hp.symm, rfl⟩
/-- Different result blocks share no element. -/
theorem out_disj (c : Dev nD) (p p' : Bool × Fin 32) (h : p ≠ p') : Disjoint (outSet c p) (outSet c p') := by
  unfold outSet
  rw [out_set, out_set]
  refine (Finset.disjoint_map _).mpr (Finset.disjoint_left.mpr fun i hi hi' => h (outBlk_inj c p p' ?_))
  rw [← (mem_out p.1 c p.2 i).mp hi, ← (mem_out p'.1 c p'.2 i).mp hi']

end Cert.RingProof

end
-- ==== Proof.Body.lean ====
module

public import proofs.«01_k».proof.Proof.Gather
public import proofs.«01_k».proof.Proof.Geom

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! # The whole body -/

variable (X : (c : Dev nD) → Buf (Elt F) ((xM : Memref sig .tc _ _ _).view.loc (c : Thread nD τ)))
  (Wt : (c : Dev nD) → Buf (Elt F) ((wM : Memref sig .tc _ _ _).view.loc (c : Thread nD τ)))
variable (K : Dev nD × Cl → ℕ)

/-! ## The barrier -/

/-- The barrier's single round hands over the receive slots of both neighbours. -/
theorem rest_bar (c : Dev nD) :
    bigSep ((Rd (F := F) X Wt).duties (cell c .bar) 0 \ ∅) (fun n => (Rd (F := F) X Wt).payload (cell c .bar) 0 n) = iprop(pay X Wt c .bar 0 ∗ pay X Wt c .bar 1) := by
  rw [Finset.sdiff_empty, duties_cell, show dut .bar 0 = {0, 1} from rfl, bigSep_insert (by decide), bigSep_singleton, payload_cell, payload_cell]
  rfl

/-- A device's two receive slots of a direction go to the device that sends to it. -/
theorem signal_bar (c : Dev nD) (d : Bool) (n : ℕ) (hd : (n == 0) = d) (hn : n < 2) (O : CellTallies nD τ sig ℕ) {O' : CellTallies nD τ sig ℕ}
    (hO : O' = O + tallyAt (cell (srcOf d c) .bar) 0 1) (Q : PUnit → sProp 𝕄) :
    iprop(records X Wt K ∗ owesE c O' ∗ dutyTok ER (cell (srcOf d c) .bar) 0 n ∗ heldE c (bM .recv d) 0 ∗ heldE c (bM .recv d) 1)
      ⊢ iprop((owesE c O -∗ Q ⟨⟩) -∗ run c (semSignalWord (srcOf d c) barS 1#32) Q) := by
  subst hd
  unfold run
  simp only [semSignalWord, Prog.lift, Prog.bind_op, Prog.bind_ret, Prog.pure_eq_ret]
  iintro ⟨#HR, HO, Ht, Ha, Hb⟩ Hk
  icases (owesE_elim c _) $$ HO with ⟨%W, HO⟩
  iapply (Rounds.wp_signal 𝒱₀ ER (Rd X Wt) (c : Thread nD τ) none (dst := (srcOf (n == 0) c : Thread nD τ)) (sem := barS) (κ := K (srcOf (n == 0) c, .bar))
      (r := 0) (d := n)
      (by
        rw [show ((srcOf (n == 0) c : Thread nD τ), SemLoc.reg barS) = cell (srcOf (n == 0) c) .bar from rfl, duties_cell]
        exact Finset.mem_range.mpr hn)
      (amount_cell X Wt (srcOf (n == 0) c) .bar _ _) 0 O hO (W := W))
    $$ [HO Ht Ha Hb]
  · isplitr; · iapply (inv_of X Wt K (srcOf (n == 0) c) .bar); iexact HR
    isplitl [HO]; · iexact HO
    isplitl [Ht]; · iexact Ht
    isplitl [Ha Hb]
    · rw [show ((srcOf (n == 0) c : Thread nD τ), SemLoc.reg barS) = cell (srcOf (n == 0) c) .bar from rfl, payload_cell,
        show pay X Wt (srcOf (n == 0) c) .bar n = iprop(heldE (dstOf (n == 0) (srcOf (n == 0) c)) (bM .recv (n == 0)) 0 ∗ heldE (dstOf (n == 0) (srcOf (n == 0) c)) (bM .recv (n == 0)) 1) from rfl,
        dst_src]
      isplitl [Ha] <;> iassumption
    iapply (reached_of X Wt K (srcOf (n == 0) c) .bar); iexact HR
  iintro HO
  first | (rw [wp_ret]; imodintro) | skip
  iapply Hk
  iapply (owesE_intro c _ _) $$ HO

/-- The opening: the device signals both neighbours, giving each the receive slots it will fill, waits for both signals
    and gets the neighbours' slots in return. -/
theorem prologue_spec (c : Dev nD) (Q : PUnit → sProp 𝕄) :
    iprop(records X Wt K ∗ owesE c (O₀ c) ∗ dutyTok ER (cell (srcOf true c) .bar) 0 0 ∗ dutyTok ER (cell (srcOf false c) .bar) 0 1
        ∗ (heldE c (bM .recv true) 0 ∗ heldE c (bM .recv true) 1) ∗ (heldE c (bM .recv false) 0 ∗ heldE c (bM .recv false) 1)
        ∗ atPos ER (cell c .bar) 0 ∅ 0 ∗ cred (tallyAt (cell c .bar) 0 2))
      ⊢ iprop(((owesE c (Ow c 0 0 0 0) ∗ atPos ER (cell c .bar) 1 ∅ 0
          ∗ (heldE (dstOf true c) (bM .recv true) 0 ∗ heldE (dstOf true c) (bM .recv true) 1)
          ∗ (heldE (dstOf false c) (bM .recv false) 0 ∗ heldE (dstOf false c) (bM .recv false) 1)) -∗ Q ⟨⟩) -∗ run c (prologue c) Q) := by
  unfold prologue
  iintro ⟨#HR, HO, Hta, Htb, Ha, Hb, Hat, Hc⟩ Hk
  rw [run_bind]
  iapply (signal_bar X Wt K c true 0 rfl (by omega) (O₁ c) rfl) $$ [HO Hta Ha]
  · isplitr; · iexact HR
    isplitl [HO]; · iexact HO
    isplitl [Hta] <;> iassumption
  iintro HO
  rw [run_bind]
  iapply (signal_bar X Wt K c false 1 rfl (by omega) (Ow c 0 0 0 0) rfl) $$ [HO Htb Hb]
  · isplitr; · iexact HR
    isplitl [HO]; · iexact HO
    isplitl [Htb] <;> iassumption
  iintro HO
  icases (owesE_elim c _) $$ HO with ⟨%W, HO⟩
  simp only [semWaitWord]
  unfold run
  iapply (Rounds.wp_wait_rest_token 𝒱₀ ER (Rd X Wt) (c : Thread nD τ) none (κ := K (c, .bar)) (wpE_semWait_eq 𝒱₀ (c : Thread nD τ) none Set.univ) (Set.mem_univ _) 0
    (sm := semOf .bar) (k' := 2) (O := Ow c 0 0 0 0) (W := W) (R := 0) (m := 0) (T := ∅)
    (by rw [show (((c : Thread nD τ), semOf .bar) : GSem nD τ sig) = cell c .bar from rfl, expect_cell]; rfl)) $$ [Hc HO Hat]
  · isplitr; · iapply (inv_of X Wt K c .bar); iexact HR
    isplitl [Hc]; · iexact Hc
    isplitl [HO]; · iexact HO
    isplitr; · iapply (may_of X Wt K c .bar 0 (by omega) 0 0 0 0 (by dsimp only [lvl]; omega)); iexact HR
    iexact Hat
  iintro ⟨HO, Hat, -, Hp⟩
  icases (Entails.of_eq (rest_bar X Wt c)) $$ Hp with ⟨Hp, Hq⟩
  rw [wp_ret]; imodintro
  iapply Hk
  isplitl [HO]; · iapply (owesE_intro c _ _) $$ HO
  isplitl [Hat]; · iexact Hat
  isplitl [Hp]
  · iapply (Entails.of_eq (show pay X Wt c .bar 0 = iprop(heldE (dstOf true c) (bM .recv true) 0 ∗ heldE (dstOf true c) (bM .recv true) 1) from rfl)) $$ Hp
  iapply (Entails.of_eq (show pay X Wt c .bar 1 = iprop(heldE (dstOf false c) (bM .recv false) 0 ∗ heldE (dstOf false c) (bM .recv false) 1) from rfl)) $$ Hq

/-! ## Loading the operands -/

/-- Both zero offsets, as a function. -/
theorem hz : (![0, 0] : Fin 2 → Nat) = fun _ => 0 := funext fun a => by fin_cases a <;> rfl

/-- The staged operands copied into the kernel's buffers. -/
def XOf (x : (c : Dev nD) → Vec F S4096x128 .bf16) (c : Dev nD) : Buf (Elt F) ((xM : Memref sig .tc _ _ _).view.loc (c : Thread nD τ)) := k0_pay1 (x c)
/-- The copy of a device's rows of `w` that the kernel keeps. -/
def WOf (w : (c : Dev nD) → Vec F S128x8192 .bf16) (c : Dev nD) : Buf (Elt F) ((wM : Memref sig .tc _ _ _).view.loc (c : Thread nD τ)) := k0_pay2 (w c)

/-- Copying the arguments into the kernel's own buffers leaves the arguments and fills the buffers with them. -/
theorem loadIn_spec (x : (c : Dev nD) → Vec F S4096x128 .bf16) (w : (c : Dev nD) → Vec F S128x8192 .bf16) (c : Dev nD) (Q : PUnit → sProp 𝕄) :
    iprop((((c : Thread nD τ).loc cc0_stg0_0) ↦{fullShare} (x c : Buf (Elt F) ((c : Thread nD τ).loc cc0_stg0_0)))
        ∗ (((c : Thread nD τ).loc cc0_stg1_0) ↦{fullShare} (w c : Buf (Elt F) ((c : Thread nD τ).loc cc0_stg1_0)))
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ⊢ iprop((((((c : Thread nD τ).loc cc0_stg0_0) ↦{fullShare} (x c : Buf (Elt F) ((c : Thread nD τ).loc cc0_stg0_0)))
        ∗ (((c : Thread nD τ).loc cc0_stg1_0) ↦{fullShare} (w c : Buf (Elt F) ((c : Thread nD τ).loc cc0_stg1_0)))
        ∗ xPts (XOf x) c ∗ wPts (WOf w) c) -∗ Q ⟨⟩) -∗ run c loadIn Q) := by
  unfold loadIn run
  simp only [ldW, Prog.lift, Prog.bind_op, Prog.bind_ret, Prog.pure_eq_ret]
  iintro ⟨Hx, Hw, ⟨%f, Hf⟩, ⟨%g, Hg⟩⟩ Hk
  iapply (wp_load 𝒱₀ (c : Thread nD τ) none Set.univ (m := Memref.whole cc0_stg0_0) (f := x c) (Finset.subset_univ _)) $$ Hx; iintro Hx
  iapply (wp_load 𝒱₀ (c : Thread nD τ) none Set.univ (m := xM) (f := f) (Finset.subset_univ _)) $$ Hf; iintro Hf
  iapply (wp_store 𝒱₀ (c : Thread nD τ) none Set.univ (m := xM) (r := Rect.unit (s := S4096x128) ![0, 0] S4096x128.size inb_S4096x128_S4096x128_0_0) (f := f) (Mk := Finset.univ) (Finset.subset_univ _)) $$ Hf; iintro Hf
  iapply (wp_load 𝒱₀ (c : Thread nD τ) none Set.univ (m := Memref.whole cc0_stg1_0) (f := w c) (Finset.subset_univ _)) $$ Hw; iintro Hw
  iapply (wp_load 𝒱₀ (c : Thread nD τ) none Set.univ (m := wM) (f := g) (Finset.subset_univ _)) $$ Hg; iintro Hg
  iapply (wp_store 𝒱₀ (c : Thread nD τ) none Set.univ (m := wM) (r := Rect.unit (s := S128x8192) ![0, 0] S128x8192.size inb_S128x8192_S128x8192_0_0) (f := g) (Mk := Finset.univ) (Finset.subset_univ _)) $$ Hg; iintro Hg
  rw [wp_ret]; imodintro
  iapply Hk
  isplitl [Hx]; · iexact Hx
  isplitl [Hw]; · iexact Hw
  have ex : View.write (Elt F) ((xM : Memref sig .tc .vmem S4096x128 .bf16).access (Rect.unit (s := S4096x128) ![0, 0] S4096x128.size inb_S4096x128_S4096x128_0_0)) f
      (k0_pay1 (View.readAt (Elt F) (Memref.whole cc0_stg0_0).view (Rect.unit (s := S4096x128) ![0, 0] S4096x128.size inb_S4096x128_S4096x128_0_0).toLoadRect (x c))) Finset.univ = XOf x c := by
    rw [show View.readAt (Elt F) (Memref.whole cc0_stg0_0).view (Rect.unit (s := S4096x128) ![0, 0] S4096x128.size inb_S4096x128_S4096x128_0_0).toLoadRect (x c) = x c from
      Memref.readAt_unit_zero (Elt F) cc0_stg0_0 hz _ _]
    exact Memref.write_access_unit_zero_univ (Elt F) cc0_scratch0 hz _ f _
  have ew : View.write (Elt F) ((wM : Memref sig .tc .vmem S128x8192 .bf16).access (Rect.unit (s := S128x8192) ![0, 0] S128x8192.size inb_S128x8192_S128x8192_0_0)) g
      (k0_pay2 (View.readAt (Elt F) (Memref.whole cc0_stg1_0).view (Rect.unit (s := S128x8192) ![0, 0] S128x8192.size inb_S128x8192_S128x8192_0_0).toLoadRect (w c))) Finset.univ = WOf w c := by
    rw [show View.readAt (Elt F) (Memref.whole cc0_stg1_0).view (Rect.unit (s := S128x8192) ![0, 0] S128x8192.size inb_S128x8192_S128x8192_0_0).toLoadRect (w c) = w c from
      Memref.readAt_unit_zero (Elt F) cc0_stg1_0 hz _ _]
    exact Memref.write_access_unit_zero_univ (Elt F) cc0_scratch1 hz _ g _
  unfold xPts wPts
  rw [← ex, ← ew]
  isplitl [Hf]; · iexact Hf
  iexact Hg

/-- The first value a direction sends. -/
theorem first_spec (c : Dev nD) (d : Bool) (Q : PUnit → sProp 𝕄) :
    iprop(xPts X c ∗ wPts Wt c ∗ heldE c (bM .send d) 0)
      ⊢ iprop(((xPts X c ∗ wPts Wt c ∗ held c (bM .send d) 0 (xval X Wt d 0 c)) -∗ Q ⟨⟩) -∗ run c (first c d) Q) := by
  unfold first
  iintro ⟨HX, HW, Hs⟩ Hk
  rw [run_bind]; iapply (ldX_spec X c) $$ HX; iintro HX
  rw [run_bind]; iapply (ldW_spec Wt c) $$ HW; iintro HW
  iapply (stSend_spec c d 0) $$ Hs; iintro Hs
  iapply Hk
  isplitl [HX]; · iexact HX
  isplitl [HW]; · iexact HW
  iexact Hs

/-- The last reduce-scatter step. -/
theorem rsLast_spec (c : Dev nD) (Q : PUnit → sProp 𝕄) :
    iprop(records X Wt K ∗ xPts X c ∗ wPts Wt c ∗ owesE c (Ow c 30 30 30 30) ∗ RSd X Wt c true 30 ∗ RSd X Wt c false 30 ∗ ES0 c true ∗ ES0 c false)
      ⊢ iprop(((xPts X c ∗ wPts Wt c ∗ owesE c (Ow c 31 31 31 31) ∗ RSd X Wt c true 31 ∗ RSd X Wt c false 31 ∗ ES X Wt c true 0 ∗ ES X Wt c false 0) -∗ Q ⟨⟩)
        -∗ run c (rsLast c) Q) := by
  unfold rsLast
  iintro ⟨#HR, HX, HW, HO, Ha, Hb, Hea, Heb⟩ Hk
  rw [run_bind]
  iapply (rsCore_spec X Wt K c 30 (Nat.le_refl _) _ rfl rfl) $$ [HX HW HO Ha Hb]
  · isplitr; · iexact HR
    isplitl [HX]; · iexact HX
    isplitl [HW]; · iexact HW
    isplitl [HO]; · iexact HO
    isplitl [Ha] <;> iassumption
  iintro ⟨HX, HW, HO, Ha, Hb⟩
  rw [run_bind]
  iapply (emitFirst_spec X Wt K c true _ rfl) $$ [Hea]
  · isplitr; · iexact HR
    iexact Hea
  iintro Hea
  iapply (emitFirst_spec X Wt K c false _ rfl) $$ [Heb]
  · isplitr; · iexact HR
    iexact Heb
  iintro Heb
  iapply Hk
  isplitl [HX]; · iexact HX
  isplitl [HW]; · iexact HW
  isplitl [HO]; · iexact HO
  isplitl [Ha]; · iexact Ha
  isplitl [Hb]; · iexact Hb
  isplitl [Hea] <;> iassumption

/-- The last two copies of a direction, one after the other. -/
def ESlast (c : Dev nD) (d : Bool) : sProp 𝕄 :=
  iprop(copyPos c d 31 ∗ ccred c d 31 ∗ heldE c (gM d) 0 ∗ bigSep (Finset.range 31) (outDone X Wt c d))

/-- Waiting for the last copy but one of a direction leaves only the last one outstanding. -/
theorem drain30_spec (c : Dev nD) (d : Bool) (a b p q : ℕ) (Q : PUnit → sProp 𝕄) :
    iprop(records X Wt K ∗ owesE c (Ow c a b p q) ∗ ES X Wt c d 31)
      ⊢ iprop(((owesE c (Ow c a b p q) ∗ ESlast X Wt c d) -∗ Q ⟨⟩) -∗ run c (drain c d 0 30) Q) := by
  unfold ES ESlast
  rw [if_neg (by omega), show 31 - 1 = 30 from rfl, show Finset.range 31 = Finset.range (30 + 1) from rfl, bigSep_range_succ 30]
  iintro ⟨#HR, HO, Hp, Hc, Hc', Hd, -⟩ Hk
  iapply (drain_spec X Wt K c d 30 (by omega) 0 rfl 30 rfl a b p q) $$ [HO Hc' Hp]
  · isplitr; · iexact HR
    isplitl [HO]; · iexact HO
    isplitl [Hc'] <;> iassumption
  iintro ⟨HO, Hp, Ho, Hg⟩
  iapply Hk
  isplitl [HO]; · iexact HO
  isplitl [Hp]; · iexact Hp
  isplitl [Hc]; · iexact Hc
  isplitl [Hg]; · iexact Hg
  isplitl [Ho]; · unfold outDone; iexact Ho
  iexact Hd

/-- After the wait for the last copy all 32 result blocks of the direction are written and both staging slots are free. -/
theorem drain31_spec (c : Dev nD) (d : Bool) (a b p q : ℕ) (Q : PUnit → sProp 𝕄) :
    iprop(records X Wt K ∗ owesE c (Ow c a b p q) ∗ ESlast X Wt c d)
      ⊢ iprop(((owesE c (Ow c a b p q) ∗ copyPos c d 32 ∗ bigSep (Finset.range 32) (outDone X Wt c d) ∗ heldE c (gM d) 0 ∗ heldE c (gM d) 1) -∗ Q ⟨⟩)
        -∗ run c (drain c d 1 31) Q) := by
  unfold ESlast
  rw [show Finset.range 32 = Finset.range (31 + 1) from rfl, bigSep_range_succ 31]
  iintro ⟨#HR, HO, Hp, Hc, Hg, Hd⟩ Hk
  iapply (drain_spec X Wt K c d 31 (by omega) 1 rfl 31 rfl a b p q) $$ [HO Hc Hp]
  · isplitr; · iexact HR
    isplitl [HO]; · iexact HO
    isplitl [Hc] <;> iassumption
  iintro ⟨HO, Hp, Ho, Hg'⟩
  iapply Hk
  isplitl [HO]; · iexact HO
  isplitl [Hp]; · iexact Hp
  isplitl [Hd Ho]
  · isplitl [Ho]; · unfold outDone; iexact Ho
    iexact Hd
  isplitl [Hg]; · iexact Hg
  iexact Hg'

/-! ## Closing the cells -/

/-- A cell with no round left to come has its counter at zero. -/
theorem close_one (c : Dev nD) (k : Cl) (R : ℕ) (h : ∀ r, R ≤ r → dut k r = ∅) :
    iprop(records X Wt K ∗ atPos ER (cell c k) R ∅ 0) ⊢ iprop(|={Set.univ}=> (semVal (cell c k) 0 : sProp 𝕄)) := by
  iintro ⟨#HR, Hat⟩
  iapply (Rounds.cell_close ER (Rd X Wt) (κ := K (c, k)) (Set.mem_univ _) (fun h => h) (R := R) (fun r hr => by rw [duties_cell]; exact h r hr))
  isplitr; · iapply (inv_of X Wt K c k); iexact HR
  iexact Hat

/-- So have the two cells of a pair once all their uses are over. -/
theorem close_two (c : Dev nD) (k : Fin 2 → Cl) (sl : ℕ → Fin 2) (N : ℕ) (h : ∀ s r, dut (k s) r = seqD sl N s r) :
    iprop(records X Wt K ∗ pos2 c k sl N) ⊢ iprop(|={Set.univ}=> (iprop(semVal (cell c (k 0)) 0 ∗ semVal (cell c (k 1)) 0) : sProp 𝕄)) := by
  unfold pos2
  iintro ⟨#HR, ⟨Ha, -⟩, ⟨Hb, -⟩⟩
  imod (close_one X Wt K c (k 0) (cnt sl 0 N) (fun r hr => by rw [h]; exact seqD_later hr)) $$ [Ha] with Ha
  · isplitr; · iexact HR
    iexact Ha
  imod (close_one X Wt K c (k 1) (cnt sl 1 N) (fun r hr => by rw [h]; exact seqD_later hr)) $$ [Hb] with Hb
  · isplitr; · iexact HR
    iexact Hb
  imodintro
  isplitl [Ha] <;> iassumption

/-- The counters of a direction at zero. -/
def zeroDir (c : Dev nD) (d : Bool) : sProp 𝕄 :=
  iprop((semVal (cell c (.send d 0)) 0 ∗ semVal (cell c (.send d 1)) 0) ∗ (semVal (cell c (.recv d 0)) 0 ∗ semVal (cell c (.recv d 1)) 0)
    ∗ (semVal (cell c (.cp d 0)) 0 ∗ semVal (cell c (.cp d 1)) 0) ∗ semVal (cell c (.cred d)) 0)

/-- At the end all counters of a direction are zero. -/
theorem close_dir (c : Dev nD) (d : Bool) :
    iprop(records X Wt K ∗ sendPos c d 62 ∗ recvPos c d 62 ∗ copyPos c d 32 ∗ credPos c d 60) ⊢ iprop(|={Set.univ}=> (zeroDir c d : sProp 𝕄)) := by
  unfold sendPos recvPos copyPos credPos zeroDir
  rw [if_neg (by omega)]
  iintro ⟨#HR, Ha, Hb, Hc, ⟨Hd, -⟩⟩
  imod (close_two X Wt K c (Cl.send d) slS 62 (fun _ _ => rfl)) $$ [Ha] with Ha
  · isplitr; · iexact HR
    iexact Ha
  imod (close_two X Wt K c (Cl.recv d) slR 62 (fun _ _ => rfl)) $$ [Hb] with Hb
  · isplitr; · iexact HR
    iexact Hb
  imod (close_two X Wt K c (Cl.cp d) slC 32 (fun _ _ => rfl)) $$ [Hc] with Hc
  · isplitr; · iexact HR
    iexact Hc
  imod (close_one X Wt K c (.cred d) (60 - 30) (fun r hr => by
    ext n; simp only [dut, Finset.mem_filter, Finset.mem_range, Finset.notMem_empty, iff_false]; omega)) $$ [Hd] with Hd
  · isplitr; · iexact HR
    iexact Hd
  imodintro
  isplitl [Ha]; · iexact Ha
  isplitl [Hb]; · iexact Hb
  isplitl [Hc] <;> iassumption

/-! ## The body -/

/-- What a direction starts from: its positions, the rights and the credits it spends, its send and staging slots, its part of
    the result. -/
def dirIn (c : Dev nD) (d : Bool) : sProp 𝕄 :=
  iprop(sendPos c d 0 ∗ recvPos c d 0 ∗ copyPos c d 0 ∗ credPos c d 0
    ∗ bigSep (Finset.Ico 0 62) (xtok c d) ∗ bigSep (Finset.Ico 0 62) (xcred c d) ∗ bigSep (Finset.Ico 0 60) (gtok c d) ∗ bigSep (Finset.Ico 0 60) (gcred c d)
    ∗ bigSep (Finset.Ico 0 32) (ctok c d)
    ∗ (heldE c (bM .send d) 0 ∗ heldE c (bM .send d) 1) ∗ (heldE c (gM d) 0 ∗ heldE c (gM d) 1) ∗ bigSep (Finset.Ico 0 32) (fun k => outE c d (k32 k)))
/-- What it ends with. -/
def dirOut (c : Dev nD) (d : Bool) : sProp 𝕄 :=
  iprop(zeroDir c d ∗ (heldE c (bM .send d) 0 ∗ heldE c (bM .send d) 1) ∗ (heldE c (bM .recv d) 0 ∗ heldE c (bM .recv d) 1) ∗ (heldE c (gM d) 0 ∗ heldE c (gM d) 1)
    ∗ bigSep (Finset.range 32) (outDone X Wt c d))

/-- A direction is ready to start once the barrier has brought the neighbour's receive slots. -/
theorem dir_start (c : Dev nD) (d : Bool) :
    iprop(records X Wt K ∗ held c (bM .send d) 0 (xval X Wt d 0 c) ∗ heldE c (bM .send d) 1
        ∗ (heldE (dstOf d c) (bM .recv d) 0 ∗ heldE (dstOf d c) (bM .recv d) 1)
        ∗ sendPos c d 0 ∗ recvPos c d 0 ∗ credPos c d 0
        ∗ bigSep (Finset.Ico 0 62) (xtok c d) ∗ bigSep (Finset.Ico 0 62) (xcred c d) ∗ bigSep (Finset.Ico 0 60) (gtok c d) ∗ bigSep (Finset.Ico 0 60) (gcred c d))
      ⊢ RSd X Wt c d 0 := by
  unfold RSd own free
  rw [if_pos rfl]
  iintro ⟨#HR, Hs, Hs', ⟨Ha, Hb⟩, Hps, Hpr, Hpc, Ht, Hc, Hg, Hk⟩
  isplitl [Hs]; · iexact Hs
  isplitl [Hs']; · iexact Hs'
  isplitl [Ha]
  · isplitl [Ha]; · iexact Ha
    iapply (reached_of X Wt K (dstOf d c) (.recv d 0)); iexact HR
  isplitl [Hb]
  · isplitl [Hb]; · iexact Hb
    iapply (reached_of X Wt K (dstOf d c) (.recv d 1)); iexact HR
  isplitl [Hps]; · iexact Hps
  isplitl [Hpr]; · iexact Hpr
  isplitl [Hpc]; · iexact Hpc
  isplitl [Ht]; · iexact Ht
  isplitl [Hc]; · iexact Hc
  isplitl [Hg] <;> iassumption

/-- A direction at the end. -/
theorem dir_end (c : Dev nD) (d : Bool) :
    iprop(records X Wt K ∗ AGd X Wt c d 62 ∗ copyPos c d 32 ∗ bigSep (Finset.range 32) (outDone X Wt c d) ∗ heldE c (gM d) 0 ∗ heldE c (gM d) 1)
      ⊢ iprop(|={Set.univ}=> dirOut X Wt c d) := by
  unfold AGd dirOut agRest
  rw [if_neg (by omega), if_pos rfl, show srcB 62 = .recv from rfl, show par 62 = 0 from rfl, show par 61 = 1 from rfl]
  iintro ⟨#HR, ⟨Hr, ⟨Hsa, Hsb, Hr'⟩, -, Hps, Hpr, Hpc, -⟩, Hp, Ho, Hg, Hg'⟩
  imod (close_dir X Wt K c d) $$ [Hps Hpr Hpc Hp] with Hz
  · isplitr; · iexact HR
    isplitl [Hps]; · iexact Hps
    isplitl [Hpr]; · iexact Hpr
    isplitl [Hp] <;> iassumption
  imodintro
  ihave Hr := (held_heldE c _ 0 _) $$ Hr
  isplitl [Hz]; · iexact Hz
  isplitl [Hsa Hsb]; · isplitl [Hsa] <;> iassumption
  isplitl [Hr Hr']; · isplitl [Hr] <;> iassumption
  isplitl [Hg Hg']; · isplitl [Hg] <;> iassumption
  iexact Ho

/-- An update of ghost state may be put off to the end of a program. -/
theorem run_fupd {α : Type} (c : Dev nD) (p : P F α) (Q : α → sProp 𝕄) :
    run c p (fun a => iprop(|={Set.univ}=> Q a)) ⊢ run c p Q := by
  unfold run
  iintro H
  iapply (wp_fupd frame _ Set.univ)
  iexact H

/-- Asking for the device's own number gives that number. -/
theorem run_dev (c : Dev nD) (Q : Dev nD → sProp 𝕄) : Q c ⊢ run c (Prog.lift .deviceId : P F (Dev nD)) Q := by
  unfold run
  iintro H
  rw [Prog.lift, wp_deviceId, wp_ret]
  imodintro
  iexact H

/-- The body of device `c`, with every other device's words. -/
theorem body_spec (x : (c : Dev nD) → Vec F S4096x128 .bf16) (w : (c : Dev nD) → Vec F S128x8192 .bf16) (c : Dev nD) (Q : PUnit → sProp 𝕄) :
    iprop(records (XOf x) (WOf w) K ∗ owesE c (O₀ c) ∗ dutyTok ER (cell (srcOf true c) .bar) 0 0 ∗ dutyTok ER (cell (srcOf false c) .bar) 0 1
        ∗ (heldE c (bM .recv true) 0 ∗ heldE c (bM .recv true) 1) ∗ (heldE c (bM .recv false) 0 ∗ heldE c (bM .recv false) 1)
        ∗ atPos ER (cell c .bar) 0 ∅ 0 ∗ cred (tallyAt (cell c .bar) 0 2)
        ∗ dirIn c true ∗ dirIn c false
        ∗ (((c : Thread nD τ).loc cc0_stg0_0) ↦{fullShare} (x c : Buf (Elt F) ((c : Thread nD τ).loc cc0_stg0_0)))
        ∗ (((c : Thread nD τ).loc cc0_stg1_0) ↦{fullShare} (w c : Buf (Elt F) ((c : Thread nD τ).loc cc0_stg1_0)))
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ⊢ iprop(((owesE c 0 ∗ semVal (cell c .bar) 0 ∗ dirOut (XOf x) (WOf w) c true ∗ dirOut (XOf x) (WOf w) c false
        ∗ (((c : Thread nD τ).loc cc0_stg0_0) ↦{fullShare} (x c : Buf (Elt F) ((c : Thread nD τ).loc cc0_stg0_0)))
        ∗ (((c : Thread nD τ).loc cc0_stg1_0) ↦{fullShare} (w c : Buf (Elt F) ((c : Thread nD τ).loc cc0_stg1_0)))
        ∗ xPts (XOf x) c ∗ wPts (WOf w) c) -∗ Q ⟨⟩) -∗ run c body Q) := by
  unfold dirIn
  iintro ⟨#HR, HO, Hta, Htb, Hra, Hrb, Hat, Hc, ⟨HpsR, HprR, HppR, HpcR, HxtR, HxcR, HgtR, HgcR, HctR, ⟨HsR, HsR'⟩, ⟨HqR, HqR'⟩, HoR⟩,
    ⟨HpsL, HprL, HppL, HpcL, HxtL, HxcL, HgtL, HgcL, HctL, ⟨HsL, HsL'⟩, ⟨HqL, HqL'⟩, HoL⟩, Hx, Hw, HX, HW⟩ Hk
  unfold body
  rw [run_bind]
  iapply (run_dev c)
  rw [run_bind]
  iapply (prologue_spec (XOf x) (WOf w) K c) $$ [HO Hta Htb Hra Hrb Hat Hc]
  · isplitr; · iexact HR
    isplitl [HO]; · iexact HO
    isplitl [Hta]; · iexact Hta
    isplitl [Htb]; · iexact Htb
    isplitl [Hra]; · iexact Hra
    isplitl [Hrb]; · iexact Hrb
    isplitl [Hat] <;> iassumption
  iintro ⟨HO, Hat, HdR, HdL⟩
  rw [run_bind]
  iapply (loadIn_spec x w c) $$ [Hx Hw HX HW]
  · isplitl [Hx]; · iexact Hx
    isplitl [Hw]; · iexact Hw
    isplitl [HX] <;> iassumption
  iintro ⟨Hx, Hw, HX, HW⟩
  rw [run_bind]
  iapply (first_spec (XOf x) (WOf w) c true) $$ [HX HW HsR]
  · isplitl [HX]; · iexact HX
    isplitl [HW] <;> iassumption
  iintro ⟨HX, HW, HsR⟩
  rw [run_bind]
  iapply (first_spec (XOf x) (WOf w) c false) $$ [HX HW HsL]
  · isplitl [HX]; · iexact HX
    isplitl [HW] <;> iassumption
  iintro ⟨HX, HW, HsL⟩
  ihave HR1 := (dir_start (XOf x) (WOf w) K c true) $$ [HsR HsR' HdR HpsR HprR HpcR HxtR HxcR HgtR HgcR]
  · isplitr; · iexact HR
    isplitl [HsR]; · iexact HsR
    isplitl [HsR']; · iexact HsR'
    isplitl [HdR]; · iexact HdR
    isplitl [HpsR]; · iexact HpsR
    isplitl [HprR]; · iexact HprR
    isplitl [HpcR]; · iexact HpcR
    isplitl [HxtR]; · iexact HxtR
    isplitl [HxcR]; · iexact HxcR
    isplitl [HgtR] <;> iassumption
  ihave HL1 := (dir_start (XOf x) (WOf w) K c false) $$ [HsL HsL' HdL HpsL HprL HpcL HxtL HxcL HgtL HgcL]
  · isplitr; · iexact HR
    isplitl [HsL]; · iexact HsL
    isplitl [HsL']; · iexact HsL'
    isplitl [HdL]; · iexact HdL
    isplitl [HpsL]; · iexact HpsL
    isplitl [HprL]; · iexact HprL
    isplitl [HpcL]; · iexact HpcL
    isplitl [HxtL]; · iexact HxtL
    isplitl [HxcL]; · iexact HxcL
    isplitl [HgtL] <;> iassumption
  rw [run_bind]
  iapply (rsLoop_spec (XOf x) (WOf w) K c) $$ [HX HW HO HR1 HL1]
  · isplitr; · iexact HR
    isplitl [HX]; · iexact HX
    isplitl [HW]; · iexact HW
    isplitl [HO]; · iexact HO
    isplitl [HR1] <;> iassumption
  iintro ⟨HX, HW, HO, HR1, HL1⟩
  rw [run_bind]
  iapply (rsLast_spec (XOf x) (WOf w) K c) $$ [HX HW HO HR1 HL1 HppR HqR HqR' HoR HctR HppL HqL HqL' HoL HctL]
  · isplitr; · iexact HR
    isplitl [HX]; · iexact HX
    isplitl [HW]; · iexact HW
    isplitl [HO]; · iexact HO
    isplitl [HR1]; · iexact HR1
    isplitl [HL1]; · iexact HL1
    unfold ES0
    isplitl [HppR HqR HqR' HoR HctR]
    · isplitl [HppR]; · iexact HppR
      isplitl [HqR]; · iexact HqR
      isplitl [HqR']; · iexact HqR'
      isplitl [HoR] <;> iassumption
    · isplitl [HppL]; · iexact HppL
      isplitl [HqL]; · iexact HqL
      isplitl [HqL']; · iexact HqL'
      isplitl [HoL] <;> iassumption
  iintro ⟨HX, HW, HO, HR1, HL1, HER, HEL⟩
  ihave HR1 := (AGd_start (XOf x) (WOf w) c true) $$ HR1
  ihave HL1 := (AGd_start (XOf x) (WOf w) c false) $$ HL1
  rw [run_bind]
  iapply (agLoop_spec (XOf x) (WOf w) K c _ 31 0 rfl) $$ [HO HR1 HL1 HER HEL]
  · isplitr; · iexact HR
    isplitl [HO]; · iexact HO
    isplitl [HR1]; · iexact HR1
    isplitl [HL1]; · iexact HL1
    isplitl [HER] <;> iassumption
  iintro ⟨HO, HR1, HL1, HER, HEL⟩
  rw [run_bind]
  iapply (drain30_spec (XOf x) (WOf w) K c true 62 62 60 60) $$ [HO HER]
  · isplitr; · iexact HR
    isplitl [HO] <;> iassumption
  iintro ⟨HO, HER⟩
  rw [run_bind]
  iapply (drain31_spec (XOf x) (WOf w) K c true 62 62 60 60) $$ [HO HER]
  · isplitr; · iexact HR
    isplitl [HO] <;> iassumption
  iintro ⟨HO, HpR, HoR, HqR, HqR'⟩
  rw [run_bind]
  iapply (drain30_spec (XOf x) (WOf w) K c false 62 62 60 60) $$ [HO HEL]
  · isplitr; · iexact HR
    isplitl [HO] <;> iassumption
  iintro ⟨HO, HEL⟩
  iapply (run_fupd c)
  iapply (drain31_spec (XOf x) (WOf w) K c false 62 62 60 60) $$ [HO HEL]
  · isplitr; · iexact HR
    isplitl [HO] <;> iassumption
  iintro ⟨HO, HpL, HoL, HqL, HqL'⟩
  imod (dir_end (XOf x) (WOf w) K c true) $$ [HR1 HpR HoR HqR HqR'] with HR1
  · isplitr; · iexact HR
    isplitl [HR1]; · iexact HR1
    isplitl [HpR]; · iexact HpR
    isplitl [HoR]; · iexact HoR
    isplitl [HqR] <;> iassumption
  imod (dir_end (XOf x) (WOf w) K c false) $$ [HL1 HpL HoL HqL HqL'] with HL1
  · isplitr; · iexact HR
    isplitl [HL1]; · iexact HL1
    isplitl [HpL]; · iexact HpL
    isplitl [HoL]; · iexact HoL
    isplitl [HqL] <;> iassumption
  imod (close_one (XOf x) (WOf w) K c .bar 1 (fun r hr => if_neg (by omega))) $$ [Hat] with Hz
  · isplitr; · iexact HR
    iexact Hat
  imodintro
  iapply Hk
  isplitl [HO]; · rw [← Ow_end c]; iexact HO
  isplitl [Hz]; · iexact Hz
  isplitl [HR1]; · iexact HR1
  isplitl [HL1]; · iexact HL1
  isplitl [Hx]; · iexact Hx
  isplitl [Hw]; · iexact Hw
  isplitl [HX] <;> iassumption

end Cert.RingProof

end
-- ==== Proof.Ghost.lean ====
module

public import proofs.«01_k».proof.Proof.Body
public import Idealize.ShloMosaic.Lib.Pipeline.Launch
public import Idealize.ShloMosaic.Lib.Pipeline.Kit
public import Idealize.ShloMosaic.Lib.Ring

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! # What the launch deals: rights, positions, credits -/

/-! ## The rights, minted for the device that spends them -/

/-- The cell's owner, the cell, the round and the number of a right, by its kind (barrier, arrival, departure, credit, result
    copy) and direction, the number and the spending device. -/
def tb (d : Bool) : ℕ := match d with | true => 0 | false => 1
/-- The device whose cell a right of kind `k` is for. -/
def tOwn (c : Dev nD) (k : Fin 5) (d : Bool) : Dev nD := match k with | 0 => srcOf d c | 1 => dstOf d c | 2 => c | 3 => srcOf d c | 4 => c
/-- The class of the cell. -/
def tCl (k : Fin 5) (d : Bool) (n : ℕ) : Cl := match k with | 0 => .bar | 1 => .recv d (slR n) | 2 => .send d (slS n) | 3 => .cred d | 4 => .cp d (slC n)
/-- The round. -/
def tRd (k : Fin 5) (n : ℕ) : ℕ := match k with | 0 => 0 | 1 => cnt slR (slR n) n | 2 => cnt slS (slS n) n | 3 => n - 30 | 4 => cnt slC (slC n) n
/-- The number within the cell. -/
def tNm (k : Fin 5) (d : Bool) (n : ℕ) : ℕ := match k with | 0 => 2 * n + tb d | _ => n

/-- A right, as cell, round and number. -/
def tk (c : Dev nD) (k : Fin 5) (d : Bool) (n : ℕ) : GSem nD τ sig × ℕ × ℕ := (cell (tOwn c k d) (tCl k d n), tRd k n, tNm k d n)

/-- Rights that differ in device, kind, direction or number are different. -/
theorem tk_inj {c c' : Dev nD} {k k' : Fin 5} {d d' : Bool} {n n' : ℕ} (h : tk c k d n = tk c' k' d' n') : c = c' ∧ k = k' ∧ d = d' ∧ n = n' := by
  have h1 : (tOwn c k d, tCl k d n) = (tOwn c' k' d', tCl k' d' n') := cell_injective (congrArg Prod.fst h)
  have h2 : tNm k d n = tNm k' d' n' := congrArg (fun x => x.2.2) h
  have h3 : tOwn c k d = tOwn c' k' d' := congrArg Prod.fst h1
  have h4 : tCl k d n = tCl k' d' n' := congrArg Prod.snd h1
  have hk : k = k' := by
    fin_cases k <;> fin_cases k' <;> first | rfl | exact absurd h4 (by intro h; cases h)
  subst hk
  have hd : d = d' ∧ n = n' := by
    fin_cases k
    · have h5 : 2 * n + tb d = 2 * n' + tb d' := h2
      cases d <;> cases d' <;> dsimp only [tb] at h5 <;> first | exact ⟨rfl, by omega⟩ | omega
    · exact ⟨by injection h4, h2⟩
    · exact ⟨by injection h4, h2⟩
    · exact ⟨by injection h4, h2⟩
    · exact ⟨by injection h4, h2⟩
  obtain ⟨hd, hn⟩ := hd
  subst hd
  refine ⟨?_, rfl, rfl, hn⟩
  fin_cases k
  · rw [← dst_src d c, ← dst_src d c']; exact congrArg (dstOf d) h3
  · rw [← src_dst d c, ← src_dst d c']; exact congrArg (srcOf d) h3
  · exact h3
  · rw [← dst_src d c, ← dst_src d c']; exact congrArg (dstOf d) h3
  · exact h3

/-- The index of a right of one device. -/
abbrev TI : Type := (Fin 5 × Bool) × Fin 62
/-- The right with a given index. -/
def tokOf (x : Dev nD × TI) : GSem nD τ sig × ℕ × ℕ := tk x.1 x.2.1.1 x.2.1.2 x.2.2.val
/-- Different indices name different rights. -/
theorem tokOf_injective : Function.Injective tokOf := by
  rintro ⟨c, ⟨k, d⟩, n⟩ ⟨c', ⟨k', d'⟩, n'⟩ h
  obtain ⟨h1, h2, h3, h4⟩ := tk_inj h
  have h5 : n = n' := Fin.ext h4
  have h6 : c = c' := h1
  have h7 : k = k' := h2
  have h8 : d = d' := h3
  rw [h5, h6, h7, h8]

/-- All cells of the ring. -/
def ringCells : Finset (GSem nD τ sig) := Finset.univ.map ⟨fun ck : Dev nD × Cl => cell ck.1 ck.2, cell_injective⟩
/-- All rights of the ring. -/
def ringToks : Finset (GSem nD τ sig × ℕ × ℕ) := Finset.univ.map ⟨tokOf, tokOf_injective⟩

/-- The right of kind `k`, direction `d`, number `n`. -/
def tok (c : Dev nD) (k : Fin 5) (d : Bool) (n : ℕ) : sProp 𝕄 := dutyTok ER (tk c k d n).1 (tk c k d n).2.1 (tk c k d n).2.2

/-- The rights device `c` spends. -/
def payToks (c : Dev nD) : sProp 𝕄 :=
  iprop((dutyTok ER (cell (srcOf true c) .bar) 0 0 ∗ dutyTok ER (cell (srcOf false c) .bar) 0 1)
    ∗ (bigSep (Finset.Ico 0 62) (xtok c true) ∗ bigSep (Finset.Ico 0 60) (gtok c true) ∗ bigSep (Finset.Ico 0 32) (ctok c true))
    ∗ (bigSep (Finset.Ico 0 62) (xtok c false) ∗ bigSep (Finset.Ico 0 60) (gtok c false) ∗ bigSep (Finset.Ico 0 32) (ctok c false)))

/-- Something held of every kind and direction, one by one. -/
theorem bigSep_kinds (Φ : Fin 5 × Bool → sProp 𝕄) :
    bigSep Finset.univ Φ = iprop(Φ (0, true) ∗ Φ (0, false) ∗ Φ (1, true) ∗ Φ (1, false) ∗ Φ (2, true) ∗ Φ (2, false) ∗ Φ (3, true) ∗ Φ (3, false) ∗ Φ (4, true) ∗ Φ (4, false)) :=
  bigSep_univ_eq_bigSepL [(0, true), (0, false), (1, true), (1, false), (2, true), (2, false), (3, true), (3, false), (4, true), (4, false)] (by decide) (by decide) Φ

/-- The rights to an arrival and to a departure make up those of a transfer. -/
theorem xtok_one (c : Dev nD) (d : Bool) (t : ℕ) : iprop(tok (F := F) c 1 d t ∗ tok c 2 d t) ⊢ xtok c d t := by
  unfold xtok
  rw [show (tok c 2 d t : sProp 𝕄) = dutyTok ER (cell c (.send d (slS t))) (cnt slS (slS t) t) t from rfl,
    show (tok c 1 d t : sProp 𝕄) = dutyTok ER (cell (dstOf d c) (.recv d (slR t))) (cnt slR (slR t) t) t from rfl]
  iintro ⟨Ha, Hb⟩
  isplitl [Hb]; · iexact Hb
  iexact Ha
/-- So for all transfers of a direction. -/
theorem xtok_join (c : Dev nD) (d : Bool) :
    iprop(bigSep (Finset.range 62) (tok (F := F) c 1 d) ∗ bigSep (Finset.range 62) (tok c 2 d)) ⊢ bigSep (Finset.Ico 0 62) (xtok c d) := by
  rw [← bigSep_sep', Nat.Ico_zero_eq_range]
  exact bigSep_mono fun t _ => xtok_one c d t
/-- The rights to grant the credits of a direction, out of the ones dealt. -/
theorem gtok_take (c : Dev nD) (d : Bool) : bigSep (Finset.range 62) (tok (F := F) c 3 d) ⊢ bigSep (Finset.Ico 0 60) (gtok c d) := by
  rw [Nat.Ico_zero_eq_range]
  exact bigSep_subset (Finset.range_mono (by decide))
/-- The rights to the copies of a direction, out of the ones dealt. -/
theorem ctok_take (c : Dev nD) (d : Bool) : bigSep (Finset.range 62) (tok (F := F) c 4 d) ⊢ bigSep (Finset.Ico 0 32) (ctok c d) := by
  rw [Nat.Ico_zero_eq_range]
  exact bigSep_subset (Finset.range_mono (by decide))
/-- The right to signal the barrier of the upstream neighbour going right. -/
theorem bar_takeR (c : Dev nD) : bigSep (Finset.range 62) (tok (F := F) c 0 true) ⊢ dutyTok ER (cell (srcOf true c) .bar) 0 0 :=
  bigSep_elim (Φ := tok c 0 true) (i := 0) (Finset.mem_range.mpr (by decide))
/-- The right to signal the barrier of the upstream neighbour going left. -/
theorem bar_takeL (c : Dev nD) : bigSep (Finset.range 62) (tok (F := F) c 0 false) ⊢ dutyTok ER (cell (srcOf false c) .bar) 0 1 :=
  bigSep_elim (Φ := tok c 0 false) (i := 0) (Finset.mem_range.mpr (by decide))

/-- The rights dealt to a device are those it spends. -/
theorem toks_dealt (c : Dev nD) : bigSep Finset.univ (fun y : TI => (dutyTok ER (tokOf (c, y)).1 (tokOf (c, y)).2.1 (tokOf (c, y)).2.2 : sProp 𝕄)) ⊢ payToks c := by
  have e : bigSep Finset.univ (fun y : TI => (dutyTok ER (tokOf (c, y)).1 (tokOf (c, y)).2.1 (tokOf (c, y)).2.2 : sProp 𝕄))
      = bigSep Finset.univ (fun kd : Fin 5 × Bool => bigSep (Finset.range 62) (tok c kd.1 kd.2)) := by
    rw [bigSep_univ_prod]
    exact bigSep_congr fun kd _ => Ring.bigSep_fin_eq_range 62 _ _ (fun t h => rfl)
  rw [e, bigSep_kinds]
  unfold payToks
  iintro ⟨Hba, Hbb, Hra, Hrb, Hsa, Hsb, Hga, Hgb, Hca, Hcb⟩
  isplitl [Hba Hbb]
  · isplitl [Hba]
    · iapply (bar_takeR c) $$ Hba
    · iapply (bar_takeL c) $$ Hbb
  isplitl [Hra Hsa Hga Hca]
  · isplitl [Hra Hsa]
    · iapply (xtok_join c true); isplitl [Hra] <;> iassumption
    isplitl [Hga]
    · iapply (gtok_take c true) $$ Hga
    · iapply (ctok_take c true) $$ Hca
  · isplitl [Hrb Hsb]
    · iapply (xtok_join c false); isplitl [Hrb] <;> iassumption
    isplitl [Hgb]
    · iapply (gtok_take c false) $$ Hgb
    · iapply (ctok_take c false) $$ Hcb

/-! ## The cells, device by device -/

/-- Something held of every class, one by one. -/
theorem bigSep_Cl (Φ : Cl → sProp 𝕄) :
    bigSep Finset.univ Φ = iprop(Φ .bar ∗ Φ (.send true 0) ∗ Φ (.send true 1) ∗ Φ (.recv true 0) ∗ Φ (.recv true 1) ∗ Φ (.cp true 0) ∗ Φ (.cp true 1) ∗ Φ (.cred true)
      ∗ Φ (.send false 0) ∗ Φ (.send false 1) ∗ Φ (.recv false 0) ∗ Φ (.recv false 1) ∗ Φ (.cp false 0) ∗ Φ (.cp false 1) ∗ Φ (.cred false)) :=
  bigSep_univ_eq_bigSepL [Cl.bar, .send true 0, .send true 1, .recv true 0, .recv true 1, .cp true 0, .cp true 1, .cred true,
    .send false 0, .send false 1, .recv false 0, .recv false 1, .cp false 0, .cp false 1, .cred false] (by decide) (by decide) Φ

/-- The semaphores of the launch's own, in order. -/
def ocl : Fin 14 → Cl := fun i => match i with
  | 0 => .send true 0 | 1 => .send true 1 | 2 => .recv true 0 | 3 => .recv true 1 | 4 => .cp true 0 | 5 => .cp true 1 | 6 => .cred true
  | 7 => .send false 0 | 8 => .send false 1 | 9 => .recv false 0 | 10 => .recv false 1 | 11 => .cp false 0 | 12 => .cp false 1 | 13 => .cred false
/-- The kernel's own semaphores in their order. -/
abbrev osem : Fin 14 → SemLoc sig := fun i => semOf (ocl i)

/-- They are the kernel's own, each named once. -/
theorem ownSemFacts : Pipeline.OwnSemFacts cfg0.spec osem := by decide +kernel

/-- Their counters at zero, cell by cell. -/
theorem ownSems0_eq (c : Dev nD) : (Pipeline.ownSems0 (Ix := ℕ) (Name := ℕ) (U := UU) (Lvl := ℕ) (Val := Elt F) (τ := τ) osem c : sProp 𝕄)
    = iprop(semVal (cell c (.send true 0)) 0 ∗ semVal (cell c (.send true 1)) 0 ∗ semVal (cell c (.recv true 0)) 0 ∗ semVal (cell c (.recv true 1)) 0
      ∗ semVal (cell c (.cp true 0)) 0 ∗ semVal (cell c (.cp true 1)) 0 ∗ semVal (cell c (.cred true)) 0
      ∗ semVal (cell c (.send false 0)) 0 ∗ semVal (cell c (.send false 1)) 0 ∗ semVal (cell c (.recv false 0)) 0 ∗ semVal (cell c (.recv false 1)) 0
      ∗ semVal (cell c (.cp false 0)) 0 ∗ semVal (cell c (.cp false 1)) 0 ∗ semVal (cell c (.cred false)) 0) := by
  rw [Pipeline.ownSems0_eq_of_list c osem [0, 1, 2, 3, 4, 5, 6, 7, 8, 9, 10, 11, 12, 13] (by decide) (by decide)]; rfl
/-- The only semaphore outside the kernel's own is the barrier. -/
theorem unscopedSems0_eq (c : Dev nD) : (unscopedSems0 c : sProp 𝕄) = semVal (cell c .bar) 0 := by
  unfold unscopedSems0; rw [bigSep_eq_bigSepL_of_eq [semOf .bar] (by decide) (by decide +kernel)]; rfl

/-- All of a device's counters at zero, class by class. -/
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Cl => semVal (cell c k) 0 : sProp 𝕄) := by
  rw [unscopedSems0_eq, bigSep_Cl, ← ownSems0_eq]
  iintro ⟨H, Hb⟩
  isplitl [Hb] <;> iassumption

/-! ## Funding and allocating -/

variable (X : (c : Dev nD) → Buf (Elt F) ((xM : Memref sig .tc _ _ _).view.loc (c : Thread nD τ)))
  (Wt : (c : Dev nD) → Buf (Elt F) ((wM : Memref sig .tc _ _ _).view.loc (c : Thread nD τ)))

/-- A device's positions at the start. -/
def posAll (c : Dev nD) : sProp 𝕄 := bigSep Finset.univ fun k : Cl => atPos ER (cell c k) 0 ∅ 0

/-- What the launch element deals a device, and what the allocation makes of it. -/
def G (c : Dev nD) : sProp 𝕄 :=
  iprop((bigSep Finset.univ fun k : Cl => roundState ER (Rd X Wt) (cell c k) 0) ∗ (posAll c ∗ bigSep Finset.univ fun k : Cl => reached ER (cell c k) 0) ∗ payToks c)

/-- What every device knows: each cell's invariant, and that its first round has been reached. -/
def shared (K : Dev nD × Cl → ℕ) : sProp 𝕄 :=
  iprop(bigSep Finset.univ (fun ck : Dev nD × Cl => cellInv ER (Rd X Wt) (K ck) (cell ck.1 ck.2))
    ∗ bigSep Finset.univ (fun ck : Dev nD × Cl => reached ER (cell ck.1 ck.2) 0))
/-- It may be used any number of times. -/
instance shared_persistent (K : Dev nD × Cl → ℕ) : BI.Persistent (shared X Wt K) := by unfold shared; infer_instance

/-- What a device starts with: the shared knowledge, its positions and its rights. -/
def G' (c : Dev nD) : sProp 𝕄 := iprop(∃ K, shared X Wt K ∗ posAll c ∗ payToks c)

/-- The ring's ghost state, split among the devices. -/
theorem fund_ring : BI.own (ER (initOf ringCells ringToks)) ⊢ (|==> bigSep Finset.univ (G X Wt) : sProp 𝕄) := by
  have hX (Φ : GSem nD τ sig → sProp 𝕄) : bigSep ringCells Φ = bigSep Finset.univ fun c : Dev nD => bigSep Finset.univ fun k : Cl => Φ (cell c k) := by
    unfold ringCells; rw [bigSep_map, bigSep_univ_prod]; rfl
  have hT : bigSep ringToks (fun x => (dutyTok ER x.1 x.2.1 x.2.2 : sProp 𝕄)) ⊢ bigSep Finset.univ fun c : Dev nD => payToks c := by
    unfold ringToks; rw [bigSep_map, bigSep_univ_prod]
    exact bigSep_mono fun c _ => toks_dealt c
  iintro HX
  imod (Rounds.fund ER (Rd X Wt) ringCells ringToks) $$ HX with ⟨Hst, Hr, Hat, Htok⟩
  imodintro
  ihave Hst := (Entails.of_eq (hX fun g => roundState ER (Rd X Wt) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat Hr]
  · isplitl [Hat]; · unfold posAll; iexact Hat
    iexact Hr
  iexact Htok

/-- A device's counters at zero are put into the cells' invariants. -/
theorem core_alloc (c : Dev nD) :
    iprop(Pipeline.ownSems0 (Ix := ℕ) (Name := ℕ) (U := UU) (Lvl := ℕ) (Val := Elt F) (τ := τ) osem c ∗ unscopedSems0 c ∗ G X Wt c)
      ⊢ |={Set.univ}=> iprop((bigSep Finset.univ fun k : Cl => iprop(∃ κ : ℕ, cellInv ER (Rd X Wt) κ (cell c k)))
          ∗ (posAll c ∗ bigSep Finset.univ fun k : Cl => reached ER (cell c k) 0) ∗ payToks c) := by
  unfold G
  iintro ⟨Hos, Hus, Hst, Hat, Htok⟩
  ihave Hv := (sems0_eq (F := F) c) $$ [Hos Hus]
  · isplitl [Hos] <;> iassumption
  imod (show iprop((bigSep Finset.univ fun k : Cl => semVal (cell c k) 0) ∗ bigSep Finset.univ fun k : Cl => roundState ER (Rd X Wt) (cell c k) 0)
      ⊢ (|={Set.univ}=> bigSep Finset.univ fun k : Cl => iprop(∃ κ : ℕ, cellInv ER (Rd X Wt) κ (cell c k)) : sProp 𝕄) from by
        rw [← bigSep_sep']
        exact (bigSep_mono fun k _ => (Rounds.body_intro ER (Rd X Wt) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- Knowledge that may be used any number of times can be dealt to every member of a family. -/
theorem deal_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all devices become the knowledge of each. -/
theorem regroup :
    (bigSep Finset.univ fun c : Dev nD => iprop((bigSep Finset.univ fun k : Cl => iprop(∃ κ : ℕ, cellInv ER (Rd X Wt) κ (cell c k)))
          ∗ (posAll c ∗ bigSep Finset.univ fun k : Cl => reached ER (cell c k) 0) ∗ payToks c) : sProp 𝕄)
      ⊢ bigSep Finset.univ (G' X Wt) := by
  rw [bigSep_sep', bigSep_sep', bigSep_sep', ← bigSep_univ_prod (fun ck : Dev nD × Cl => iprop(∃ κ : ℕ, cellInv ER (Rd X Wt) κ (cell ck.1 ck.2))),
    ← bigSep_univ_prod (fun ck : Dev nD × Cl => (reached ER (cell ck.1 ck.2) 0 : sProp 𝕄))]
  iintro ⟨HI, ⟨Hat, #HR⟩, Htok⟩
  ihave HK := (BI.bigSep_exists_pi Finset.univ (fun (ck : Dev nD × Cl) (κ : ℕ) => (cellInv ER (Rd X Wt) κ (cell ck.1 ck.2) : sProp 𝕄))) $$ HI
  icases HK with ⟨%K, #HI⟩
  iapply (deal_with (R := shared X Wt K) (Φ := fun c => iprop(posAll c ∗ payToks c)) fun c _ => by
    unfold G'; iintro ⟨#HS, Ha, Hb⟩; iexists K
    isplitr; · iexact HS
    isplitl [Ha] <;> iassumption)
  isplitr
  · unfold shared; isplitl; · iexact HI
    iexact HR
  · rw [bigSep_sep']
    isplitl [Hat] <;> iassumption

/-- All devices' cells allocated at once. -/
theorem glob : (bigSep Finset.univ fun c => iprop(Pipeline.ownSems0 (Ix := ℕ) (Name := ℕ) (U := UU) (Lvl := ℕ) (Val := Elt F) (τ := τ) osem c ∗ unscopedSems0 c ∗ G X Wt c) : sProp 𝕄)
    ⊢ |={Set.univ}=> bigSep Finset.univ (G' X Wt) :=
  ((bigSep_mono fun c _ => core_alloc X Wt c).trans (bigSep_fupd _ _)).trans (BI.fupd_mono (regroup X Wt))

/-! ## The credits -/

/-- The credits device `c` spends. -/
def creds (c : Dev nD) : sProp 𝕄 :=
  iprop(cred (tallyAt (cell c .bar) 0 2) ∗ (bigSep (Finset.Ico 0 62) (xcred c true) ∗ bigSep (Finset.Ico 0 60) (gcred c true))
    ∗ (bigSep (Finset.Ico 0 62) (xcred c false) ∗ bigSep (Finset.Ico 0 60) (gcred c false)))

/-- The arrivals a device owes in one direction. -/
def oX (d : Bool) (c : Dev nD) : CellTallies nD τ sig ℕ := ∑ t ∈ Finset.Ico 0 62, tallyAt (cell (dstOf d c) (.recv d (slR t))) t NB
/-- The credits a device owes in one direction. -/
def oG (d : Bool) (c : Dev nD) : CellTallies nD τ sig ℕ := ∑ n ∈ Finset.Ico 0 60, tallyAt (cell (srcOf d c) (.cred d)) n 1
/-- The barrier signal a device owes in one direction. -/
def oB (d : Bool) (c : Dev nD) : CellTallies nD τ sig ℕ := tallyAt (cell (srcOf d c) .bar) 0 1

/-- What a device owes at the start, part by part. -/
theorem O₀_parts : O₀ = fun c => oX true c + oX false c + oG true c + oG false c + oB false c + oB true c := rfl

/-- The arrivals owed to a device are its right to wait for them. -/
theorem launch_X (d : Bool) (c : Dev nD) : (Pipeline.launchCred (oX d) c : sProp 𝕄) ⊢ bigSep (Finset.Ico 0 62) (xcred c d) := by
  rw [show oX d = fun c => ∑ t ∈ Finset.Ico 0 62, tallyAt (cell (dstOf d c) (.recv d (slR t))) t NB from rfl,
    Pipeline.launchCred_sum (Finset.Ico 0 62) (fun t c => tallyAt (cell (dstOf d c) (.recv d (slR t))) t NB) c]
  exact bigSep_mono fun t _ => Pipeline.launchCred_tallyAt (semOf (.recv d (slR t))) (dstOf d) (srcOf d) (dst_src d) (src_dst d) t NB c
/-- The credits owed to a device are its right to wait for them. -/
theorem launch_G (d : Bool) (c : Dev nD) : (Pipeline.launchCred (oG d) c : sProp 𝕄) ⊢ bigSep (Finset.Ico 0 60) (gcred c d) := by
  rw [show oG d = fun c => ∑ n ∈ Finset.Ico 0 60, tallyAt (cell (srcOf d c) (.cred d)) n 1 from rfl,
    Pipeline.launchCred_sum (Finset.Ico 0 60) (fun n c => tallyAt (cell (srcOf d c) (.cred d)) n 1) c]
  exact bigSep_mono fun t _ => Pipeline.launchCred_tallyAt (semOf (.cred d)) (srcOf d) (dstOf d) (src_dst d) (dst_src d) t 1 c
/-- The barrier signal owed to a device is its right to wait for it. -/
theorem launch_B (d : Bool) (c : Dev nD) : (Pipeline.launchCred (oB d) c : sProp 𝕄) ⊢ cred (tallyAt (cell c .bar) 0 1) :=
  Pipeline.launchCred_tallyAt (semOf .bar) (srcOf d) (dstOf d) (src_dst d) (dst_src d) 0 1 c

/-- All that is owed to a device at the start, as its rights to wait. -/
theorem creds_dealt (c : Dev nD) : (Pipeline.launchCred O₀ c : sProp 𝕄) ⊢ creds c := by
  have e : (Pipeline.launchCred O₀ c : sProp 𝕄) = iprop(((((Pipeline.launchCred (oX true) c ∗ Pipeline.launchCred (oX false) c) ∗ Pipeline.launchCred (oG true) c)
      ∗ Pipeline.launchCred (oG false) c) ∗ Pipeline.launchCred (oB false) c) ∗ Pipeline.launchCred (oB true) c) := by
    rw [O₀_parts, Pipeline.launchCred_add, Pipeline.launchCred_add, Pipeline.launchCred_add, Pipeline.launchCred_add, Pipeline.launchCred_add]
  rw [e]
  unfold creds
  iintro ⟨⟨⟨⟨⟨Ha, Hb⟩, Hc⟩, Hd⟩, He⟩, Hf⟩
  isplitl [He Hf]
  · rw [← tallyAt_add (cell c .bar) 0 1 1]
    iapply (cred_add _ _).2
    isplitl [He]
    · iapply (launch_B false c) $$ He
    · iapply (launch_B true c) $$ Hf
  isplitl [Ha Hc]
  · isplitl [Ha]
    · iapply (launch_X true c) $$ Ha
    · iapply (launch_G true c) $$ Hc
  · isplitl [Hb]
    · iapply (launch_X false c) $$ Hb
    · iapply (launch_G false c) $$ Hd

end Cert.RingProof

end
-- ==== Proof.ProgEq.lean ====
module

public import proofs.«01_k».proof.Proof.Prog

@[expose] public section
set_option maxRecDepth 65536
noncomputable section

namespace Cert.RingProof

open Cert.KernelIdeal Cert.KernelIdeal.Gen
open Idealize.ShloMosaic Idealize.SL.Sem

variable {F : FTy → Type} [FloatOps F]

/-- The printed body at a grid point is the structured program. -/
theorem body_eq (t : Fin cfg0.N) : bodyAt0 (F := F) t = body := by chain_rfl

end Cert.RingProof
end
-- ==== Proof.Parts.lean ====
module

public import proofs.«01_k».proof.Proof.Ghost
public import proofs.«01_k».proof.Proof.ProgEq
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! # The launch -/

/-! ## The result array, block by block -/

section Result
variable (X : (c : Dev nD) → Buf (Elt F) ((xM : Memref sig .tc _ _ _).view.loc (c : Thread nD τ)))
  (Wt : (c : Dev nD) → Buf (Elt F) ((wM : Memref sig .tc _ _ _).view.loc (c : Thread nD τ)))

/-- Where device `c`'s result lies. -/
abbrev oLoc (c : Dev nD) : Loc nD τ sig := (oM : Memref sig .tc .hbm S4096x8192 .f32).view.loc (c : Thread nD τ)

/-- The result array at contents whose blocks read what was computed. -/
def resPts (c : Dev nD) : sProp 𝕄 :=
  iprop(∃ g : Buf (Elt F) (oLoc c), ⌜∀ (d : Bool) (k : Fin 32), (outP d c k).view.read (Elt F) g = flat (oval3 X Wt d c k.val)⌝ ∗ (oLoc c ↦{fullShare} g))
/-- The result array at anything. -/
def resAny (c : Dev nD) : sProp 𝕄 := iprop(∃ g : Buf (Elt F) (oLoc c), oLoc c ↦{fullShare} g)

/-- A number below 32 is its own block number. -/
theorem k32_val (k : ℕ) (h : k < 32) : k32 k = ⟨k, h⟩ := Fin.ext (Nat.mod_eq_of_lt h)

/-- Something held of both directions is held of the one and of the other. -/
theorem bigSep_dirs (Φ : Bool → sProp 𝕄) : bigSep Finset.univ Φ = iprop(Φ true ∗ Φ false) := bigSep_univ_eq_bigSepL [true, false] (by decide) (by decide) Φ

/-- Something held of all result blocks, direction by direction. -/
theorem blocks_eq (Φ : Bool × Fin 32 → sProp 𝕄) :
    bigSep Finset.univ Φ = iprop(bigSep (Finset.range 32) (fun k => Φ (true, k32 k)) ∗ bigSep (Finset.range 32) (fun k => Φ (false, k32 k))) := by
  rw [bigSep_univ_prod, bigSep_dirs]
  rw [Ring.bigSep_fin_eq_range 32 (fun k => Φ (true, k)) (fun k => Φ (true, k32 k)) (fun t h => by rw [k32_val t h]),
    Ring.bigSep_fin_eq_range 32 (fun k => Φ (false, k)) (fun k => Φ (false, k32 k)) (fun t h => by rw [k32_val t h])]

/-- The result array is its blocks. -/
theorem out_split (c : Dev nD) :
    (resAny (F := F) c) ⊢ iprop(bigSep (Finset.Ico 0 32) (fun k => outE c true (k32 k)) ∗ bigSep (Finset.Ico 0 32) (fun k => outE c false (k32 k))) := by
  have e (f : Buf (Elt F) (oLoc c)) : (oLoc c ↦{fullShare} f : sProp 𝕄) = iprop(bigSep (Finset.range 32) (fun k => (oLoc c ↦[outSet c (true, k32 k)]{fullShare} f))
      ∗ bigSep (Finset.range 32) (fun k => (oLoc c ↦[outSet c (false, k32 k)]{fullShare} f))) := by
    rw [← blocks_eq (fun p => (oLoc c ↦[outSet c p]{fullShare} f)), ← pointsTo_biUnion _ _ (fun p _ p' _ h => out_disj c p p' h), out_cover]
  have one (f : Buf (Elt F) (oLoc c)) (d : Bool) (k : Fin 32) : (oLoc c ↦[outSet c (d, k)]{fullShare} f : sProp 𝕄) ⊢ outE c d k := by
    unfold outE
    iintro H
    iexists f
    iexact H
  have all (f : Buf (Elt F) (oLoc c)) (d : Bool) : bigSep (Finset.range 32) (fun k => (oLoc c ↦[outSet c (d, k32 k)]{fullShare} f : sProp 𝕄)) ⊢ bigSep (Finset.range 32) (fun k => outE c d (k32 k)) :=
    bigSep_mono fun k _ => one f d (k32 k)
  unfold resAny
  rw [Nat.Ico_zero_eq_range]
  iintro ⟨%f, H⟩
  icases (Entails.of_eq (e f)) $$ H with ⟨Ha, Hb⟩
  isplitl [Ha]
  · iapply (all f true) $$ Ha
  · iapply (all f false) $$ Hb

/-- Facts held of every member of a family are one fact. -/
theorem pure_all {I : Type} [DecidableEq I] (S : Finset I) (p : I → Prop) : (bigSep S (fun i => iprop(⌜p i⌝)) : sProp 𝕄) ⊢ iprop(⌜∀ i ∈ S, p i⌝) := by
  induction S using Finset.induction_on with
  | empty => iintro -; ipureintro; intro i hi; exact absurd hi (Finset.notMem_empty i)
  | insert a S ha ih =>
    have e : (bigSep (insert a S) (fun i => iprop(⌜p i⌝)) : sProp 𝕄) = iprop(⌜p a⌝ ∗ bigSep S (fun i => iprop(⌜p i⌝))) := bigSep_insert ha
    rw [e]
    iintro ⟨%h, H⟩
    ihave %h' := ih $$ H
    ipureintro
    intro i hi
    rcases Finset.mem_insert.mp hi with rfl | hi
    · exact h
    · exact h' i hi

/-- What one block holds, with the array named. -/
def blkHeld (c : Dev nD) (p : Bool × Fin 32) (f : Buf (Elt F) (oLoc c)) : sProp 𝕄 :=
  iprop(⌜(outP p.1 c p.2).view.read (Elt F) f = flat (oval3 X Wt p.1 c p.2.val)⌝ ∗ (oLoc c ↦[outSet c p]{fullShare} f))

/-- A written result block, as a part of the result array. -/
theorem outDone_blk (c : Dev nD) (d : Bool) (k : ℕ) (hk : k < 32) : outDone X Wt c d k ⊢ iprop(∃ f : Buf (Elt F) (oLoc c), blkHeld X Wt c (d, k32 k) f) := by
  unfold outDone outHeld blkHeld
  iintro ⟨%f, %h, H⟩
  iexists f
  isplitr
  · ipureintro
    have e : ((k32 k : Fin 32) : ℕ) = k := Nat.mod_eq_of_lt hk
    show (outP d c (k32 k)).view.read (Elt F) f = flat (oval3 X Wt d c ((k32 k : Fin 32) : ℕ))
    rw [e]; exact h
  · iexact H

/-- All blocks written make up the result. -/
theorem out_join (c : Dev nD) :
    iprop(bigSep (Finset.range 32) (outDone X Wt c true) ∗ bigSep (Finset.range 32) (outDone X Wt c false)) ⊢ resPts X Wt c := by
  have h1 : iprop(bigSep (Finset.range 32) (outDone X Wt c true) ∗ bigSep (Finset.range 32) (outDone X Wt c false))
      ⊢ bigSep Finset.univ (fun p : Bool × Fin 32 => iprop(∃ f : Buf (Elt F) (oLoc c), blkHeld X Wt c p f)) := by
    rw [blocks_eq]
    exact BIClass.sep_mono (bigSep_mono fun k hk => outDone_blk X Wt c true k (Finset.mem_range.mp hk)) (bigSep_mono fun k hk => outDone_blk X Wt c false k (Finset.mem_range.mp hk))
  refine h1.trans ((BI.bigSep_exists_pi Finset.univ (fun (p : Bool × Fin 32) (f : Buf (Elt F) (oLoc c)) => blkHeld X Wt c p f)).trans ?_)
  iintro ⟨%fs, H⟩
  unfold blkHeld
  have e := bigSep_sep' Finset.univ (fun p : Bool × Fin 32 => (iprop(⌜(outP p.1 c p.2).view.read (Elt F) (fs p) = flat (oval3 X Wt p.1 c p.2.val)⌝) : sProp 𝕄))
    (fun p => (oLoc c ↦[outSet c p]{fullShare} fs p))
  icases (Entails.of_eq e) $$ H with ⟨Hp, H⟩
  ihave %hp := (pure_all (F := F) Finset.univ _) $$ Hp
  ihave H := (pointsTo_biUnion_join (ℓ := oLoc c) (q := fullShare) (Finset.univ : Finset (Bool × Fin 32)) (outSet c) fs (fs (true, 0)) (fun p _ p' _ h => out_disj c p p' h)) $$ H
  icases H with ⟨%g, %hg, H⟩
  unfold resPts
  iexists g
  isplitr
  · ipureintro
    intro d k
    rw [← hp (d, k) (Finset.mem_univ _)]
    exact View.read_congr fun i hi => hg (d, k) (Finset.mem_univ _) i hi
  · rw [← out_cover c]; iexact H

/-! ## A direction's part of the launch -/

/-- A whole buffer at anything. -/
def wholeE {s : Shape} {e : EltTy} (c : Dev nD) (M : Memref sig .tc .vmem s e) : sProp 𝕄 :=
  iprop(∃ f : Buf (Elt F) (M.view.loc (c : Thread nD τ)), M.view.loc (c : Thread nD τ) ↦{fullShare} f)

/-- A send or receive buffer is the whole of its scratch operand. -/
theorem bM_set (b : Buf3) (d : Bool) : (bM b d).view.set = Finset.univ := by cases b <;> cases d <;> exact View.set_whole _
/-- A staging buffer is the whole of its scratch operand. -/
theorem gM_set (d : Bool) : (gM d).view.set = Finset.univ := by cases d <;> exact View.set_whole _

/-- The scratch buffers, one by one. -/
theorem scoped_eq (c : Dev nD) :
    (Pipeline.scopedRest (Ix := ℕ) (Name := ℕ) (U := UU) (Lvl := ℕ) (Val := Elt F) cfg0.spec c : sProp 𝕄)
      = iprop(wholeE c xM ∗ wholeE c wM ∗ wholeE c (bM .send true) ∗ wholeE c (bM .recv true) ∗ wholeE c (bM .send false) ∗ wholeE c (bM .recv false)
        ∗ wholeE c (gM true) ∗ wholeE c (gM false)) := (scopedRest0_eq c).trans rfl

/-- A direction's positions at the start. -/
def posDir (c : Dev nD) (d : Bool) : sProp 𝕄 :=
  iprop(atPos ER (cell c (.send d 0)) 0 ∅ 0 ∗ atPos ER (cell c (.send d 1)) 0 ∅ 0 ∗ atPos ER (cell c (.recv d 0)) 0 ∅ 0 ∗ atPos ER (cell c (.recv d 1)) 0 ∅ 0
    ∗ atPos ER (cell c (.cp d 0)) 0 ∅ 0 ∗ atPos ER (cell c (.cp d 1)) 0 ∅ 0 ∗ atPos ER (cell c (.cred d)) 0 ∅ 0)

/-- A device's positions: the barrier's and those of the two directions. -/
theorem posAll_split (c : Dev nD) : (posAll (F := F) c) ⊢ iprop(atPos ER (cell c .bar) 0 ∅ 0 ∗ posDir c true ∗ posDir c false) := by
  unfold posAll posDir
  rw [bigSep_Cl]
  iintro ⟨Hb, H1, H2, H3, H4, H5, H6, H7, H8⟩
  isplitl [Hb]; · iexact Hb
  isplitl [H1 H2 H3 H4 H5 H6 H7]
  · isplitl [H1]; · iexact H1
    isplitl [H2]; · iexact H2
    isplitl [H3]; · iexact H3
    isplitl [H4]; · iexact H4
    isplitl [H5]; · iexact H5
    isplitl [H6] <;> iassumption
  · iexact H8

variable (K : Dev nD × Cl → ℕ)

/-- The positions at a pair of cells before its first use. -/
theorem pos2_start (c : Dev nD) (k : Fin 2 → Cl) (sl : ℕ → Fin 2) :
    iprop(records X Wt K ∗ atPos ER (cell c (k 0)) 0 ∅ 0 ∗ atPos ER (cell c (k 1)) 0 ∅ 0) ⊢ pos2 c k sl 0 := by
  unfold pos2
  rw [cnt_zero, cnt_zero]
  iintro ⟨#HR, Ha, Hb⟩
  isplitl [Ha]
  · isplitl [Ha]; · iexact Ha
    iapply (reached_of X Wt K c (k 0)); iexact HR
  · isplitl [Hb]; · iexact Hb
    iapply (reached_of X Wt K c (k 1)); iexact HR

/-- What a direction starts from, put together. -/
theorem dir_in (c : Dev nD) (d : Bool) :
    iprop(records X Wt K ∗ posDir c d ∗ (bigSep (Finset.Ico 0 62) (xtok c d) ∗ bigSep (Finset.Ico 0 60) (gtok c d) ∗ bigSep (Finset.Ico 0 32) (ctok c d))
        ∗ (bigSep (Finset.Ico 0 62) (xcred c d) ∗ bigSep (Finset.Ico 0 60) (gcred c d)) ∗ wholeE c (bM .send d) ∗ wholeE c (gM d)
        ∗ bigSep (Finset.Ico 0 32) (fun k => outE c d (k32 k)))
      ⊢ dirIn c d := by
  unfold posDir dirIn
  iintro ⟨#HR, ⟨H1, H2, H3, H4, H5, H6, H7⟩, ⟨Hx, Hg, Hc⟩, ⟨Hxc, Hgc⟩, Hs, Hq, Ho⟩
  isplitl [H1 H2]
  · unfold sendPos; iapply (pos2_start X Wt K c (Cl.send d) slS); isplitr; · iexact HR
    isplitl [H1] <;> iassumption
  isplitl [H3 H4]
  · unfold recvPos; iapply (pos2_start X Wt K c (Cl.recv d) slR); isplitr; · iexact HR
    isplitl [H3] <;> iassumption
  isplitl [H5 H6]
  · unfold copyPos; iapply (pos2_start X Wt K c (Cl.cp d) slC); isplitr; · iexact HR
    isplitl [H5] <;> iassumption
  isplitl [H7]
  · unfold credPos; rw [if_pos (by decide)]; iexists ∅; iexact H7
  isplitl [Hx]; · iexact Hx
  isplitl [Hxc]; · iexact Hxc
  isplitl [Hg]; · iexact Hg
  isplitl [Hgc]; · iexact Hgc
  isplitl [Hc]; · iexact Hc
  isplitl [Hs]; · iapply (slots_split c (bM .send d) (bM_set .send d)); unfold wholeE; iexact Hs
  isplitl [Hq]; · iapply (slots_split c (gM d) (gM_set d)); unfold wholeE; iexact Hq
  iexact Ho

/-- What a direction leaves, taken apart. -/
theorem dir_out (c : Dev nD) (d : Bool) :
    dirOut X Wt c d ⊢ iprop(zeroDir c d ∗ wholeE c (bM .send d) ∗ wholeE c (bM .recv d) ∗ wholeE c (gM d) ∗ bigSep (Finset.range 32) (outDone X Wt c d)) := by
  unfold dirOut wholeE
  iintro ⟨Hz, Hs, Hr, Hg, Ho⟩
  isplitl [Hz]; · iexact Hz
  isplitl [Hs]; · iapply (slots_join c (bM .send d) (bM_set .send d)) $$ Hs
  isplitl [Hr]; · iapply (slots_join c (bM .recv d) (bM_set .recv d)) $$ Hr
  isplitl [Hg]; · iapply (slots_join c (gM d) (gM_set d)) $$ Hg
  iexact Ho

/-- The counters of both directions at zero are all of the kernel's own at zero. -/
theorem zero_own (c : Dev nD) :
    iprop(zeroDir (F := F) c true ∗ zeroDir c false) ⊢ (Pipeline.ownSems0 (Ix := ℕ) (Name := ℕ) (U := UU) (Lvl := ℕ) (Val := Elt F) (τ := τ) osem c : sProp 𝕄) := by
  rw [ownSems0_eq]
  unfold zeroDir
  iintro ⟨⟨⟨H1, H2⟩, ⟨H3, H4⟩, ⟨H5, H6⟩, H7⟩, ⟨⟨G1, G2⟩, ⟨G3, G4⟩, ⟨G5, G6⟩, G7⟩⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [G1]; · iexact G1
  isplitl [G2]; · iexact G2
  isplitl [G3]; · iexact G3
  isplitl [G4]; · iexact G4
  isplitl [G5]; · iexact G5
  isplitl [G6] <;> iassumption
end Result

/-! ## The body from the launch's resources -/

/-- The window's copy of `x`. -/
abbrev sx (c : Dev nD) (x : Vec F S4096x128 .bf16) : sProp 𝕄 := (((c : Thread nD τ).loc cc0_stg0_0) ↦{fullShare} (x : Buf (Elt F) ((c : Thread nD τ).loc cc0_stg0_0)))
/-- The window's copy of `w`. -/
abbrev sw (c : Dev nD) (w : Vec F S128x8192 .bf16) : sProp 𝕄 := (((c : Thread nD τ).loc cc0_stg1_0) ↦{fullShare} (w : Buf (Elt F) ((c : Thread nD τ).loc cc0_stg1_0)))

/-- Before the point and after it. -/
def start (x : (c : Dev nD) → Vec F S4096x128 .bf16) (w : (c : Dev nD) → Vec F S128x8192 .bf16) (c : Dev nD) : sProp 𝕄 :=
  iprop((∃ K, records (XOf x) (WOf w) K ∗ posAll c ∗ payToks c) ∗ creds c ∗ resAny c)
/-- What a device holds besides the windows before the body. -/
def Φ₀ (x : (c : Dev nD) → Vec F S4096x128 .bf16) (w : (c : Dev nD) → Vec F S128x8192 .bf16) (c : Dev nD) : sProp 𝕄 :=
  iprop(start x w c ∗ Pipeline.scopedRest cfg0.spec c)
/-- What it holds besides them after the body. -/
def Φ₁ (x : (c : Dev nD) → Vec F S4096x128 .bf16) (w : (c : Dev nD) → Vec F S128x8192 .bf16) (c : Dev nD) : sProp 𝕄 :=
  iprop((unscopedSems0 c ∗ resPts (XOf x) (WOf w) c) ∗ Pipeline.ownSems0 osem c ∗ Pipeline.scopedRest cfg0.spec c)

/-- The body runs from the one to the other, keeps the windows' copies and pays all it owes. -/
theorem body_run (x : (c : Dev nD) → Vec F S4096x128 .bf16) (w : (c : Dev nD) → Vec F S128x8192 .bf16) (c : Dev nD) (Q : PUnit → sProp 𝕄) :
    iprop(Φ₀ x w c ∗ owesE c (O₀ c) ∗ sx c (x c) ∗ sw c (w c)) ⊢ iprop(((Φ₁ x w c ∗ owesE c 0 ∗ sx c (x c) ∗ sw c (w c)) -∗ Q ⟨⟩) -∗ run c body Q) := by
  unfold Φ₀ Φ₁ start
  rw [scoped_eq, unscopedSems0_eq]
  iintro ⟨⟨⟨⟨%K, #HR, Hpos, Htok⟩, Hcr, Hres⟩, Hx, Hw, Hsa, Hra, Hsb, Hrb, Hga, Hgb⟩, HO, Hsx, Hsw⟩ Hk
  ihave Hpos := (posAll_split c) $$ Hpos
  icases Hpos with ⟨Hbar, HpR, HpL⟩
  unfold payToks creds
  icases Htok with ⟨⟨Hta, Htb⟩, HtR, HtL⟩
  icases Hcr with ⟨Hcb, HcR, HcL⟩
  ihave Hres := (out_split c) $$ Hres
  icases Hres with ⟨HoR, HoL⟩
  ihave HR1 := (dir_in (XOf x) (WOf w) K c true) $$ [HpR HtR HcR Hsa Hga HoR]
  · isplitr; · iexact HR
    isplitl [HpR]; · iexact HpR
    isplitl [HtR]; · iexact HtR
    isplitl [HcR]; · iexact HcR
    isplitl [Hsa]; · iexact Hsa
    isplitl [Hga] <;> iassumption
  ihave HL1 := (dir_in (XOf x) (WOf w) K c false) $$ [HpL HtL HcL Hsb Hgb HoL]
  · isplitr; · iexact HR
    isplitl [HpL]; · iexact HpL
    isplitl [HtL]; · iexact HtL
    isplitl [HcL]; · iexact HcL
    isplitl [Hsb]; · iexact Hsb
    isplitl [Hgb] <;> iassumption
  unfold wholeE
  ihave Hra := (slots_split c (bM .recv true) (bM_set .recv true)) $$ Hra
  ihave Hrb := (slots_split c (bM .recv false) (bM_set .recv false)) $$ Hrb
  iapply (body_spec K x w c) $$ [HO Hta Htb Hra Hrb Hbar Hcb HR1 HL1 Hsx Hsw Hx Hw]
  · isplitr; · iexact HR
    isplitl [HO]; · iexact HO
    isplitl [Hta]; · iexact Hta
    isplitl [Htb]; · iexact Htb
    isplitl [Hra]; · iexact Hra
    isplitl [Hrb]; · iexact Hrb
    isplitl [Hbar]; · iexact Hbar
    isplitl [Hcb]; · iexact Hcb
    isplitl [HR1]; · iexact HR1
    isplitl [HL1]; · iexact HL1
    isplitl [Hsx]; · iexact Hsx
    isplitl [Hsw]; · iexact Hsw
    isplitl [Hx]; · iexact Hx
    iexact Hw
  iintro ⟨HO, Hz, HR1, HL1, Hsx, Hsw, HX, HW⟩
  ihave HR1 := (dir_out (XOf x) (WOf w) c true) $$ HR1
  icases HR1 with ⟨HzR, Hsa, Hra, Hga, HoR⟩
  ihave HL1 := (dir_out (XOf x) (WOf w) c false) $$ HL1
  icases HL1 with ⟨HzL, Hsb, Hrb, Hgb, HoL⟩
  iapply Hk
  isplitr [HO Hsx Hsw]
  · isplitl [Hz HoR HoL]
    · isplitl [Hz]; · iexact Hz
      iapply (out_join (XOf x) (WOf w) c); isplitl [HoR] <;> iassumption
    isplitl [HzR HzL]
    · iapply (zero_own c); isplitl [HzR] <;> iassumption
    isplitl [HX]; · unfold xPts; iexists _; iexact HX
    isplitl [HW]; · unfold wPts; iexists _; iexact HW
    unfold wholeE
    isplitl [Hsa]; · iexact Hsa
    isplitl [Hra]; · iexact Hra
    isplitl [Hsb]; · iexact Hsb
    isplitl [Hrb]; · iexact Hrb
    isplitl [Hga] <;> iassumption
  · isplitl [HO]; · iexact HO
    isplitl [Hsx] <;> iassumption

end Cert.RingProof

end
-- ==== Proof.Launch.lean ====
module

public import proofs.«01_k».proof.Proof.Parts
public import Idealize.ShloMosaic.Lib.Quiescent
public import Idealize.ShloMosaic.Lib.Pipeline.FrameBody

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! # The run of the whole program -/

/-- A device's two arguments, as the windows fetch them. -/
def xin (c : Dev nD) : Vec F S4096x128 .bf16 := (win0_0.blk (0 : Fin 1)).view.read (Elt F) (m ((c : Thread nD τ).loc main_arg0))
/-- A device's rows of `w`, as the window fetches them. -/
def win (c : Dev nD) : Vec F S128x8192 .bf16 := (win0_1.blk (0 : Fin 1)).view.read (Elt F) (m ((c : Thread nD τ).loc main_arg1))

/-- What the region's run is described by. -/
def dats (_ : Fin 1) (c : Dev nD) : Dat τ (Elt F) ℕ ℕ UU ℕ cfg0 c where
  A w := (s₀ m ρ).mem ((cfg0.win w).arr.view.loc (c : Thread nD τ))
  after w _ := match w with | ⟨0, _⟩ => xin m c | ⟨1, _⟩ => win m c
  Φ t := match t with | ⟨0, _⟩ => Φ₀ (xin m) (win m) c | ⟨_ + 1, _⟩ => Φ₁ (xin m) (win m) c
  q _ := fullShare
  owed t := match t with | ⟨0, _⟩ => O₀ c | ⟨_ + 1, _⟩ => 0

/-- Owning a whole buffer with given contents is holding its elements at them. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer known to hold `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- That for the copy of the first argument. -/
theorem own0 (c : Dev nD) (X : Vec F S4096x128 .bf16) :
    (owns (Ix := ℕ) (Name := ℕ) (U := UU) (Lvl := ℕ) (c : Thread nD τ) (stage0_0 0) fullShare X : sProp 𝕄) = stg c cc0_stg0_0 X := owns_whole_eq c cc0_stg0_0 X
/-- That for the copy of the second argument. -/
theorem own1 (c : Dev nD) (X : Vec F S128x8192 .bf16) :
    (owns (Ix := ℕ) (Name := ℕ) (U := UU) (Lvl := ℕ) (c : Thread nD τ) (stage0_1 0) fullShare X : sProp 𝕄) = stg c cc0_stg1_0 X := owns_whole_eq c cc0_stg1_0 X

/-- What the body starts from. -/
def bodyPre (c : Dev nD) : sProp 𝕄 :=
  iprop(Φ₀ (xin m) (win m) c ∗ (dats m ρ 0 c).owesAt 0 t0_0.castSucc
    ∗ (∃ d, stg c cc0_stg0_0 ((dats m ρ 0 c).before (0 : Fin 2) t0_0 d)) ∗ (∃ d, stg c cc0_stg1_0 ((dats m ρ 0 c).before (1 : Fin 2) t0_0 d)))
/-- What the body ends with. -/
def bodyPost (c : Dev nD) : sProp 𝕄 :=
  iprop(Φ₁ (xin m) (win m) c ∗ (dats m ρ 0 c).owesAt 0 t0_0.succ ∗ stg c cc0_stg0_0 (xin m c) ∗ stg c cc0_stg1_0 (win m c))

/-- The body leads from the one to the other. -/
theorem body_sound (c : Dev nD) : bodyPre m ρ c ⊢ run c body (fun _ => bodyPost m ρ c) := by
  unfold bodyPre bodyPost
  unfold Dat.owesAt Pipeline.owesWithin
  rw [show (dats m ρ 0 c).owed t0_0.castSucc = O₀ c from rfl, show (dats m ρ 0 c).owed t0_0.succ = 0 from rfl]
  iintro ⟨HΦ, ⟨%W, %hW, HO⟩, ⟨%d, %g0, %hg0, Hx⟩, ⟨%d', %g1, %hg1, Hw⟩⟩
  have hx : g0 = xin m c := by rw [hg0]; unfold Dat.before; rw [if_pos (fetch0_0 t0_0)]; rfl
  have hw : g1 = win m c := by rw [hg1]; unfold Dat.before; rw [if_pos (fetch0_1 t0_0)]; rfl
  subst hx hw
  iapply (body_run (xin m) (win m) c) $$ [HΦ HO Hx Hw]
  · isplitl [HΦ]; · iexact HΦ
    isplitl [HO]; · unfold owesE; iexists W; iexact HO
    isplitl [Hx]; · iexact Hx
    iexact Hw
  unfold owesE
  iintro ⟨HΦ, ⟨%W', HO⟩, Hx, Hw⟩
  isplitl [HΦ]; · iexact HΦ
  isplitl [HO]
  · iexists W'; isplitr
    · ipureintro; exact fun _ _ => Or.inl trivial
    · iexact HO
  isplitl [Hx]
  · iexists _; isplitr
    · ipureintro; rfl
    · iexact Hx
  · iexists _; isplitr
    · ipureintro; rfl
    · iexact Hw

set_option maxRecDepth 65536 in
set_option maxHeartbeats 4000000 in
/-- The table's row at a point is the structured program. -/
theorem table_row (t : Fin cfg0.N) : defs₀ (F := F) .tc cfg0.body (cfg0.bodyArgs t (cfg0.slots t)) = body :=
  Eq.trans (show _ = bodyAt0 (F := F) t from rfl) (body_eq t)

set_option maxRecDepth 65536 in
set_option maxHeartbeats 1000000 in
/-- The library's obligation of the body on core `c`. -/
theorem body_obligation (c : Dev nD) : BodyObligation (dats (F := F) m ρ 0 c) (defs₀ (F := F)) 𝒱₀ 0 Set.univ := fun t => by
  rw [fin_N0 t]
  rw [bigSep_W0, bigSep_W0]
  refine triple_restated (body_sound m ρ c) (congrArg (fun p => wp frame (wpE (defs₀ (F := F)) 𝒱₀ c none) Set.univ p) (table_row t0_0).symm) ?_ (fun _ => ?_)
  · rw [show (dats m ρ 0 c).Φ t0_0.castSucc = Φ₀ (xin m) (win m) c from rfl]
    unfold bodyPre
    iintro ⟨H1, H2, ⟨%d, H3⟩, ⟨%d', H4⟩⟩
    isplitl [H1]; · iexact H1
    isplitl [H2]; · iexact H2
    isplitl [H3]
    · iexists d; iapply (Entails.of_eq (own0 c ((dats m ρ 0 c).before (0 : Fin 2) t0_0 d))) $$ H3
    · iexists d'; iapply (Entails.of_eq (own1 c ((dats m ρ 0 c).before (1 : Fin 2) t0_0 d'))) $$ H4
  · rw [show (dats m ρ 0 c).Φ t0_0.succ = Φ₁ (xin m) (win m) c from rfl, show (dats m ρ 0 c).after (0 : Fin 2) t0_0 = xin m c from rfl,
      show (dats m ρ 0 c).after (1 : Fin 2) t0_0 = win m c from rfl]
    unfold bodyPost
    iintro ⟨H1, H2, H3, H4⟩
    isplitl [H1]; · iexact H1
    isplitl [H2]; · iexact H2
    isplitl [H3]
    · iapply (Entails.of_eq (own0 c (xin m c)).symm) $$ H3
    · iapply (Entails.of_eq (own1 c (win m c)).symm) $$ H4

/-- Each window holds its array whole. -/
theorem share_eq (c : Dev nD) (w : Fin cfg0.W) : (dats m ρ 0 c).share w = fullShare := by unfold Dat.share; split <;> rfl

/-! ## The launch's side conditions -/

/-- What is owed at the start is owed to a cell of the ring, at a level above zero. -/
theorem O₀_pos {c : Dev nD} {g : GSem nD τ sig} {u : ℕ} (h : 0 < O₀ c g u) : u < 62 ∧ g.1.2 = .tc ∧ 0 < lv g u := by
  have one {x : Dev nD} (h : 0 < tallyAt (Ix := ℕ) (cell x .bar) 0 1 g u) : u < 62 ∧ g.1.2 = .tc ∧ 0 < lv g u := by
    rw [tallyAt_apply] at h
    by_cases hc : g = cell x .bar ∧ u = 0
    · obtain ⟨h1, h2⟩ := hc; subst h1 h2; exact ⟨by decide, rfl, by rw [lv_cell]; exact Nat.one_pos⟩
    · rw [if_neg hc] at h; exact absurd h (Nat.lt_irrefl 0)
  unfold O₀ O₁ at h
  rw [Pi.add_apply, Finsupp.add_apply, Pi.add_apply, Finsupp.add_apply] at h
  have h' : 0 < Ow c 0 0 0 0 g u ∨ 0 < tallyAt (Ix := ℕ) (cell (srcOf false c) .bar) 0 1 g u ∨ 0 < tallyAt (Ix := ℕ) (cell (srcOf true c) .bar) 0 1 g u := by omega
  rcases h' with h | h | h
  · obtain ⟨h1, _, h3, h4⟩ := Ow_pos h; exact ⟨h1, h4, by omega⟩
  · exact one h
  · exact one h

/-- A semaphore that is no cell's has no class. -/
theorem clOf_none {sm : SemLoc sig} (h : ∀ k, semOf k ≠ sm) : clOf sm = none := by
  unfold clOf Function.partialInv
  exact dif_neg fun ⟨k, hk⟩ => h k hk

/-- A window's own semaphore may be waited on whatever is owed. -/
theorem mayWait_stage (c : Dev nD) (q : DmaSem sig) (hq : ∀ k, semOf k ≠ SemLoc.dma q) (O : CellTallies nD τ sig ℕ) (hO : O = O₀ c ∨ O = 0) :
    (levAts L lv : sProp 𝕄) ⊢ MayWait (c : Thread nD τ) (.dma q) 0 O := by
  rcases hO with rfl | rfl
  · exact MayOwe.of_cut (L := L) (lev := lv) 0
      (fun x hx => by rw [Finset.mem_singleton.mp hx, L_tc]; exact Finset.mem_range.mpr (show 0 < 62 by decide))
      (fun g u hg => by
        obtain ⟨h1, h2, _⟩ := O₀_pos hg
        exact (show u ∈ L g by unfold L; rw [if_pos h2]; exact Finset.mem_range.mpr h1))
      (fun x hx => by rw [Finset.mem_singleton.mp hx]; dsimp only [lv]; rw [clOf_none hq])
      (fun g u hg => (O₀_pos hg).2.2)
  · rw [MayWait_zero]; iintro -; iempintro

/-- So all of the windows' waits are allowed. -/
theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

/-- What a device is given at the launch is what its kernel starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (XOf (xin m)) (WOf (win m)) c)
      ⊢ |={Set.univ}=> iprop(start (xin m) (win m) c ∗ emp) := by
  rw [Pipeline.unscopedRestP_none, show (Pipeline.unscopedRest cfg0.spec c (fun b => m ((c : Thread nD τ).loc b)) : sProp 𝕄)
    = (((c : Thread nD τ).loc main_v1) ↦{fullShare} m ((c : Thread nD τ).loc main_v1)) from unscopedRest0_eq c _]
  unfold G' start
  iintro ⟨Hr, #Hlev, Hcr, -, ⟨%K, #HS, Hpos, Htok⟩⟩
  ihave Hc := (creds_dealt (F := F) c) $$ Hcr
  imodintro
  isplitl
  · isplitl [Hpos Htok]
    · iexists K
      isplitr
      · unfold records shared
        icases HS with ⟨#H1, #H2⟩
        isplitr; · iexact H1
        isplitr; · iexact H2
        iexact Hlev
      isplitl [Hpos] <;> iassumption
    isplitl [Hc]; · iexact Hc
    unfold resAny; iexists _; iexact Hr
  · iempintro

/-- Together with the scratch buffers it is what the body starts from. -/
theorem phi0_intro (c : Dev nD) :
    iprop(start (xin m) (win m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (xin m) (win m) c from rfl]
  unfold Φ₀
  iintro ⟨Hs, -, Hr⟩
  isplitl [Hs] <;> iassumption

/-- What the body leaves: the result, the counters at zero and the scratch buffers. -/
theorem phi1_exit (c : Dev nD) :
    (dats m ρ 0 c).Φ (Fin.last cfg0.N) ⊢ iprop((unscopedSems0 c ∗ resPts (XOf (xin m)) (WOf (win m)) c) ∗ Pipeline.ownSems0 osem c ∗ Pipeline.scopedRest cfg0.spec c) := by
  rw [show (dats m ρ 0 c).Φ (Fin.last cfg0.N) = Φ₁ (xin m) (win m) c from rfl]
  unfold Φ₁
  iintro H; iexact H

/-! ## The run -/

/-- The result array of device `c` reads, block by block, what was computed. -/
def ResAt (c : Dev nD) (s : MemSt nD τ sig (Elt F)) : Prop :=
  ∀ (d : Bool) (k : Fin 32), (outP d c k).view.read (Elt F) (s.mem (oLoc c)) = flat (oval3 (XOf (xin m)) (WOf (win m)) d c k.val)

/-- At the end the memory reads the result block by block, and the barrier is zero. -/
theorem read_out (c : Dev nD) (s' : Phys nD τ sig (Elt F)) :
    iprop((unscopedSems0 c ∗ resPts (XOf (xin m)) (WOf (win m)) c) ∗ emp ∗ SI s')
      ⊢ (|={Set.univ}=> iprop(⌜(∀ sm : SemLoc sig, sm.isScoped .tc = false → s'.mem.sem ((c.tc : Thread nD τ), sm) = 0) ∧ ResAt m c s'.mem⌝ ∗ SI s') : sProp 𝕄) := by
  unfold resPts
  iintro ⟨⟨Hu, ⟨%g, %hg, Hg⟩⟩, -, HSI⟩
  ihave %ha := (SI_pointsTo_agree (st := s') (ℓ := oLoc c) (I := Finset.univ) (q := fullShare) (f := g)) $$ [HSI Hg]
  · isplitl [HSI] <;> iassumption
  have hb : s'.mem.mem (oLoc c) = g := funext fun i => ha i (Finset.mem_univ i)
  imod (Pipeline.unscopedSems0_read (X := unscopedSems0 c) (c := c) fupd_intro s') $$ [Hu HSI] with ⟨%hs, HSI⟩
  · isplitl [Hu] <;> iassumption
  imodintro
  isplitr
  · ipureintro
    exact ⟨hs, fun d k => by rw [hb]; exact hg d k⟩
  · iexact HSI

/-- A window's array at the end. -/
def finalA (c : Dev nD) (w : Fin cfg0.W) : Buf (Elt F) ((cfg0.win w).arr.view.loc (c : Thread nD τ)) := (dats m ρ 0 c).arrAt w cfg0.N

/-- The windows' arrays and the result at the end. -/
def QC : PUnit × MemSt nD τ sig (Elt F) → Prop := fun r =>
  ∀ c : Dev nD, (∀ w : Fin cfg0.W, r.2.mem ((cfg0.win w).arr.view.loc (c : Thread nD τ)) = finalA m ρ c w) ∧ ResAt m c r.2

set_option maxRecDepth 65536 in
/-- From any memory with zero counters the thirty-two kernels run to the end without fault; the arguments end at their
    final contents, the result arrays read block by block what was computed, and every counter is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (XOf (xin m)) (WOf (win m))) (G' := G' (XOf (xin m)) (WOf (win m)))
    (u₀ := (initOf (Pipeline.cells cfgs cellOf_inj) (Pipeline.launchToks cfgs cellOf_inj), initOf ringCells ringToks))
    (hu₀ := by
      iintro Hu
      ihave H := (ownU_pair _ _) $$ Hu
      icases H with ⟨HP, HX⟩
      imod (fund_ring (XOf (xin m)) (WOf (win m))) $$ HX with HG
      imodintro
      isplitl [HP] <;> iassumption)
    (hglob := glob (XOf (xin m)) (WOf (win m)))
    (hA := fun _ _ => rfl) (hpf := fun _ k => k.elim0)
    (X := start (xin m) (win m)) (Y := fun c => iprop(unscopedSems0 c ∗ resPts (XOf (xin m)) (WOf (win m)) c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ ResAt m c s)
    (hY := read_out m)
    (hQ := fun _ h hs => ⟨fun c => ⟨fun w => (h c).1 w, (h c).2.2.2⟩, sem_eq_zero hs fun c => (h c).2.2.1⟩)

/-- The first argument ends as it was. -/
theorem finalA_0 (c : Dev nD) : finalA m ρ c (0 : Fin 2) = m ((c : Thread nD τ).loc main_arg0) := (dats (F := F) m ρ 0 c).arrAt_in (0 : Fin 2) rfl _
/-- The second argument ends as it was. -/
theorem finalA_1 (c : Dev nD) : finalA m ρ c (1 : Fin 2) = m ((c : Thread nD τ).loc main_arg1) := (dats (F := F) m ρ 0 c).arrAt_in (1 : Fin 2) rfl _

/-- The same with the arguments' final contents named. -/
theorem run_all : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)) ∧ ResAt m c r.2)
      ∧ r.2.sem = fun _ => 0) :=
  (θ_run defs _ _).mono (fun _ h => ⟨fun c => ⟨⟨((h.1 c).1 (0 : Fin 2)).trans (finalA_0 m ρ c), ((h.1 c).1 (1 : Fin 2)).trans (finalA_1 m ρ c)⟩, (h.1 c).2⟩, h.2⟩) (run_main m ρ)

end Cert.RingProof

end
-- ==== Proof.Frames.lean ====
module

public import proofs.«01_k».proof.Proof.Launch
public import proofs.«01_k».proof.Defs
public import proofs.«01_k».proof.Proof.Gen.Kernel
public import proofs.«01_k».proof.Proof.Gen.KernelIdeal
public import proofs.«01_k».proof.Proof.Gen.ReferenceIdeal.Run
public import Idealize.ShloMosaic.Lib.Quiescent

@[expose] public section

set_option maxRecDepth 65536

noncomputable section

namespace Cert.RingProof

open Idealize.ShloMosaic Idealize.SL.Sem

/-- The idealized kernel runs, leaves its arguments as they were and every counter at zero. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩) (run_all (F := Ideal) m ρ)

/-- The two programs' texts are the same, -/
theorem defs_eq {F : FTy → Type} [FloatOps F] : Cert.Kernel.defs (F := F) = Cert.KernelIdeal.defs (F := F) := by chain_rfl
/-- The printed kernel and the idealized one have the same host program. -/
theorem main_eq {F : FTy → Type} [FloatOps F] : Cert.Kernel.main (F := F) = Cert.KernelIdeal.main (F := F) := rfl

/-- so the kernel as printed runs as the idealized one does. -/
theorem frame_kernel : Cert.quiescent_Kernel (hKernel := Cert.Kernel.Gen.facts) := fun m ρ _ => by
  rw [defs_eq, main_eq]
  exact (θ_run Cert.KernelIdeal.defs _ _).mono (fun _ h => ⟨fun c => (h.1 c).1, h.2⟩) (run_all (F := Bits) m ρ)

/-- The reference runs; it has no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩) (Cert.ReferenceIdeal.Value.run (F := Ideal) m ρ)

end Cert.RingProof

end
-- ==== Proof.Value.lean ====
module

public import proofs.«01_k».proof.Proof.Launch
public import proofs.«01_k».proof.Defs
public import proofs.«01_k».proof.Proof.Gen.ReferenceIdeal.Run
public import Idealize.ShloMosaic.Lib.MatmulPlain
public import Idealize.ShloMosaic.Lib.ValueIdx
public import Idealize.ShloMosaic.Lib.ValueLayout
public import Idealize.ShloMosaic.Lib.VecWindow
public import Idealize.ShloMosaic.Lib.Layout
public import Idealize.ShloMosaic.Lib.Pipeline.Value
public import Idealize.ShloMosaic.Lib.Pipeline.ValueKit.Acc
public import Idealize.ShloMosaic.Lib.Pointwise

@[expose] public section

noncomputable section

namespace Cert.RingProof

open Cert.KernelIdeal Cert.KernelIdeal.Gen

open Idealize.ShloMosaic hiding ix2 ix3 eq_ix2 constant_apply
open Idealize.ShloMosaic.ValueIdx
open Idealize.ShloMosaic.TcCoe
open Idealize.SL.Sem
open scoped BigOperators

/-!
# The value of the result

Read over the extended reals, where a conversion between formats keeps its operand: every block of the
result is the sum, over all devices in some order, of the products of the devices' slices, and that is the
reference's product of the whole arrays.
-/

/-! ## The pure steps, entry by entry -/

/-- A device's matrix product: entry by entry a sum of 128 products. -/
theorem mm_apply (x : Vec Ideal S64x128 .bf16) (w : Vec Ideal S128x8192 .bf16) (i : Fin 64) (j : Fin 8192) :
    k0_pay5 (F := Ideal) x w (ix2 i j) = ∑ k : Fin 128, (x (ix2 i k) : EReal) * (w (ix2 k j) : EReal) := by
  have h := Ideal.matmul_plain_apply (M := 64) (K := 128) (N := 8192) (φ₁ := .bf16) (φ₂ := .bf16) none x w
    (constant S64x8192 .f32 0x00000000#32) i j
  refine Eq.trans ?_ (h.trans ?_)
  · rfl
  · rw [constant_apply, Ideal.ofBits_zero_f32]; exact zero_add _

/-- The first block sent is that product. -/
theorem pay3_apply (x : Vec Ideal S64x128 .bf16) (w : Vec Ideal S128x8192 .bf16) (i : Fin 64) (j : Fin 8192) :
    k0_pay3 (F := Ideal) x w (ix3 0 i j) = k0_pay5 (F := Ideal) x w (ix2 i j) :=
  shapeCast_ab_1ab_apply (truncf (F := Ideal) .bf16 (k0_pay5 (F := Ideal) x w) bitsLt_bf16_f32) shapeCasts_S64x8192_S1x64x8192 0 i j

/-- The product added to what arrived. -/
theorem pay144_apply (p : FVec Ideal S64x8192 .f32) (v : Vec Ideal S1x64x8192 .bf16) (i : Fin 64) (j : Fin 8192) :
    (k0_pay144 (F := Ideal) p v (ix2 i j) : EReal) = (v (ix3 0 i j) : EReal) + (p (ix2 i j) : EReal) :=
  congrArg (fun z : EReal => z + (p (ix2 i j) : EReal)) (shapeCast_1ab_ab_apply v shapeCasts_S1x64x8192_S64x8192 i j)

/-- A sum made ready to be sent. -/
theorem pay147_apply (p : FVec Ideal S64x8192 .f32) (i : Fin 64) (j : Fin 8192) :
    k0_pay147 (F := Ideal) p (ix3 0 i j) = p (ix2 i j) :=
  shapeCast_ab_1ab_apply (truncf (F := Ideal) .bf16 p bitsLt_bf16_f32) shapeCasts_S64x8192_S1x64x8192 0 i j

/-- A sum made ready to be written to the result. -/
theorem pay149_apply (p : FVec Ideal S64x8192 .f32) (i : Fin 64) (j : Fin 8192) :
    k0_pay149 (F := Ideal) p (ix3 0 i j) = p (ix2 i j) :=
  shapeCast_ab_1ab_apply p shapeCasts_S64x8192_S1x64x8192 0 i j

/-- A received block made ready to be written to the result. -/
theorem pay254_apply (v : Vec Ideal S1x64x8192 .bf16) (i : Fin 64) (j : Fin 8192) :
    k0_pay254 (F := Ideal) v (ix3 0 i j) = v (ix3 0 i j) :=
  (shapeCast_ab_1ab_apply (extf (F := Ideal) .f32 (shapeCast S64x8192 v shapeCasts_S1x64x8192_S64x8192) bitsLt_bf16_f32)
    shapeCasts_S64x8192_S1x64x8192 0 i j).trans (shapeCast_1ab_ab_apply v shapeCasts_S1x64x8192_S64x8192 i j)

/-- A slot's block laid flat. -/
theorem flat_apply {α : Type} (v : S1x64x8192.Idx → α) (i : Fin 64) (j : Fin 8192) : flat v (ix2 i j) = v (ix3 0 i j) :=
  shapeCast_1ab_ab_apply v shapeCasts_S1x64x8192_S64x8192 i j

/-- The copies of the arguments the kernel makes are the arguments. -/
theorem pay1_eq (x : Vec Ideal S4096x128 .bf16) : k0_pay1 (F := Ideal) x = x :=
  (shapeCast_self _ _).trans (shapeCast_self _ _)
/-- The copy of `w` is `w`. -/
theorem pay2_eq (w : Vec Ideal S128x8192 .bf16) : k0_pay2 (F := Ideal) w = w :=
  (shapeCast_self _ _).trans (shapeCast_self _ _)

/-! ## The product a device adds -/

/-- Row `n` of the arrays. -/
def row (n : ℕ) : Fin 4096 := ⟨n % 4096, Nat.mod_lt _ (by decide)⟩

variable (x : (c : Dev nD) → Vec Ideal S4096x128 .bf16) (w : (c : Dev nD) → Vec Ideal S128x8192 .bf16)

/-- Entry `(n, j)` of device `c`'s product of its columns of `x` and its rows of `w`. -/
def prodAt (c : Dev nD) (n : ℕ) (j : Fin 8192) : EReal :=
  ∑ k : Fin 128, (x c (ix2 (row n) k) : EReal) * (w c (ix2 k j) : EReal)

/-- 64 rows of a device's columns of `x`, entry by entry. -/
theorem xrows_apply (c : Dev nD) (off : Fin 2 → ℕ) (h : ∀ a, off a + S64x128.size a ≤ S4096x128.size a) (h1 : off 1 = 0)
    (i : Fin 64) (k : Fin 128) :
    xrows (XOf x) c off h (ix2 i k) = x c (ix2 (row (off 0 + i.val)) k) := by
  refine (congrFun (pay1_eq (x c)) _).trans (congrArg (x c) ?_)
  funext a
  apply Fin.ext
  match a with
  | ⟨0, _⟩ =>
    have h0 : off 0 + 64 ≤ 4096 := h 0
    have hi := i.isLt
    show off 0 + 1 * i.val = (off 0 + i.val) % 4096
    omega
  | ⟨1, _⟩ =>
    show off 1 + 1 * k.val = k.val
    omega

/-- All of a device's rows of `w`. -/
theorem wrows_apply (c : Dev nD) (k : Fin 128) (j : Fin 8192) : wrows (WOf w) c (ix2 k j) = w c (ix2 k j) := by
  refine (congrFun (pay2_eq (w c)) _).trans (congrArg (w c) ?_)
  funext a
  apply Fin.ext
  match a with
  | ⟨0, _⟩ =>
    show 0 + 1 * k.val = k.val
    omega
  | ⟨1, _⟩ =>
    show 0 + 1 * j.val = j.val
    omega

/-- The product of a 64-row block with a device's rows of `w`. -/
theorem mm_rows (c : Dev nD) (off : Fin 2 → ℕ) (h : ∀ a, off a + S64x128.size a ≤ S4096x128.size a) (b : ℕ) (h0 : off 0 = 64 * b)
    (h1 : off 1 = 0) (i : Fin 64) (j : Fin 8192) :
    k0_pay5 (F := Ideal) (xrows (XOf x) c off h) (wrows (WOf w) c) (ix2 i j) = prodAt x w c (64 * b + i.val) j := by
  rw [mm_apply]
  refine Finset.sum_congr rfl fun k _ => ?_
  rw [xrows_apply x c off h h1 i k, wrows_apply w c k j, h0]

/-! ## What is sent at each step -/

/-- The device `n` steps upstream. -/
theorem src_iter_val (d : Bool) (n : ℕ) (c : Dev nD) :
    ((srcOf d)^[n] c).val = (c.val + (if d then 31 else 1) * n) % 32 := by
  induction n generalizing c with
  | zero => have := c.isLt; simp only [Function.iterate_zero, id_eq, Nat.mul_zero, Nat.add_zero]; exact (Nat.mod_eq_of_lt this).symm
  | succ n ih =>
    rw [Function.iterate_succ_apply, ih]
    cases d
    · have := srcL_val c; simp only [Bool.false_eq_true, if_false]; omega
    · have := srcR_val c; simp only [if_true]; omega

/-- The block added at step `t` is the own block of the device `t + 1` steps upstream. -/
theorem accBlk_eq (c : Dev nD) (d : Bool) (t : ℕ) (h : t ≤ 30) : accBlk c d t = ownBlk ((srcOf d)^[t + 1] c) d := by
  have e := src_iter_val d (t + 1) c
  have hc := c.isLt
  cases d
  · simp only [Bool.false_eq_true, if_false] at e
    simp only [accBlk, ownBlk]; omega
  · simp only [if_true] at e
    simp only [accBlk, ownBlk]; omega

/-- The `k`-th result block is the own block of the device `31 + k` steps upstream. -/
theorem outBlk_eq (c : Dev nD) (d : Bool) (k : Fin 32) : outBlk c d k = ownBlk ((srcOf d)^[31] ((srcOf d)^[k.val] c)) d := by
  rw [← Function.iterate_add_apply]
  have e := src_iter_val d (31 + k.val) c
  have hc := c.isLt
  have hk := k.isLt
  cases d
  · simp only [Bool.false_eq_true, if_false] at e
    simp only [outBlk, ownBlk]; omega
  · simp only [if_true] at e
    simp only [outBlk, ownBlk]; omega

/-- What device `c` sums at step `t`: what arrived and its own product. -/
theorem accS_apply (d : Bool) (c : Dev nD) (t : ℕ) (h : t ≤ 30) (v : Vec Ideal S1x64x8192 .bf16) (i : Fin 64) (j : Fin 8192) :
    (accS (XOf x) (WOf w) d c t v (ix2 i j) : EReal)
      = (v (ix3 0 i j) : EReal) + prodAt x w c (64 * ownBlk ((srcOf d)^[t + 1] c) d + i.val) j := by
  have hh : (h31 t).val = t := Nat.mod_eq_of_lt (by omega)
  have hm := mm_rows x w c (accOff d c (h31 t)) (accOff_inb d c (h31 t)) (accBlk c d (h31 t).val) (accOff_zero c d (h31 t))
    (accOff_one c d (h31 t)) i j
  rw [hh, accBlk_eq c d t h] at hm
  exact (pay144_apply _ v i j).trans (congrArg (fun z : EReal => (v (ix3 0 i j) : EReal) + z) hm)

/-- What device `c` sends at step `t` of the first phase: the sum, over the devices from itself to the one `t`
steps upstream, of their products. -/
theorem xval_apply (d : Bool) (t : ℕ) (h : t ≤ 31) (c : Dev nD) (i : Fin 64) (j : Fin 8192) :
    (xval (XOf x) (WOf w) d t c (ix3 0 i j) : EReal)
      = ∑ s ∈ Finset.range (t + 1), prodAt x w ((srcOf d)^[s] c) (64 * ownBlk ((srcOf d)^[t] c) d + i.val) j := by
  induction t generalizing c with
  | zero =>
    rw [Finset.sum_range_one]
    exact (pay3_apply _ _ i j).trans (mm_rows x w c (ownOff d c) (ownOff_inb d c) (ownBlk c d) (ownOff_zero c d) (ownOff_one c d) i j)
  | succ t ih =>
    rw [xval_rs (XOf x) (WOf w) d t c (by omega), Finset.sum_range_succ']
    refine (pay147_apply _ i j).trans ((accS_apply x w d c t (by omega) _ i j).trans ?_)
    rw [ih (by omega) (srcOf d c)]
    rfl

/-- Once around the ring every device has been met once. -/
theorem sum_ring (d : Bool) (c : Dev nD) (f : Dev nD → EReal) : ∑ s ∈ Finset.range 32, f ((srcOf d)^[s] c) = ∑ c', f c' := by
  rw [Finset.sum_range]
  have hi : Function.Injective fun s : Fin 32 => (srcOf d)^[s.val] c := by
    intro a b h
    have h' := congrArg Fin.val h
    simp only [src_iter_val] at h'
    have ha := a.isLt
    have hb := b.isLt
    apply Fin.ext
    cases d
    · simp only [Bool.false_eq_true, if_false] at h'; omega
    · simp only [if_true] at h'; omega
  exact Function.Bijective.sum_comp (Finite.injective_iff_bijective.mp hi) f

/-- In the second phase a device sends on what its upstream neighbour sent. -/
theorem xval_late (d : Bool) (k : ℕ) (c : Dev nD) : xval (XOf x) (WOf w) d (31 + k) c = xval (XOf x) (WOf w) d 31 ((srcOf d)^[k] c) := by
  induction k generalizing c with
  | zero => rfl
  | succ k ih =>
    have e := xval_ag (XOf x) (WOf w) d (31 + k) c (by omega)
    exact e.trans (ih (srcOf d c))

/-- What is written as the `k`-th result block is what was sent one round earlier. -/
theorem oval3_apply (d : Bool) (c : Dev nD) (k : ℕ) (i : Fin 64) (j : Fin 8192) :
    (oval3 (XOf x) (WOf w) d c k (ix3 0 i j) : EReal) = (xval (XOf x) (WOf w) d (31 + k) c (ix3 0 i j) : EReal) := by
  cases k with
  | zero =>
    rw [show (31 + 0 : ℕ) = 30 + 1 from rfl, xval_rs (XOf x) (WOf w) d 30 c (by omega)]
    exact (pay149_apply (accS (XOf x) (WOf w) d c 30 (xval (XOf x) (WOf w) d 30 (srcOf d c))) i j).trans
      (pay147_apply (accS (XOf x) (WOf w) d c 30 (xval (XOf x) (WOf w) d 30 (srcOf d c))) i j).symm
  | succ g =>
    rw [show (31 + (g + 1) : ℕ) = (31 + g) + 1 from rfl, xval_ag (XOf x) (WOf w) d (31 + g) c (by omega)]
    exact pay254_apply _ i j

/-- A result block: the sum of all devices' products. -/
theorem oval3_total (d : Bool) (c : Dev nD) (k : Fin 32) (i : Fin 64) (j : Fin 8192) :
    (oval3 (XOf x) (WOf w) d c k.val (ix3 0 i j) : EReal) = ∑ c', prodAt x w c' (64 * outBlk c d k + i.val) j := by
  rw [oval3_apply, xval_late, xval_apply x w d 31 le_rfl, outBlk_eq]
  exact sum_ring d ((srcOf d)^[k.val] c)
    fun c' => prodAt x w c' (64 * ownBlk ((srcOf d)^[31] ((srcOf d)^[k.val] c)) d + i.val) j

/-! ## The whole result -/

variable (m : (ℓ : Loc nD τ sig) → Buf (Elt Ideal) ℓ)

/-- The one window of an argument is the whole argument. -/
theorem xin_eq (c : Dev nD) : xin m c = m ((c : Thread nD τ).loc main_arg0) := by
  funext i
  refine congrArg (m ((c : Thread nD τ).loc main_arg0)) ?_
  funext a
  apply Fin.ext
  match a with
  | ⟨0, _⟩ => show 0 * 4096 + 1 * (i 0).val = (i 0).val; omega
  | ⟨1, _⟩ => show 0 * 128 + 1 * (i 1).val = (i 1).val; omega
/-- The window of the second argument is the whole argument. -/
theorem win_eq (c : Dev nD) : win m c = m ((c : Thread nD τ).loc main_arg1) := by
  funext i
  refine congrArg (m ((c : Thread nD τ).loc main_arg1)) ?_
  funext a
  apply Fin.ext
  match a with
  | ⟨0, _⟩ => show 0 * 128 + 1 * (i 0).val = (i 0).val; omega
  | ⟨1, _⟩ => show 0 * 8192 + 1 * (i 1).val = (i 1).val; omega

/-- Every entry of the result a device ends with is the sum of all devices' products. -/
theorem res_apply (c : Dev nD) (s : MemSt nD τ sig (Elt Ideal)) (h : ResAt m c s) (n : Fin 4096) (j : Fin 8192) :
    (s.mem (oLoc c) (ix2 n j) : EReal) = ∑ c', prodAt (xin m) (win m) c' n.val j := by
  have hn := n.isLt
  obtain ⟨⟨d, k⟩, hp⟩ := outBlk_surj c (n.val / 64) (by omega)
  have hb : outBlk c d k = n.val / 64 := hp
  have e := (congrFun (h d k) (ix2 (⟨n.val % 64, Nat.mod_lt _ (by decide)⟩ : Fin 64) j)).trans
    ((flat_apply _ _ j).trans (oval3_total (xin m) (win m) d c k _ j))
  rw [hb, show 64 * (n.val / 64) + n.val % 64 = n.val by omega] at e
  refine Eq.trans ?_ e
  refine congrArg (s.mem (oLoc c)) ?_
  funext a
  apply Fin.ext
  match a with
  | ⟨0, _⟩ =>
    have h0 := outOff_zero c d k
    show n.val = outOff d c k 0 + 1 * (n.val % 64)
    omega
  | ⟨1, _⟩ =>
    have h1 := outOff_one c d k
    show j.val = outOff d c k 1 + 1 * j.val
    omega

/-! ## Against the reference -/

/-- The slices' products sum to the product of the whole arrays, entry by entry. -/
theorem total_eq (A : FVec Ideal ⟨2, ![4096, 4096]⟩ .bf16) (B : FVec Ideal ⟨2, ![4096, 8192]⟩ .bf16)
    (hx : ∀ c : Dev nD, x c = Layout.block ⟨2, ![4096, 128]⟩ ⟨2, ![4096, 4096]⟩ 1 32 c A)
    (hw : ∀ c : Dev nD, w c = Layout.block ⟨2, ![128, 8192]⟩ ⟨2, ![4096, 8192]⟩ 0 32 c B) (n : Fin 4096) (j : Fin 8192) :
    ∑ c', prodAt x w c' n.val j = ∑ l : Fin 4096, (A (ix2 n l) : EReal) * (B (ix2 l j) : EReal) := by
  have hr : row n.val = n := Fin.ext (Nat.mod_eq_of_lt n.isLt)
  have e := Fin.sum_univ_univ_mul_add (M := EReal) 32 128 fun l => (A (ix2 n (row l)) : EReal) * (B (ix2 (row l) j) : EReal)
  refine Eq.trans ?_ (e.trans ?_)
  · refine Finset.sum_congr rfl fun c _ => Finset.sum_congr rfl fun k _ => ?_
    have hc := c.isLt
    have hk := k.isLt
    have hcm : c.val * 128 + k.val < 4096 := by
      have : c.val < 32 := hc
      omega
    have hv : (row (c.val * 128 + k.val)).val = c.val * 128 + k.val := Nat.mod_eq_of_lt hcm
    rw [hr, hx c, hw c]
    refine congrArg₂ (fun a b : EReal => a * b) (congrArg A ?_) (congrArg B ?_)
    · funext a
      apply Fin.ext
      match a with
      | ⟨0, _⟩ => rfl
      | ⟨1, _⟩ => exact hv.symm
    · funext a
      apply Fin.ext
      match a with
      | ⟨0, _⟩ => exact hv.symm
      | ⟨1, _⟩ => rfl
  · refine Finset.sum_congr rfl fun l _ => ?_
    have hl : row l.val = l := Fin.ext (Nat.mod_eq_of_lt l.isLt)
    rw [hl]

/-- The reference's product, entry by entry. -/
theorem reference_apply (A : FVec Ideal ⟨2, ![4096, 4096]⟩ .bf16) (B : FVec Ideal ⟨2, ![4096, 8192]⟩ .bf16) (n : Fin 4096) (j : Fin 8192) :
    (Host.dotGeneral (F := Ideal) Cert.ReferenceIdeal.dot_S4096x4096_S4096x8192_S4096x8192_1_0_0_1_n_n none A B (ix2 n j) : EReal)
      = ∑ l : Fin 4096, (A (ix2 n l) : EReal) * (B (ix2 l j) : EReal) := by
  have h := Ideal.matmul_plain_apply (M := 4096) (K := 4096) (N := 8192) (φ₁ := .bf16) (φ₂ := .bf16) none A B (fun _ => (0 : EReal)) n j
  refine Eq.trans ?_ (h.trans (zero_add _))
  rfl

/-- **The kernel computes the reference**, over the extended reals: with the arguments cut among the devices,
every device ends with the reference's whole result. -/
theorem algebraic : Cert.algebraic_KernelIdeal_ReferenceIdeal (hKernelIdeal := Cert.KernelIdeal.Gen.facts)
    (hReferenceIdeal := Cert.ReferenceIdeal.Gen.facts) := by
  intro m g m' g' _ hin
  refine ⟨_, (θ_run defs _ _).mono (fun r h c => ⟨?_, (h.1 c).1⟩) (run_all m g),
    (θ_run Cert.ReferenceIdeal.defs _ _).mono (fun r h => h 0) (Cert.ReferenceIdeal.Value.run m' g')⟩
  funext i
  have e := res_apply m c r.2 (h.1 c).2 (i 0) (i 1)
  have e2 := total_eq (xin m) (win m) _ _ (fun c => (xin_eq m c).trans (hin c).1) (fun c => (win_eq m c).trans (hin c).2) (i 0) (i 1)
  have e3 := reference_apply (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)) (i 0) (i 1)
  have ei : i = ix2 (n0 := 4096) (n1 := 8192) (i 0) (i 1) := eq_ix2 (n0 := 4096) (n1 := 8192) i
  exact (congrArg (r.2.mem ((c.tc : Thread nD τ).loc main_v1)) ei).trans ((e.trans (e2.trans e3.symm)).trans
    (congrArg (Host.dotGeneral (F := Ideal) Cert.ReferenceIdeal.dot_S4096x4096_S4096x8192_S4096x8192_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))) ei.symm))

end Cert.RingProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem

/-- Everything claimed: the three programs run to the end without a fault, the idealized kernel is the printed one, and
over the extended reals the kernel ends with the reference's result on every device. -/
theorem claim : Cert.Claim := ⟨Cert.Kernel.Gen.facts, Cert.KernelIdeal.Gen.facts, Cert.ReferenceIdeal.Gen.facts,
  Cert.RingProof.frame_kernel, Cert.RingProof.frame_ideal, Cert.RingProof.frame_reference, trivial, Cert.RingProof.algebraic⟩

end Cert.Proof

end
